-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_above [hPre_decay_above : Cert.Pre_decay_above.Facts] (m : (ℓ : Loc Cert.KernelIdeal.nD Cert.KernelIdeal.τ Cert.KernelIdeal.sig) → Buf (Elt Ideal) ℓ) : Prop :=
  ∀ c : Dev Cert.KernelIdeal.nD,
    (Cert.Pre_decay_above.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_above [hPre_decay_above : Cert.Pre_decay_above.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_above.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_decay_above [hKernelIdeal : Cert.KernelIdeal.Facts] [hPre_decay_above : Cert.Pre_decay_above.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_above m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_decay_above [hReferenceIdeal : Cert.ReferenceIdeal.Facts] [hPre_decay_above : Cert.Pre_decay_above.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_above m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "rate" .f32 0xC0B8AA3B#32 (((-4) * (Real.log 2)⁻¹ : ℝ) : EReal)

def algebraic_KernelIdeal_ReferenceIdeal_pre_decay_above [hKernelIdeal : Cert.KernelIdeal.Facts] [hReferenceIdeal : Cert.ReferenceIdeal.Facts] [hPre_decay_above : Cert.Pre_decay_above.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_above m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v101_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_decay_above : Cert.Pre_decay_above.Facts),
    quiescent_Kernel (hKernel := hKernel)
    ∧ quiescent_KernelIdeal (hKernelIdeal := hKernelIdeal)
    ∧ quiescent_KernelIdeal_pre_decay_above (hKernelIdeal := hKernelIdeal) (hPre_decay_above := hPre_decay_above)
    ∧ quiescent_ReferenceIdeal (hReferenceIdeal := hReferenceIdeal)
    ∧ quiescent_ReferenceIdeal_pre_decay_above (hReferenceIdeal := hReferenceIdeal) (hPre_decay_above := hPre_decay_above)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_decay_above (hKernelIdeal := hKernelIdeal) (hReferenceIdeal := hReferenceIdeal) (hPre_decay_above := hPre_decay_above)
    ∧ preserves_Kernel2_Kernel2Ideal
    ∧ algebraic_Kernel2Ideal_Reference2Ideal (hKernel2Ideal := hKernel2Ideal) (hReference2Ideal := hReference2Ideal)
-- ==== Pre_decay_above.lean ====
abbrev S28x4096x128 : Shape := ⟨3, ![28, 4096, 128]⟩
abbrev S1x4x1536 : Shape := ⟨3, ![1, 4, 1536]⟩
abbrev S1x1536 : Shape := ⟨2, ![1, 1536]⟩
abbrev S1x2x24x64x64 : Shape := ⟨5, ![1, 2, 24, 64, 64]⟩
abbrev S1x2x1536 : Shape := ⟨3, ![1, 2, 1536]⟩
abbrev S2x16x1536 : Shape := ⟨3, ![2, 16, 1536]⟩
abbrev S_ : Shape := ⟨0, ![]⟩

class Facts : Prop where
  bcast_S_S1x2x1536 : S_.BroadcastsInDim S1x2x1536 (![] : Fin 0 → Fin S1x2x1536.rank)

variable [Facts]

def fn {F : FTy → Type} [FloatOps F] (main_arg0 : FVec F S28x4096x128 .f32) (main_arg1 : FVec F S1x4x1536 .f32) (main_arg2 : FVec F S1x1536 .f32) (main_arg3 : FVec F S1x2x24x64x64 .f32) (main_arg4 : FVec F S1x2x1536 .f32) (main_arg5 : FVec F S1x2x24x64x64 .f32) (main_arg6 : FVec F S1x2x1536 .f32) (main_arg7 : FVec F S1x2x1536 .f32) (main_arg8 : FVec F S2x16x1536 .f32) : IVec S1x2x1536 1 :=
  let main_cst : FVec F S_ .f32 := constant S_ .f32 0xFF800000#32
  let main_v0 : FVec F S1x2x1536 .f32 := broadcastInDim S1x2x1536 ![] bcast_S_S1x2x1536 main_cst
  let main_v1 : IVec S1x2x1536 1 := cmpf .ogt main_arg7 main_v0
  main_v1
-- ==== Kernel.lean ====
abbrev S28x4096x128 : Shape := ⟨3, ![28, 4096, 128]⟩
abbrev S1x4x1536 : Shape := ⟨3, ![1, 4, 1536]⟩
abbrev S1x1536 : Shape := ⟨2, ![1, 1536]⟩
abbrev S1x2x24x64x64 : Shape := ⟨5, ![1, 2, 24, 64, 64]⟩
abbrev S1x2x1536 : Shape := ⟨3, ![1, 2, 1536]⟩
abbrev S2x16x1536 : Shape := ⟨3, ![2, 16, 1536]⟩
abbrev S2x24x64x64 : Shape := ⟨4, ![2, 24, 64, 64]⟩
abbrev S2x12x2x64x64 : Shape := ⟨5, ![2, 12, 2, 64, 64]⟩
abbrev S2x12x2x64x1x64 : Shape := ⟨6, ![2, 12, 2, 64, 1, 64]⟩
abbrev S2x2 : Shape := ⟨2, ![2, 2]⟩
abbrev S_ : Shape := ⟨0, ![]⟩
abbrev S1x1x2x1x2x1 : Shape := ⟨6, ![1, 1, 2, 1, 2, 1]⟩
abbrev S2x12x2x64x2x64 : Shape := ⟨6, ![2, 12, 2, 64, 2, 64]⟩
abbrev S2x12x128x128 : Shape := ⟨4, ![2, 12, 128, 128]⟩
abbrev S12x2x128x128 : Shape := ⟨4, ![12, 2, 128, 128]⟩
abbrev S12x2x128x256 : Shape := ⟨4, ![12, 2, 128, 256]⟩
abbrev S2x1536 : Shape := ⟨2, ![2, 1536]⟩
abbrev S2x12x128 : Shape := ⟨3, ![2, 12, 128]⟩
abbrev S2x12x256 : Shape := ⟨3, ![2, 12, 256]⟩
abbrev S12x2x256 : Shape := ⟨3, ![12, 2, 256]⟩
abbrev S12x2x1x256 : Shape := ⟨4, ![12, 2, 1, 256]⟩
abbrev S4x1536 : Shape := ⟨2, ![4, 1536]⟩
abbrev S1536 : Shape := ⟨1, ![1536]⟩
abbrev S12x4096x128 : Shape := ⟨3, ![12, 4096, 128]⟩
abbrev S1x4096x128 : Shape := ⟨3, ![1, 4096, 128]⟩
abbrev S4x128 : Shape := ⟨2, ![4, 128]⟩
abbrev S1x128 : Shape := ⟨2, ![1, 128]⟩
abbrev S1x2x128x256 : Shape := ⟨4, ![1, 2, 128, 256]⟩
abbrev S1x2x1x256 : Shape := ⟨4, ![1, 2, 1, 256]⟩
abbrev S2x128 : Shape := ⟨2, ![2, 128]⟩
abbrev S2x16x128 : Shape := ⟨3, ![2, 16, 128]⟩
abbrev S1x16x128 : Shape := ⟨3, ![1, 16, 128]⟩
abbrev S16x128 : Shape := ⟨2, ![16, 128]⟩
abbrev S1x512x128 : Shape := ⟨3, ![1, 512, 128]⟩
abbrev S512x128 : Shape := ⟨2, ![512, 128]⟩
abbrev S1x32x128 : Shape := ⟨3, ![1, 32, 128]⟩
abbrev S32x128 : Shape := ⟨2, ![32, 128]⟩
abbrev S560x128 : Shape := ⟨2, ![560, 128]⟩
abbrev S1x1x128x256 : Shape := ⟨4, ![1, 1, 128, 256]⟩
abbrev S128x256 : Shape := ⟨2, ![128, 256]⟩
abbrev S512x256 : Shape := ⟨2, ![512, 256]⟩
abbrev S1x1x1x256 : Shape := ⟨4, ![1, 1, 1, 256]⟩
abbrev S1x256 : Shape := ⟨2, ![1, 256]⟩

abbrev nBuf : Space → Nat
  | .hbm => 62
  | .vmem => 20
  | .smem => 0
  | _ => 0

abbrev bufTy : (tb : Table) → Fin (tcTables nBuf tb) → BufTy
  | .hbm, ⟨0, _⟩ => ⟨S28x4096x128, .f32⟩
  | .hbm, ⟨1, _⟩ => ⟨S1x4x1536, .f32⟩
  | .hbm, ⟨2, _⟩ => ⟨S1x1536, .f32⟩
  | .hbm, ⟨3, _⟩ => ⟨S1x2x24x64x64, .f32⟩
  | .hbm, ⟨4, _⟩ => ⟨S1x2x1536, .f32⟩
  | .hbm, ⟨5, _⟩ => ⟨S1x2x24x64x64, .f32⟩
  | .hbm, ⟨6, _⟩ => ⟨S1x2x1536, .f32⟩
  | .hbm, ⟨7, _⟩ => ⟨S1x2x1536, .f32⟩
  | .hbm, ⟨8, _⟩ => ⟨S2x16x1536, .f32⟩
  | .hbm, ⟨9, _⟩ => ⟨S2x24x64x64, .f32⟩
  | .hbm, ⟨10, _⟩ => ⟨S2x12x2x64x64, .f32⟩
  | .hbm, ⟨11, _⟩ => ⟨S2x12x2x64x1x64, .f32⟩
  | .hbm, ⟨12, _⟩ => ⟨S2x2, .i32⟩
  | .hbm, ⟨13, _⟩ => ⟨S2x2, .i32⟩
  | .hbm, ⟨14, _⟩ => ⟨S_, .i32⟩
  | .hbm, ⟨15, _⟩ => ⟨S2x2, .i32⟩
  | .hbm, ⟨16, _⟩ => ⟨S2x2, .i32⟩
  | .hbm, ⟨17, _⟩ => ⟨S2x2, .i1⟩
  | .hbm, ⟨18, _⟩ => ⟨S2x2, .f32⟩
  | .hbm, ⟨19, _⟩ => ⟨S1x1x2x1x2x1, .f32⟩
  | .hbm, ⟨20, _⟩ => ⟨S2x12x2x64x2x64, .f32⟩
  | .hbm, ⟨21, _⟩ => ⟨S2x12x2x64x2x64, .f32⟩
  | .hbm, ⟨22, _⟩ => ⟨S2x12x2x64x2x64, .f32⟩
  | .hbm, ⟨23, _⟩ => ⟨S2x12x128x128, .f32⟩
  | .hbm, ⟨24, _⟩ => ⟨S12x2x128x128, .f32⟩
  | .hbm, ⟨25, _⟩ => ⟨S2x24x64x64, .f32⟩
  | .hbm, ⟨26, _⟩ => ⟨S2x12x2x64x64, .f32⟩
  | .hbm, ⟨27, _⟩ => ⟨S2x12x2x64x1x64, .f32⟩
  | .hbm, ⟨28, _⟩ => ⟨S2x2, .i32⟩
  | .hbm, ⟨29, _⟩ => ⟨S2x2, .i32⟩
  | .hbm, ⟨30, _⟩ => ⟨S_, .i32⟩
  | .hbm, ⟨31, _⟩ => ⟨S2x2, .i32⟩
  | .hbm, ⟨32, _⟩ => ⟨S2x2, .i32⟩
  | .hbm, ⟨33, _⟩ => ⟨S2x2, .i1⟩
  | .hbm, ⟨34, _⟩ => ⟨S2x2, .f32⟩
  | .hbm, ⟨35, _⟩ => ⟨S1x1x2x1x2x1, .f32⟩
  | .hbm, ⟨36, _⟩ => ⟨S2x12x2x64x2x64, .f32⟩
  | .hbm, ⟨37, _⟩ => ⟨S2x12x2x64x2x64, .f32⟩
  | .hbm, ⟨38, _⟩ => ⟨S2x12x2x64x2x64, .f32⟩
  | .hbm, ⟨39, _⟩ => ⟨S2x12x128x128, .f32⟩
  | .hbm, ⟨40, _⟩ => ⟨S12x2x128x128, .f32⟩
  | .hbm, ⟨41, _⟩ => ⟨S12x2x128x256, .f32⟩
  | .hbm, ⟨42, _⟩ => ⟨S_, .f32⟩
  | .hbm, ⟨43, _⟩ => ⟨S12x2x128x256, .f32⟩
  | .hbm, ⟨44, _⟩ => ⟨S12x2x128x256, .f32⟩
  | .hbm, ⟨45, _⟩ => ⟨S12x2x128x256, .bf16⟩
  | .hbm, ⟨46, _⟩ => ⟨S2x1536, .f32⟩
  | .hbm, ⟨47, _⟩ => ⟨S2x12x128, .f32⟩
  | .hbm, ⟨48, _⟩ => ⟨S2x1536, .f32⟩
  | .hbm, ⟨49, _⟩ => ⟨S2x12x128, .f32⟩
  | .hbm, ⟨50, _⟩ => ⟨S2x12x256, .f32⟩
  | .hbm, ⟨51, _⟩ => ⟨S12x2x256, .f32⟩
  | .hbm, ⟨52, _⟩ => ⟨S12x2x1x256, .f32⟩
  | .hbm, ⟨53, _⟩ => ⟨S_, .f32⟩
  | .hbm, ⟨54, _⟩ => ⟨S12x2x1x256, .f32⟩
  | .hbm, ⟨55, _⟩ => ⟨S12x2x1x256, .f32⟩
  | .hbm, ⟨56, _⟩ => ⟨S4x1536, .f32⟩
  | .hbm, ⟨57, _⟩ => ⟨S1536, .f32⟩
  | .hbm, ⟨58, _⟩ => ⟨S1x1536, .f32⟩
  | .hbm, ⟨59, _⟩ => ⟨S2x1536, .f32⟩
  | .hbm, ⟨60, _⟩ => ⟨S12x4096x128, .f32⟩
  | .hbm, ⟨61, _⟩ => ⟨S2x16x1536, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x2x128x256, .bf16⟩
  | .local _ .vmem, ⟨9, _⟩ => ⟨S1x2x128x256, .bf16⟩
  | .local _ .vmem, ⟨10, _⟩ => ⟨S1x2x1x256, .f32⟩
  | .local _ .vmem, ⟨11, _⟩ => ⟨S1x2x1x256, .f32⟩
  | .local _ .vmem, ⟨12, _⟩ => ⟨S2x128, .f32⟩
  | .local _ .vmem, ⟨13, _⟩ => ⟨S2x128, .f32⟩
  | .local _ .vmem, ⟨14, _⟩ => ⟨S2x16x128, .f32⟩
  | .local _ .vmem, ⟨15, _⟩ => ⟨S2x16x128, .f32⟩
  | .local _ .vmem, ⟨16, _⟩ => ⟨S1x4096x128, .f32⟩
  | .local _ .vmem, ⟨17, _⟩ => ⟨S1x4096x128, .f32⟩
  | .local _ .vmem, ⟨18, _⟩ => ⟨S2x16x128, .f32⟩
  | .local _ .vmem, ⟨19, _⟩ => ⟨S2x16x128, .f32⟩
  | _, _ => ⟨S28x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_1 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47_0 : Ref sig .tc := ⟨.hbm, 60, rfl⟩
abbrev main_v47_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c4_i32 : BitVec 32 := 4#32
  let v54 : BitVec 32 := Scalar.addi c0_i32 c4_i32
  let c1_i32 : BitVec 32 := 1#32
  ⟨c0_i32, v54, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v64 : BitVec 32 := Scalar.muli arg11 c32_i32
  let c16_i32 : BitVec 32 := 16#32
  let v65 : BitVec 32 := Scalar.muli v64 c16_i32
  v65
def k0_off1 (k0_t1 : Fin k0_t1_loop.trips) : Fin 3 → Nat :=
  let c0_34 : Index := 0#32
  let c0_i32 : BitVec 32 := 0#32
  let c1_i32 : BitVec 32 := 1#32
  let arg11 : BitVec 32 := Scf.iv c0_i32 c1_i32 k0_t1
  let c32_i32 : BitVec 32 := 32#32
  let v64 : BitVec 32 := Scalar.muli arg11 c32_i32
  let c16_i32 : BitVec 32 := 16#32
  let v65 : BitVec 32 := Scalar.muli v64 c16_i32
  let v66 : BitVec 32 := v65
  let v67 : Index := Scalar.indexCast v66
  let c0_35 : Index := 0#32
  ![0, v67.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v64 : BitVec 32 := Scalar.muli arg11 c32_i32
  let c1_i32_36 : BitVec 32 := 1#32
  let v70 : BitVec 32 := Scalar.subi v64 c1_i32_36
  let c0_i32_37 : BitVec 32 := 0#32
  let v71 : BitVec 32 := Scalar.maxsi v70 c0_i32_37
  let c16_i32_38 : BitVec 32 := 16#32
  let v72 : BitVec 32 := Scalar.muli v71 c16_i32_38
  v72
def k0_off2 (k0_t1 : Fin k0_t1_loop.trips) : Fin 3 → Nat :=
  let c0_39 : Index := 0#32
  let c0_i32 : BitVec 32 := 0#32
  let c1_i32 : BitVec 32 := 1#32
  let arg11 : BitVec 32 := Scf.iv c0_i32 c1_i32 k0_t1
  let c32_i32 : BitVec 32 := 32#32
  let v64 : BitVec 32 := Scalar.muli arg11 c32_i32
  let c1_i32_36 : BitVec 32 := 1#32
  let v70 : BitVec 32 := Scalar.subi v64 c1_i32_36
  let c0_i32_37 : BitVec 32 := 0#32
  let v71 : BitVec 32 := Scalar.maxsi v70 c0_i32_37
  let c16_i32_38 : BitVec 32 := 16#32
  let v72 : BitVec 32 := Scalar.muli v71 c16_i32_38
  let v73 : BitVec 32 := v72
  let v74 : Index := Scalar.indexCast v73
  let c0_40 : Index := 0#32
  ![0, v74.toNat, 0]
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v64 : BitVec 32 := Scalar.muli arg11 c32_i32
  let c32_i32_44 : BitVec 32 := 32#32
  let v81 : BitVec 32 := Scalar.addi v64 c32_i32_44
  let c254_i32 : BitVec 32 := 254#32
  let v82 : BitVec 32 := Scalar.minsi v81 c254_i32
  let c16_i32_45 : BitVec 32 := 16#32
  let v83 : BitVec 32 := Scalar.muli v82 c16_i32_45
  v83
def k0_off3 (k0_t1 : Fin k0_t1_loop.trips) : Fin 3 → Nat :=
  let c0_46 : Index := 0#32
  let c0_i32 : BitVec 32 := 0#32
  let c1_i32 : BitVec 32 := 1#32
  let arg11 : BitVec 32 := Scf.iv c0_i32 c1_i32 k0_t1
  let c32_i32 : BitVec 32 := 32#32
  let v64 : BitVec 32 := Scalar.muli arg11 c32_i32
  let c32_i32_44 : BitVec 32 := 32#32
  let v81 : BitVec 32 := Scalar.addi v64 c32_i32_44
  let c254_i32 : BitVec 32 := 254#32
  let v82 : BitVec 32 := Scalar.minsi v81 c254_i32
  let c16_i32_45 : BitVec 32 := 16#32
  let v83 : BitVec 32 := Scalar.muli v82 c16_i32_45
  let v84 : BitVec 32 := v83
  let v85 : Index := Scalar.indexCast v84
  let c0_47 : Index := 0#32
  ![0, v85.toNat, 0]
def k0_mult4 (k0_t1 : Fin k0_t1_loop.trips) : BitVec 32 :=
  let c7_i32 : BitVec 32 := 7#32
  let c0_i32 : BitVec 32 := 0#32
  let c1_i32 : BitVec 32 := 1#32
  let arg11 : BitVec 32 := Scf.iv c0_i32 c1_i32 k0_t1
  let v142 : BitVec 32 := Scalar.subi c7_i32 arg11
  let c32_i32_65 : BitVec 32 := 32#32
  let v143 : BitVec 32 := Scalar.muli v142 c32_i32_65
  let c16_i32_66 : BitVec 32 := 16#32
  let v144 : BitVec 32 := Scalar.muli v143 c16_i32_66
  v144
def k0_off4 (k0_t1 : Fin k0_t1_loop.trips) : Fin 3 → Nat :=
  let c0_67 : Index := 0#32
  let c7_i32 : BitVec 32 := 7#32
  let c0_i32 : BitVec 32 := 0#32
  let c1_i32 : BitVec 32 := 1#32
  let arg11 : BitVec 32 := Scf.iv c0_i32 c1_i32 k0_t1
  let v142 : BitVec 32 := Scalar.subi c7_i32 arg11
  let c32_i32_65 : BitVec 32 := 32#32
  let v143 : BitVec 32 := Scalar.muli v142 c32_i32_65
  let c16_i32_66 : BitVec 32 := 16#32
  let v144 : BitVec 32 := Scalar.muli v143 c16_i32_66
  let v145 : BitVec 32 := v144
  let v146 : Index := Scalar.indexCast v145
  let c0_68 : Index := 0#32
  ![0, v146.toNat, 0]
def k0_mult5 (k0_t1 : Fin k0_t1_loop.trips) : BitVec 32 :=
  let c7_i32 : BitVec 32 := 7#32
  let c0_i32 : BitVec 32 := 0#32
  let c1_i32 : BitVec 32 := 1#32
  let arg11 : BitVec 32 := Scf.iv c0_i32 c1_i32 k0_t1
  let v142 : BitVec 32 := Scalar.subi c7_i32 arg11
  let c32_i32_65 : BitVec 32 := 32#32
  let v143 : BitVec 32 := Scalar.muli v142 c32_i32_65
  let c1_i32_69 : BitVec 32 := 1#32
  let v149 : BitVec 32 := Scalar.subi v143 c1_i32_69
  let c0_i32_70 : BitVec 32 := 0#32
  let v150 : BitVec 32 := Scalar.maxsi v149 c0_i32_70
  let c16_i32_71 : BitVec 32 := 16#32
  let v151 : BitVec 32 := Scalar.muli v150 c16_i32_71
  v151
def k0_off5 (k0_t1 : Fin k0_t1_loop.trips) : Fin 3 → Nat :=
  let c0_72 : Index := 0#32
  let c7_i32 : BitVec 32 := 7#32
  let c0_i32 : BitVec 32 := 0#32
  let c1_i32 : BitVec 32 := 1#32
  let arg11 : BitVec 32 := Scf.iv c0_i32 c1_i32 k0_t1
  let v142 : BitVec 32 := Scalar.subi c7_i32 arg11
  let c32_i32_65 : BitVec 32 := 32#32
  let v143 : BitVec 32 := Scalar.muli v142 c32_i32_65
  let c1_i32_69 : BitVec 32 := 1#32
  let v149 : BitVec 32 := Scalar.subi v143 c1_i32_69
  let c0_i32_70 : BitVec 32 := 0#32
  let v150 : BitVec 32 := Scalar.maxsi v149 c0_i32_70
  let c16_i32_71 : BitVec 32 := 16#32
  let v151 : BitVec 32 := Scalar.muli v150 c16_i32_71
  let v152 : BitVec 32 := v151
  let v153 : Index := Scalar.indexCast v152
  let c0_73 : Index := 0#32
  ![0, v153.toNat, 0]
def k0_mult6 (k0_t1 : Fin k0_t1_loop.trips) : BitVec 32 :=
  let c7_i32 : BitVec 32 := 7#32
  let c0_i32 : BitVec 32 := 0#32
  let c1_i32 : BitVec 32 := 1#32
  let arg11 : BitVec 32 := Scf.iv c0_i32 c1_i32 k0_t1
  let v142 : BitVec 32 := Scalar.subi c7_i32 arg11
  let c32_i32_65 : BitVec 32 := 32#32
  let v143 : BitVec 32 := Scalar.muli v142 c32_i32_65
  let c32_i32_77 : BitVec 32 := 32#32
  let v160 : BitVec 32 := Scalar.addi v143 c32_i32_77
  let c254_i32_78 : BitVec 32 := 254#32
  let v161 : BitVec 32 := Scalar.minsi v160 c254_i32_78
  let c16_i32_79 : BitVec 32 := 16#32
  let v162 : BitVec 32 := Scalar.muli v161 c16_i32_79
  v162
def k0_off6 (k0_t1 : Fin k0_t1_loop.trips) : Fin 3 → Nat :=
  let c0_80 : Index := 0#32
  let c7_i32 : BitVec 32 := 7#32
  let c0_i32 : BitVec 32 := 0#32
  let c1_i32 : BitVec 32 := 1#32
  let arg11 : BitVec 32 := Scf.iv c0_i32 c1_i32 k0_t1
  let v142 : BitVec 32 := Scalar.subi c7_i32 arg11
  let c32_i32_65 : BitVec 32 := 32#32
  let v143 : BitVec 32 := Scalar.muli v142 c32_i32_65
  let c32_i32_77 : BitVec 32 := 32#32
  let v160 : BitVec 32 := Scalar.addi v143 c32_i32_77
  let c254_i32_78 : BitVec 32 := 254#32
  let v161 : BitVec 32 := Scalar.minsi v160 c254_i32_78
  let c16_i32_79 : BitVec 32 := 16#32
  let v162 : BitVec 32 := Scalar.muli v161 c16_i32_79
  let v163 : BitVec 32 := v162
  let v164 : Index := Scalar.indexCast v163
  let c0_81 : Index := 0#32
  ![0, v164.toNat, 0]
def k0_off7 (k0_t1 : Fin k0_t1_loop.trips) (c0_i32_100 : BitVec 32) : Fin 3 → Nat :=
  let c0_101 : Index := 0#32
  let c0_i32 : BitVec 32 := 0#32
  let c1_i32 : BitVec 32 := 1#32
  let arg11 : BitVec 32 := Scf.iv c0_i32 c1_i32 k0_t1
  let c32_i32 : BitVec 32 := 32#32
  let v64 : BitVec 32 := Scalar.muli arg11 c32_i32
  let c16_i32 : BitVec 32 := 16#32
  let v65 : BitVec 32 := Scalar.muli v64 c16_i32
  let v66 : BitVec 32 := v65
  let v229 : BitVec 32 := Scalar.addi v66 c0_i32_100
  let v231 : Index := Scalar.indexCast v229
  let c0_102 : Index := 0#32
  ![0, v231.toNat, 0]
def k0_off8 (k0_t1 : Fin k0_t1_loop.trips) (c496_i32 : BitVec 32) : Fin 3 → Nat :=
  let c0_103 : Index := 0#32
  let c7_i32 : BitVec 32 := 7#32
  let c0_i32 : BitVec 32 := 0#32
  let c1_i32 : BitVec 32 := 1#32
  let arg11 : BitVec 32 := Scf.iv c0_i32 c1_i32 k0_t1
  let v142 : BitVec 32 := Scalar.subi c7_i32 arg11
  let c32_i32_65 : BitVec 32 := 32#32
  let v143 : BitVec 32 := Scalar.muli v142 c32_i32_65
  let c16_i32_66 : BitVec 32 := 16#32
  let v144 : BitVec 32 := Scalar.muli v143 c16_i32_66
  let v145 : BitVec 32 := v144
  let v230 : BitVec 32 := Scalar.addi v145 c496_i32
  let v235 : Index := Scalar.indexCast v230
  let c0_104 : Index := 0#32
  ![0, v235.toNat, 0]
@[reducible] def k0_t2_loop : Scf.Loop 32 :=
  let c4_i32_24 : BitVec 32 := 4#32
  let c4_i32_25 : BitVec 32 := 4#32
  let v56 : BitVec 32 := Scalar.addi c4_i32_24 c4_i32_25
  let c1_i32_26 : BitVec 32 := 1#32
  ⟨c4_i32_24, v56, c1_i32_26⟩
def k0_mult7 (k0_t2 : Fin k0_t2_loop.trips) : BitVec 32 :=
  let c4_i32_24 : BitVec 32 := 4#32
  let c1_i32_26 : BitVec 32 := 1#32
  let arg11 : BitVec 32 := Scf.iv c4_i32_24 c1_i32_26 k0_t2
  let c32_i32 : BitVec 32 := 32#32
  let v64 : BitVec 32 := Scalar.muli arg11 c32_i32
  let c16_i32 : BitVec 32 := 16#32
  let v65 : BitVec 32 := Scalar.muli v64 c16_i32
  v65
def k0_off9 (k0_t2 : Fin k0_t2_loop.trips) : Fin 3 → Nat :=
  let c0_34 : Index := 0#32
  let c4_i32_24 : BitVec 32 := 4#32
  let c1_i32_26 : BitVec 32 := 1#32
  let arg11 : BitVec 32 := Scf.iv c4_i32_24 c1_i32_26 k0_t2
  let c32_i32 : BitVec 32 := 32#32
  let v64 : BitVec 32 := Scalar.muli arg11 c32_i32
  let c16_i32 : BitVec 32 := 16#32
  let v65 : BitVec 32 := Scalar.muli v64 c16_i32
  let v66 : BitVec 32 := v65
  let v67 : Index := Scalar.indexCast v66
  let c0_35 : Index := 0#32
  ![0, v67.toNat, 0]
def k0_mult8 (k0_t2 : Fin k0_t2_loop.trips) : BitVec 32 :=
  let c4_i32_24 : BitVec 32 := 4#32
  let c1_i32_26 : BitVec 32 := 1#32
  let arg11 : BitVec 32 := Scf.iv c4_i32_24 c1_i32_26 k0_t2
  let c32_i32 : BitVec 32 := 32#32
  let v64 : BitVec 32 := Scalar.muli arg11 c32_i32
  let c1_i32_36 : BitVec 32 := 1#32
  let v70 : BitVec 32 := Scalar.subi v64 c1_i32_36
  let c0_i32_37 : BitVec 32 := 0#32
  let v71 : BitVec 32 := Scalar.maxsi v70 c0_i32_37
  let c16_i32_38 : BitVec 32 := 16#32
  let v72 : BitVec 32 := Scalar.muli v71 c16_i32_38
  v72
def k0_off10 (k0_t2 : Fin k0_t2_loop.trips) : Fin 3 → Nat :=
  let c0_39 : Index := 0#32
  let c4_i32_24 : BitVec 32 := 4#32
  let c1_i32_26 : BitVec 32 := 1#32
  let arg11 : BitVec 32 := Scf.iv c4_i32_24 c1_i32_26 k0_t2
  let c32_i32 : BitVec 32 := 32#32
  let v64 : BitVec 32 := Scalar.muli arg11 c32_i32
  let c1_i32_36 : BitVec 32 := 1#32
  let v70 : BitVec 32 := Scalar.subi v64 c1_i32_36
  let c0_i32_37 : BitVec 32 := 0#32
  let v71 : BitVec 32 := Scalar.maxsi v70 c0_i32_37
  let c16_i32_38 : BitVec 32 := 16#32
  let v72 : BitVec 32 := Scalar.muli v71 c16_i32_38
  let v73 : BitVec 32 := v72
  let v74 : Index := Scalar.indexCast v73
  let c0_40 : Index := 0#32
  ![0, v74.toNat, 0]
def k0_mult9 (k0_t2 : Fin k0_t2_loop.trips) : BitVec 32 :=
  let c4_i32_24 : BitVec 32 := 4#32
  let c1_i32_26 : BitVec 32 := 1#32
  let arg11 : BitVec 32 := Scf.iv c4_i32_24 c1_i32_26 k0_t2
  let c32_i32 : BitVec 32 := 32#32
  let v64 : BitVec 32 := Scalar.muli arg11 c32_i32
  let c32_i32_44 : BitVec 32 := 32#32
  let v81 : BitVec 32 := Scalar.addi v64 c32_i32_44
  let c254_i32 : BitVec 32 := 254#32
  let v82 : BitVec 32 := Scalar.minsi v81 c254_i32
  let c16_i32_45 : BitVec 32 := 16#32
  let v83 : BitVec 32 := Scalar.muli v82 c16_i32_45
  v83
def k0_off11 (k0_t2 : Fin k0_t2_loop.trips) : Fin 3 → Nat :=
  let c0_46 : Index := 0#32
  let c4_i32_24 : BitVec 32 := 4#32
  let c1_i32_26 : BitVec 32 := 1#32
  let arg11 : BitVec 32 := Scf.iv c4_i32_24 c1_i32_26 k0_t2
  let c32_i32 : BitVec 32 := 32#32
  let v64 : BitVec 32 := Scalar.muli arg11 c32_i32
  let c32_i32_44 : BitVec 32 := 32#32
  let v81 : BitVec 32 := Scalar.addi v64 c32_i32_44
  let c254_i32 : BitVec 32 := 254#32
  let v82 : BitVec 32 := Scalar.minsi v81 c254_i32
  let c16_i32_45 : BitVec 32 := 16#32
  let v83 : BitVec 32 := Scalar.muli v82 c16_i32_45
  let v84 : BitVec 32 := v83
  let v85 : Index := Scalar.indexCast v84
  let c0_47 : Index := 0#32
  ![0, v85.toNat, 0]
def k0_mult10 (k0_t2 : Fin k0_t2_loop.trips) : BitVec 32 :=
  let c7_i32 : BitVec 32 := 7#32
  let c4_i32_24 : BitVec 32 := 4#32
  let c1_i32_26 : BitVec 32 := 1#32
  let arg11 : BitVec 32 := Scf.iv c4_i32_24 c1_i32_26 k0_t2
  let v142 : BitVec 32 := Scalar.subi c7_i32 arg11
  let c32_i32_65 : BitVec 32 := 32#32
  let v143 : BitVec 32 := Scalar.muli v142 c32_i32_65
  let c16_i32_66 : BitVec 32 := 16#32
  let v144 : BitVec 32 := Scalar.muli v143 c16_i32_66
  v144
def k0_off12 (k0_t2 : Fin k0_t2_loop.trips) : Fin 3 → Nat :=
  let c0_67 : Index := 0#32
  let c7_i32 : BitVec 32 := 7#32
  let c4_i32_24 : BitVec 32 := 4#32
  let c1_i32_26 : BitVec 32 := 1#32
  let arg11 : BitVec 32 := Scf.iv c4_i32_24 c1_i32_26 k0_t2
  let v142 : BitVec 32 := Scalar.subi c7_i32 arg11
  let c32_i32_65 : BitVec 32 := 32#32
  let v143 : BitVec 32 := Scalar.muli v142 c32_i32_65
  let c16_i32_66 : BitVec 32 := 16#32
  let v144 : BitVec 32 := Scalar.muli v143 c16_i32_66
  let v145 : BitVec 32 := v144
  let v146 : Index := Scalar.indexCast v145
  let c0_68 : Index := 0#32
  ![0, v146.toNat, 0]
def k0_mult11 (k0_t2 : Fin k0_t2_loop.trips) : BitVec 32 :=
  let c7_i32 : BitVec 32 := 7#32
  let c4_i32_24 : BitVec 32 := 4#32
  let c1_i32_26 : BitVec 32 := 1#32
  let arg11 : BitVec 32 := Scf.iv c4_i32_24 c1_i32_26 k0_t2
  let v142 : BitVec 32 := Scalar.subi c7_i32 arg11
  let c32_i32_65 : BitVec 32 := 32#32
  let v143 : BitVec 32 := Scalar.muli v142 c32_i32_65
  let c1_i32_69 : BitVec 32 := 1#32
  let v149 : BitVec 32 := Scalar.subi v143 c1_i32_69
  let c0_i32_70 : BitVec 32 := 0#32
  let v150 : BitVec 32 := Scalar.maxsi v149 c0_i32_70
  let c16_i32_71 : BitVec 32 := 16#32
  let v151 : BitVec 32 := Scalar.muli v150 c16_i32_71
  v151
def k0_off13 (k0_t2 : Fin k0_t2_loop.trips) : Fin 3 → Nat :=
  let c0_72 : Index := 0#32
  let c7_i32 : BitVec 32 := 7#32
  let c4_i32_24 : BitVec 32 := 4#32
  let c1_i32_26 : BitVec 32 := 1#32
  let arg11 : BitVec 32 := Scf.iv c4_i32_24 c1_i32_26 k0_t2
  let v142 : BitVec 32 := Scalar.subi c7_i32 arg11
  let c32_i32_65 : BitVec 32 := 32#32
  let v143 : BitVec 32 := Scalar.muli v142 c32_i32_65
  let c1_i32_69 : BitVec 32 := 1#32
  let v149 : BitVec 32 := Scalar.subi v143 c1_i32_69
  let c0_i32_70 : BitVec 32 := 0#32
  let v150 : BitVec 32 := Scalar.maxsi v149 c0_i32_70
  let c16_i32_71 : BitVec 32 := 16#32
  let v151 : BitVec 32 := Scalar.muli v150 c16_i32_71
  let v152 : BitVec 32 := v151
  let v153 : Index := Scalar.indexCast v152
  let c0_73 : Index := 0#32
  ![0, v153.toNat, 0]
def k0_mult12 (k0_t2 : Fin k0_t2_loop.trips) : BitVec 32 :=
  let c7_i32 : BitVec 32 := 7#32
  let c4_i32_24 : BitVec 32 := 4#32
  let c1_i32_26 : BitVec 32 := 1#32
  let arg11 : BitVec 32 := Scf.iv c4_i32_24 c1_i32_26 k0_t2
  let v142 : BitVec 32 := Scalar.subi c7_i32 arg11
  let c32_i32_65 : BitVec 32 := 32#32
  let v143 : BitVec 32 := Scalar.muli v142 c32_i32_65
  let c32_i32_77 : BitVec 32 := 32#32
  let v160 : BitVec 32 := Scalar.addi v143 c32_i32_77
  let c254_i32_78 : BitVec 32 := 254#32
  let v161 : BitVec 32 := Scalar.minsi v160 c254_i32_78
  let c16_i32_79 : BitVec 32 := 16#32
  let v162 : BitVec 32 := Scalar.muli v161 c16_i32_79
  v162
def k0_off14 (k0_t2 : Fin k0_t2_loop.trips) : Fin 3 → Nat :=
  let c0_80 : Index := 0#32
  let c7_i32 : BitVec 32 := 7#32
  let c4_i32_24 : BitVec 32 := 4#32
  let c1_i32_26 : BitVec 32 := 1#32
  let arg11 : BitVec 32 := Scf.iv c4_i32_24 c1_i32_26 k0_t2
  let v142 : BitVec 32 := Scalar.subi c7_i32 arg11
  let c32_i32_65 : BitVec 32 := 32#32
  let v143 : BitVec 32 := Scalar.muli v142 c32_i32_65
  let c32_i32_77 : BitVec 32 := 32#32
  let v160 : BitVec 32 := Scalar.addi v143 c32_i32_77
  let c254_i32_78 : BitVec 32 := 254#32
  let v161 : BitVec 32 := Scalar.minsi v160 c254_i32_78
  let c16_i32_79 : BitVec 32 := 16#32
  let v162 : BitVec 32 := Scalar.muli v161 c16_i32_79
  let v163 : BitVec 32 := v162
  let v164 : Index := Scalar.indexCast v163
  let c0_81 : Index := 0#32
  ![0, v164.toNat, 0]
def k0_off15 (k0_t2 : Fin k0_t2_loop.trips) (c0_i32_108 : BitVec 32) : Fin 3 → Nat :=
  let c0_109 : Index := 0#32
  let c4_i32_24 : BitVec 32 := 4#32
  let c1_i32_26 : BitVec 32 := 1#32
  let arg11 : BitVec 32 := Scf.iv c4_i32_24 c1_i32_26 k0_t2
  let c32_i32 : BitVec 32 := 32#32
  let v64 : BitVec 32 := Scalar.muli arg11 c32_i32
  let c16_i32 : BitVec 32 := 16#32
  let v65 : BitVec 32 := Scalar.muli v64 c16_i32
  let v66 : BitVec 32 := v65
  let v241 : BitVec 32 := Scalar.addi v66 c0_i32_108
  let v247 : Index := Scalar.indexCast v241
  let c0_110 : Index := 0#32
  ![0, v247.toNat, 0]
def k0_off16 (k0_t2 : Fin k0_t2_loop.trips) (c496_i32 : BitVec 32) : Fin 3 → Nat :=
  let c0_111 : Index := 0#32
  let c7_i32 : BitVec 32 := 7#32
  let c4_i32_24 : BitVec 32 := 4#32
  let c1_i32_26 : BitVec 32 := 1#32
  let arg11 : BitVec 32 := Scf.iv c4_i32_24 c1_i32_26 k0_t2
  let v142 : BitVec 32 := Scalar.subi c7_i32 arg11
  let c32_i32_65 : BitVec 32 := 32#32
  let v143 : BitVec 32 := Scalar.muli v142 c32_i32_65
  let c16_i32_66 : BitVec 32 := 16#32
  let v144 : BitVec 32 := Scalar.muli v143 c16_i32_66
  let v145 : BitVec 32 := v144
  let v242 : BitVec 32 := Scalar.addi v145 c496_i32
  let v255 : Index := Scalar.indexCast v242
  let c0_112 : Index := 0#32
  ![0, v255.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "rate" => some (((-4) * (Real.log 2)⁻¹ : ℝ) : EReal)
  | _ => none
-- ==== ReferenceIdeal.lean ====
abbrev S28x4096x128 : Shape := ⟨3, ![28, 4096, 128]⟩
abbrev S1x4x1536 : Shape := ⟨3, ![1, 4, 1536]⟩
abbrev S1x1536 : Shape := ⟨2, ![1, 1536]⟩
abbrev S1x2x24x64x64 : Shape := ⟨5, ![1, 2, 24, 64, 64]⟩
abbrev S1x2x1536 : Shape := ⟨3, ![1, 2, 1536]⟩
abbrev S2x16x1536 : Shape := ⟨3, ![2, 16, 1536]⟩
abbrev S12x4096x128 : Shape := ⟨3, ![12, 4096, 128]⟩
abbrev S12x256x16x128 : Shape := ⟨4, ![12, 256, 16, 128]⟩
abbrev S256x16x12x128 : Shape := ⟨4, ![256, 16, 12, 128]⟩
abbrev S256x16x1536 : Shape := ⟨3, ![256, 16, 1536]⟩
abbrev S4x1536 : Shape := ⟨2, ![4, 1536]⟩
abbrev S1536 : Shape := ⟨1, ![1536]⟩
abbrev S_ : Shape := ⟨0, ![]⟩
abbrev S259x16x1536 : Shape := ⟨3, ![259, 16, 1536]⟩
abbrev S1x1x1536 : Shape := ⟨3, ![1, 1, 1536]⟩
abbrev S256x16x24x64 : Shape := ⟨4, ![256, 16, 24, 64]⟩
abbrev S2x24x64x64 : Shape := ⟨4, ![2, 24, 64, 64]⟩
abbrev S24x2x64x256x16 : Shape := ⟨5, ![24, 2, 64, 256, 16]⟩
abbrev S2x256x16x24x64 : Shape := ⟨5, ![2, 256, 16, 24, 64]⟩
abbrev S2x256x16x1536 : Shape := ⟨4, ![2, 256, 16, 1536]⟩
abbrev S2x1536 : Shape := ⟨2, ![2, 1536]⟩
abbrev S2x1x1x1536 : Shape := ⟨4, ![2, 1, 1, 1536]⟩
abbrev S1x256x16x1536 : Shape := ⟨4, ![1, 256, 16, 1536]⟩
abbrev S256x1x16x1536 : Shape := ⟨4, ![256, 1, 16, 1536]⟩
abbrev S256x2x16x1536 : Shape := ⟨4, ![256, 2, 16, 1536]⟩
abbrev S1x2x16x1536 : Shape := ⟨4, ![1, 2, 16, 1536]⟩
abbrev S4096x12x128 : Shape := ⟨3, ![4096, 12, 128]⟩

abbrev nBuf : Space → Nat
  | .hbm => 172
  | .vmem => 0
  | .smem => 0
  | _ => 0

abbrev hbmTy0_0 (i : Nat) : BufTy := match i % 128 with
  | 0 => ⟨S28x4096x128, .f32⟩
  | 1 => ⟨S1x4x1536, .f32⟩
  | 2 => ⟨S1x1536, .f32⟩
  | 3 => ⟨S1x2x24x64x64, .f32⟩
  | 4 => ⟨S1x2x1536, .f32⟩
  | 5 => ⟨S1x2x24x64x64, .f32⟩
  | 6 => ⟨S1x2x1536, .f32⟩
  | 7 => ⟨S1x2x1536, .f32⟩
  | 8 => ⟨S2x16x1536, .f32⟩
  | 9 => ⟨S12x4096x128, .f32⟩
  | 10 => ⟨S12x256x16x128, .f32⟩
  | 11 => ⟨S256x16x12x128, .f32⟩
  | 12 => ⟨S256x16x1536, .f32⟩
  | 13 => ⟨S4x1536, .f32⟩
  | 14 => ⟨S1536, .f32⟩
  | 15 => ⟨S_, .i32⟩
  | 16 => ⟨S_, .f32⟩
  | 17 => ⟨S259x16x1536, .f32⟩
  | 18 => ⟨S1x1536, .f32⟩
  | 19 => ⟨S1536, .f32⟩
  | 20 => ⟨S256x16x1536, .f32⟩
  | 21 => ⟨S1x1x1536, .f32⟩
  | 22 => ⟨S256x16x1536, .f32⟩
  | 23 => ⟨S256x16x1536, .f32⟩
  | 24 => ⟨S1x1536, .f32⟩
  | 25 => ⟨S1536, .f32⟩
  | 26 => ⟨S256x16x1536, .f32⟩
  | 27 => ⟨S1x1x1536, .f32⟩
  | 28 => ⟨S256x16x1536, .f32⟩
  | 29 => ⟨S256x16x1536, .f32⟩
  | 30 => ⟨S256x16x1536, .f32⟩
  | 31 => ⟨S1x1536, .f32⟩
  | 32 => ⟨S1536, .f32⟩
  | 33 => ⟨S256x16x1536, .f32⟩
  | 34 => ⟨S1x1x1536, .f32⟩
  | 35 => ⟨S256x16x1536, .f32⟩
  | 36 => ⟨S256x16x1536, .f32⟩
  | 37 => ⟨S256x16x1536, .f32⟩
  | 38 => ⟨S1x1536, .f32⟩
  | 39 => ⟨S1536, .f32⟩
  | 40 => ⟨S256x16x1536, .f32⟩
  | 41 => ⟨S1x1x1536, .f32⟩
  | 42 => ⟨S256x16x1536, .f32⟩
  | 43 => ⟨S256x16x1536, .f32⟩
  | 44 => ⟨S256x16x1536, .f32⟩
  | 45 => ⟨S1x1x1536, .f32⟩
  | 46 => ⟨S256x16x1536, .f32⟩
  | 47 => ⟨S256x16x1536, .f32⟩
  | 48 => ⟨S256x16x24x64, .f32⟩
  | 49 => ⟨S2x24x64x64, .f32⟩
  | 50 => ⟨S24x2x64x256x16, .f32⟩
  | 51 => ⟨S2x256x16x24x64, .f32⟩
  | 52 => ⟨S2x256x16x1536, .f32⟩
  | 53 => ⟨S2x1536, .f32⟩
  | 54 => ⟨S2x1x1x1536, .f32⟩
  | 55 => ⟨S2x256x16x1536, .f32⟩
  | 56 => ⟨S2x256x16x1536, .f32⟩
  | 57 => ⟨S2x256x16x1536, .f32⟩
  | 58 => ⟨S2x256x16x1536, .f32⟩
  | 59 => ⟨S_, .f32⟩
  | 60 => ⟨S2x256x16x1536, .f32⟩
  | 61 => ⟨S2x256x16x1536, .f32⟩
  | 62 => ⟨S_, .f32⟩
  | 63 => ⟨S2x256x16x1536, .f32⟩
  | 64 => ⟨S2x256x16x1536, .f32⟩
  | 65 => ⟨S2x24x64x64, .f32⟩
  | 66 => ⟨S24x2x64x256x16, .f32⟩
  | 67 => ⟨S2x256x16x24x64, .f32⟩
  | 68 => ⟨S2x256x16x1536, .f32⟩
  | 69 => ⟨S2x1536, .f32⟩
  | 70 => ⟨S2x1x1x1536, .f32⟩
  | 71 => ⟨S2x256x16x1536, .f32⟩
  | 72 => ⟨S2x256x16x1536, .f32⟩
  | 73 => ⟨S2x256x16x1536, .f32⟩
  | 74 => ⟨S2x256x16x1536, .f32⟩
  | 75 => ⟨S_, .f32⟩
  | 76 => ⟨S2x256x16x1536, .f32⟩
  | 77 => ⟨S2x256x16x1536, .f32⟩
  | 78 => ⟨S_, .f32⟩
  | 79 => ⟨S2x256x16x1536, .f32⟩
  | 80 => ⟨S2x256x16x1536, .f32⟩
  | 81 => ⟨S_, .f32⟩
  | 82 => ⟨S2x256x16x1536, .f32⟩
  | 83 => ⟨S2x256x16x1536, .f32⟩
  | 84 => ⟨S2x1536, .f32⟩
  | 85 => ⟨S2x1536, .f32⟩
  | 86 => ⟨S_, .f32⟩
  | 87 => ⟨S2x1536, .f32⟩
  | 88 => ⟨S2x1536, .f32⟩
  | 89 => ⟨S2x1536, .f32⟩
  | 90 => ⟨S2x1536, .f32⟩
  | 91 => ⟨S2x1536, .i1⟩
  | 92 => ⟨S2x1536, .f32⟩
  | 93 => ⟨S2x1536, .f32⟩
  | 94 => ⟨S2x1536, .f32⟩
  | 95 => ⟨S2x1536, .f32⟩
  | 96 => ⟨S2x1536, .f32⟩
  | 97 => ⟨S2x1536, .f32⟩
  | 98 => ⟨S2x1536, .f32⟩
  | 99 => ⟨S2x1536, .f32⟩
  | 100 => ⟨S2x1x1x1536, .f32⟩
  | 101 => ⟨S2x256x16x1536, .f32⟩
  | 102 => ⟨S2x256x16x1536, .f32⟩
  | 103 => ⟨S2x256x16x1536, .f32⟩
  | 104 => ⟨S_, .f32⟩
  | 105 => ⟨S2x256x16x1536, .f32⟩
  | 106 => ⟨S2x256x16x1536, .f32⟩
  | 107 => ⟨S2x256x16x1536, .f32⟩
  | 108 => ⟨S2x256x16x1536, .f32⟩
  | 109 => ⟨S2x256x16x1536, .f32⟩
  | 110 => ⟨S1x256x16x1536, .f32⟩
  | 111 => ⟨S2x256x16x1536, .f32⟩
  | 112 => ⟨S2x256x16x1536, .f32⟩
  | 113 => ⟨S2x256x16x1536, .f32⟩
  | 114 => ⟨S1x256x16x1536, .f32⟩
  | 115 => ⟨S256x16x1536, .f32⟩
  | 116 => ⟨S1x256x16x1536, .f32⟩
  | 117 => ⟨S1x256x16x1536, .f32⟩
  | 118 => ⟨S256x16x1536, .f32⟩
  | 119 => ⟨S256x1x16x1536, .f32⟩
  | 120 => ⟨S256x1x16x1536, .f32⟩
  | 121 => ⟨S256x2x16x1536, .f32⟩
  | 122 => ⟨S1x256x16x1536, .f32⟩
  | 123 => ⟨S256x16x1536, .f32⟩
  | 124 => ⟨S1x256x16x1536, .f32⟩
  | 125 => ⟨S1x256x16x1536, .f32⟩
  | 126 => ⟨S256x16x1536, .f32⟩
  | 127 => ⟨S256x1x16x1536, .f32⟩
  | _ => ⟨S28x4096x128, .f32⟩

abbrev hbmTy0_1 (i : Nat) : BufTy := match i % 128 with
  | 0 => ⟨S256x1x16x1536, .f32⟩
  | 1 => ⟨S256x2x16x1536, .f32⟩
  | 2 => ⟨S_, .f32⟩
  | 3 => ⟨S256x2x16x1536, .f32⟩
  | 4 => ⟨S_, .i32⟩
  | 5 => ⟨S256x2x16x1536, .f32⟩
  | 6 => ⟨S256x2x16x1536, .f32⟩
  | 7 => ⟨S_, .i32⟩
  | 8 => ⟨S2x16x1536, .f32⟩
  | 9 => ⟨S256x2x16x1536, .f32⟩
  | 10 => ⟨S_, .i32⟩
  | 11 => ⟨S_, .i1⟩
  | 12 => ⟨S_, .i32⟩
  | 13 => ⟨S_, .i32⟩
  | 14 => ⟨S_, .i32⟩
  | 15 => ⟨S1x2x16x1536, .f32⟩
  | 16 => ⟨S2x16x1536, .f32⟩
  | 17 => ⟨S_, .i32⟩
  | 18 => ⟨S_, .i32⟩
  | 19 => ⟨S_, .i32⟩
  | 20 => ⟨S1x2x16x1536, .f32⟩
  | 21 => ⟨S2x16x1536, .f32⟩
  | 22 => ⟨S2x16x1536, .f32⟩
  | 23 => ⟨S2x16x1536, .f32⟩
  | 24 => ⟨S1x2x16x1536, .f32⟩
  | 25 => ⟨S_, .i32⟩
  | 26 => ⟨S_, .i32⟩
  | 27 => ⟨S_, .i32⟩
  | 28 => ⟨S256x2x16x1536, .f32⟩
  | 29 => ⟨S_, .i32⟩
  | 30 => ⟨S_, .i32⟩
  | 31 => ⟨S256x1x16x1536, .f32⟩
  | 32 => ⟨S256x16x1536, .f32⟩
  | 33 => ⟨S256x1x16x1536, .f32⟩
  | 34 => ⟨S256x1x16x1536, .f32⟩
  | 35 => ⟨S256x16x1536, .f32⟩
  | 36 => ⟨S256x16x1536, .f32⟩
  | 37 => ⟨S12x4096x128, .f32⟩
  | 38 => ⟨S12x256x16x128, .f32⟩
  | 39 => ⟨S256x16x12x128, .f32⟩
  | 40 => ⟨S256x16x1536, .f32⟩
  | 41 => ⟨S256x16x1536, .f32⟩
  | 42 => ⟨S4096x12x128, .f32⟩
  | 43 => ⟨S12x4096x128, .f32⟩
  | _ => ⟨S28x4096x128, .f32⟩

abbrev hbmTy (i : Nat) : BufTy := match i / 128 with
  | 0 => hbmTy0_0 i
  | 1 => hbmTy0_1 i
  | _ => ⟨S28x4096x128, .f32⟩

abbrev bufTy : (tb : Table) → Fin (tcTables nBuf tb) → BufTy
  | .hbm, ⟨i, _⟩ => hbmTy i
  | _, _ => ⟨S28x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst : Ref sig .tc := ⟨.hbm, 59, rfl⟩
abbrev main_v48 : Ref sig .tc := ⟨.hbm, 60, rfl⟩
abbrev main_v49 : Ref sig .tc := ⟨.hbm, 61, rfl⟩
abbrev main_cst_0 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_1 : Ref sig .tc := ⟨.hbm, 75, rfl⟩
abbrev main_v62 : Ref sig .tc := ⟨.hbm, 76, rfl⟩
abbrev main_v63 : Ref sig .tc := ⟨.hbm, 77, rfl⟩
abbrev main_cst_2 : Ref sig .tc := ⟨.hbm, 78, rfl⟩
abbrev main_v64 : Ref sig .tc := ⟨.hbm, 79, rfl⟩
abbrev main_v65 : Ref sig .tc := ⟨.hbm, 80, rfl⟩
abbrev main_cst_3 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_4 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_5 : Ref sig .tc := ⟨.hbm, 130, rfl⟩
abbrev main_v100 : Ref sig .tc := ⟨.hbm, 131, rfl⟩
abbrev main_c_6 : Ref sig .tc := ⟨.hbm, 132, rfl⟩
abbrev main_v101_0 : Ref sig .tc := ⟨.hbm, 133, rfl⟩
abbrev main_v101_1 : Ref sig .tc := ⟨.hbm, 134, rfl⟩
abbrev main_v101_2 : Ref sig .tc := ⟨.hbm, 135, rfl⟩
abbrev main_v101_3 : Ref sig .tc := ⟨.hbm, 136, rfl⟩
abbrev main_v101_4 : Ref sig .tc := ⟨.hbm, 137, rfl⟩
abbrev main_while0c_c_11 : Ref sig .tc := ⟨.hbm, 138, rfl⟩
abbrev main_while0c_v115 : Ref sig .tc := ⟨.hbm, 139, rfl⟩
abbrev main_while0b_call2_c : Ref sig .tc := ⟨.hbm, 140, rfl⟩
abbrev main_while0b_call2_c_0 : Ref sig .tc := ⟨.hbm, 141, rfl⟩
abbrev main_while0b_call2_c_1 : Ref sig .tc := ⟨.hbm, 142, rfl⟩
abbrev main_while0b_call2_v0 : Ref sig .tc := ⟨.hbm, 143, rfl⟩
abbrev main_while0b_v115 : Ref sig .tc := ⟨.hbm, 144, rfl⟩
abbrev main_while0b_call3_c : Ref sig .tc := ⟨.hbm, 145, rfl⟩
abbrev main_while0b_call3_c_0 : Ref sig .tc := ⟨.hbm, 146, rfl⟩
abbrev main_while0b_call3_c_1 : Ref sig .tc := ⟨.hbm, 147, rfl⟩
abbrev main_while0b_call3_v0 : Ref sig .tc := ⟨.hbm, 148, rfl⟩
abbrev main_while0b_v116 : Ref sig .tc := ⟨.hbm, 149, rfl⟩
abbrev main_while0b_v117 : Ref sig .tc := ⟨.hbm, 150, rfl⟩
abbrev main_while0b_v118 : Ref sig .tc := ⟨.hbm, 151, rfl⟩
abbrev main_while0b_call4_v0 : Ref sig .tc := ⟨.hbm, 152, rfl⟩
abbrev main_while0b_call4_c : Ref sig .tc := ⟨.hbm, 153, rfl⟩
abbrev main_while0b_call4_c_0 : Ref sig .tc := ⟨.hbm, 154, rfl⟩
abbrev main_while0b_call4_c_1 : Ref sig .tc := ⟨.hbm, 155, rfl⟩
abbrev main_while0b_v119 : Ref sig .tc := ⟨.hbm, 156, rfl⟩
abbrev main_while0b_c_11 : Ref sig .tc := ⟨.hbm, 157, rfl⟩
abbrev main_while0b_v120 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S16x512x2048 : Shape := ⟨3, ![16, 512, 2048]⟩
abbrev S16x2048x2048 : Shape := ⟨3, ![16, 2048, 2048]⟩
abbrev S16x512x1 : Shape := ⟨3, ![16, 512, 1]⟩
abbrev S16x2048x1 : Shape := ⟨3, ![16, 2048, 1]⟩
abbrev S1x16x2048x2048 : Shape := ⟨4, ![1, 16, 2048, 2048]⟩
abbrev S1x256x2048 : Shape := ⟨3, ![1, 256, 2048]⟩
abbrev S1x1024x2048 : Shape := ⟨3, ![1, 1024, 2048]⟩
abbrev S1x256x1 : Shape := ⟨3, ![1, 256, 1]⟩
abbrev S1x1024x1 : Shape := ⟨3, ![1, 1024, 1]⟩
abbrev S1x2048x256 : Shape := ⟨3, ![1, 2048, 256]⟩
abbrev S1280x2048 : Shape := ⟨2, ![1280, 2048]⟩
abbrev S256x2048 : Shape := ⟨2, ![256, 2048]⟩
abbrev S1024x2048 : Shape := ⟨2, ![1024, 2048]⟩
abbrev S2048x256 : Shape := ⟨2, ![2048, 256]⟩
abbrev S1280x256 : Shape := ⟨2, ![1280, 256]⟩
abbrev S256x1 : Shape := ⟨2, ![256, 1]⟩
abbrev S1024x1 : Shape := ⟨2, ![1024, 1]⟩

abbrev nBuf : Space → Nat
  | .hbm => 12
  | .vmem => 20
  | .smem => 0
  | _ => 0

abbrev bufTy : (tb : Table) → Fin (tcTables nBuf tb) → BufTy
  | .hbm, ⟨0, _⟩ => ⟨S16x512x2048, .bf16⟩
  | .hbm, ⟨1, _⟩ => ⟨S16x2048x2048, .bf16⟩
  | .hbm, ⟨2, _⟩ => ⟨S16x512x1, .f32⟩
  | .hbm, ⟨3, _⟩ => ⟨S16x2048x1, .f32⟩
  | .hbm, ⟨4, _⟩ => ⟨S1x16x2048x2048, .f32⟩
  | .hbm, ⟨5, _⟩ => ⟨S1x16x2048x2048, .f32⟩
  | .hbm, ⟨6, _⟩ => ⟨S1x16x2048x2048, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S16x512x2048, .bf16⟩
  | .hbm, ⟨11, _⟩ => ⟨S16x2048x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x256x1, .f32⟩
  | .local _ .vmem, ⟨5, _⟩ => ⟨S1x256x1, .f32⟩
  | .local _ .vmem, ⟨6, _⟩ => ⟨S1x1024x1, .f32⟩
  | .local _ .vmem, ⟨7, _⟩ => ⟨S1x1024x1, .f32⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .bf16⟩
  | .local _ .vmem, ⟨15, _⟩ => ⟨S1x256x2048, .bf16⟩
  | .local _ .vmem, ⟨16, _⟩ => ⟨S1x1024x2048, .bf16⟩
  | .local _ .vmem, ⟨17, _⟩ => ⟨S1x1024x2048, .bf16⟩
  | .local _ .vmem, ⟨18, _⟩ => ⟨S1280x2048, .bf16⟩
  | .local _ .vmem, ⟨19, _⟩ => ⟨S1280x2048, .f32⟩
  | _, _ => ⟨S16x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 2, 8], ![false, false, false]⟩

def k0_cond3 (i : grid0.Coords) : BitVec 1 :=
  let arg2 : BitVec 32 := BitVec.ofNat 32 (i 2).val
  let c7_i32 : BitVec 32 := 7#32
  let v28 : BitVec 1 := Scalar.cmpi .eq arg2 c7_i32
  let v29 : BitVec 32 := Scalar.extui v28
  let c0_i32_19 : BitVec 32 := 0#32
  let v30 : BitVec 1 := Scalar.cmpi .ne v29 c0_i32_19
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference2Ideal.lean ====
abbrev S16x512x2048 : Shape := ⟨3, ![16, 512, 2048]⟩
abbrev S16x2048x2048 : Shape := ⟨3, ![16, 2048, 2048]⟩
abbrev S16x512x1 : Shape := ⟨3, ![16, 512, 1]⟩
abbrev S16x2048x1 : Shape := ⟨3, ![16, 2048, 1]⟩
abbrev S1x16x2048x2048 : Shape := ⟨4, ![1, 16, 2048, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S16x512x2048, .bf16⟩
  | .hbm, ⟨1, _⟩ => ⟨S16x2048x2048, .bf16⟩
  | .hbm, ⟨2, _⟩ => ⟨S16x512x1, .f32⟩
  | .hbm, ⟨3, _⟩ => ⟨S16x2048x1, .f32⟩
  | .hbm, ⟨4, _⟩ => ⟨S1x16x2048x2048, .f32⟩
  | .hbm, ⟨5, _⟩ => ⟨S1x16x2048x2048, .f32⟩
  | .hbm, ⟨6, _⟩ => ⟨S1x16x2048x2048, .f32⟩
  | .hbm, ⟨7, _⟩ => ⟨S16x512x2048, .f32⟩
  | .hbm, ⟨8, _⟩ => ⟨S16x2048x2048, .f32⟩
  | .hbm, ⟨9, _⟩ => ⟨S16x512x2048, .f32⟩
  | .hbm, ⟨10, _⟩ => ⟨S16x512x2048, .f32⟩
  | .hbm, ⟨11, _⟩ => ⟨S16x512x2048, .f32⟩
  | .hbm, ⟨12, _⟩ => ⟨S_, .f32⟩
  | .hbm, ⟨13, _⟩ => ⟨S16x512x2048, .f32⟩
  | .hbm, ⟨14, _⟩ => ⟨S16x512x2048, .f32⟩
  | .hbm, ⟨15, _⟩ => ⟨S_, .f32⟩
  | .hbm, ⟨16, _⟩ => ⟨S16x512x2048, .f32⟩
  | .hbm, ⟨17, _⟩ => ⟨S16x512x2048, .f32⟩
  | .hbm, ⟨18, _⟩ => ⟨S16x512x2048, .f32⟩
  | .hbm, ⟨19, _⟩ => ⟨S16x2048x2048, .f32⟩
  | .hbm, ⟨20, _⟩ => ⟨S16x512x2048, .f32⟩
  | .hbm, ⟨21, _⟩ => ⟨S16x512x2048, .f32⟩
  | .hbm, ⟨22, _⟩ => ⟨S16x2048x2048, .f32⟩
  | .hbm, ⟨23, _⟩ => ⟨S16x512x2048, .f32⟩
  | .hbm, ⟨24, _⟩ => ⟨S16x512x2048, .f32⟩
  | .hbm, ⟨25, _⟩ => ⟨S16x512x2048, .f32⟩
  | .hbm, ⟨26, _⟩ => ⟨S16x512x2048, .bf16⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S16x2048x2048, .bf16⟩
  | _, _ => ⟨S16x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]
-- ==== Proof.FfnPieces.lean ====
/- The expert feed-forward call, grid point by grid point: what each one leaves in the joined rows, the accumulator and the two
   result blocks. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Kernel2Ideal.Ffn

open Cert.Kernel2Ideal Cert.Kernel2Ideal.Gen
open Idealize.ShloMosaic Idealize.ShloMosaic.TcCoe

variable {F : FTy → Type} [FloatOps F]
variable (m : (ℓ : Loc nD τ sig) → Buf (Elt F) ℓ) (c : Dev nD)

/-- The two row blocks of a point one above the other: 256 rows of the first, then 1024 rows of the second. -/
def xcat (x0 : Vec F S1x256x2048 .bf16) (x1 : Vec F S1x1024x2048 .bf16) : Vec F S1280x2048 .bf16 := fun j =>
  if h : (j 0).val < 256 then x0 (ix3 0 ⟨(j 0).val, h⟩ (j 1))
  else x1 (ix3 0 ⟨(j 0).val - 256, by have : (j 0).val < 1280 := (j 0).isLt; omega⟩ (j 1))

/-- The first layer of a one-layer view of the gathered rows is the array itself. -/
theorem rd0 (X : Vec F S1280x2048 .bf16) :
    View.read (Elt F) (View.whole cc0_scratch0) ((Memref.isWhole_whole cc0_scratch0).unread X) = X :=
  (Memref.isWhole_whole cc0_scratch0).read_unread X

/-- The same of the accumulated rows. -/
theorem rd1 (X : Vec F S1280x2048 .f32) :
    View.read (Elt F) (View.whole cc0_scratch1) ((Memref.isWhole_whole cc0_scratch1).unread X) = X :=
  (Memref.isWhole_whole cc0_scratch1).read_unread X

/-- The block of the first array, written without its leading axis. -/
theorem pay3_at (x0 : Vec F S1x256x2048 .bf16) (r : Fin 256) (l : Fin 2048) : k0_pay3 x0 (ix2 r l) = x0 (ix3 0 r l) := by
  pointwise [k0_pay3]

/-- The block of the second array, written without its leading axis. -/
theorem pay4_at (x1 : Vec F S1x1024x2048 .bf16) (r : Fin 1024) (l : Fin 2048) : k0_pay4 x1 (ix2 r l) = x1 (ix3 0 r l) := by
  pointwise [k0_pay4]

/-- The two copies into the row buffer leave the two row blocks one above the other. -/
theorem canon_copies (x0 : Vec F S1x256x2048 .bf16) (x1 : Vec F S1x1024x2048 .bf16) :
    View.canon (Val := Elt F)
      [⟨Rect.unit (s := S1280x2048) ![256, 0] ![1024, 2048] inb_S1280x2048_S1024x2048_256_0, k0_pay4 x1⟩,
        ⟨Rect.unit (s := S1280x2048) ![0, 0] ![256, 2048] inb_S1280x2048_S256x2048_0_0, k0_pay3 x0⟩] = xcat x0 x1 := by
  funext y
  have hy : (y 0).val < 1280 := (y 0).isLt
  by_cases h : (y 0).val < 256
  · rw [View.canon_cons_of_not_mem _ _ (by
      rw [Rect.mem_set_unit]; intro hh; have := (hh 0).1; change 256 ≤ (y 0).val at this; omega)]
    have e : y = (Rect.unit (s := S1280x2048) ![0, 0] ![256, 2048] inb_S1280x2048_S256x2048_0_0).emb
        (ix2 (⟨(y 0).val, h⟩ : Fin 256) (y 1 : Fin 2048)) := by
      funext a; apply Fin.ext; rw [ValueKit.rect_emb_unit_val]
      fin_cases a
      · show (y 0).val = 0 + (y 0).val; omega
      · show (y 1).val = 0 + (y 1).val; omega
    conv_lhs => rw [e]
    rw [View.canon_cons_emb]; refine (pay3_at _ _ _).trans ?_
    unfold xcat; rw [dif_pos h]
  · have e : y = (Rect.unit (s := S1280x2048) ![256, 0] ![1024, 2048] inb_S1280x2048_S1024x2048_256_0).emb
        (ix2 (⟨(y 0).val - 256, by omega⟩ : Fin 1024) (y 1 : Fin 2048)) := by
      funext a; apply Fin.ext; rw [ValueKit.rect_emb_unit_val]
      fin_cases a
      · show (y 0).val = 256 + ((y 0).val - 256); omega
      · show (y 1).val = 0 + (y 1).val; omega
    conv_lhs => rw [e]
    rw [View.canon_cons_emb]; refine (pay4_at _ _ _).trans ?_
    unfold xcat; rw [dif_neg h]

/-- After the first point of a run the row buffer holds the point's two row blocks. -/
theorem xbuf_A (t : Fin cfg0.N) (h0 : t.val % 8 = 0) :
    (outsAt0 m c t.val t.isLt).2.2.1 = xcat (iblk m c 0 t) (iblk m c 1 t) := by
  rw [outsAt0_A m c t h0 h0 (by omega)]
  frame_out
  exact canon_copies _ _

/-- The later points of a run leave the row buffer as it was. -/
theorem xbuf_B (t : Fin cfg0.N) (h0 : ¬t.val % 8 = 0) :
    (outsAt0 m c t.val t.isLt).2.2.1 = (outsAt0 m c (t.val - 1) (Nat.lt_of_le_of_lt (Nat.sub_le _ _) t.isLt)).2.2.1 := by
  by_cases h7 : t.val % 8 = 7
  · rw [outsAt0_C m c t h0 h0 h7]; rfl
  · rw [outsAt0_B m c t h0 h0 h7]; rfl

/-- The first point of a run leaves its own term added to zero. -/
theorem acc_A (t : Fin cfg0.N) (h0 : t.val % 8 = 0) :
    (outsAt0 m c t.val t.isLt).2.2.2
      = k0_pay6 (iblk m c 4 t) (iblk m c 5 t) (iblk m c 6 t) (outsAt0 m c t.val t.isLt).2.2.1 k0_pay5 := by
  rw [xbuf_A m c t h0, outsAt0_A m c t h0 h0 (by omega)]
  frame_out
  rw [View.readCov_eq_canon', canon_copies]
  refine congrArg (fun x => k0_pay6 (iblk m c 4 t) (iblk m c 5 t) (iblk m c 6 t) x k0_pay5) ?_
  funext j
  refine congrArg (xcat (iblk m c 0 t) (iblk m c 1 t)) ?_
  funext a; apply Fin.ext; rw [Rect.idx_unit_val]
  fin_cases a
  · show 0 + (j 0).val = (j 0).val; omega
  · show 0 + (j 1).val = (j 1).val; omega

/-- A later point adds its term to the accumulator, over the row buffer the point before left. -/
theorem acc_B (t : Fin cfg0.N) (h0 : ¬t.val % 8 = 0) :
    (outsAt0 m c t.val t.isLt).2.2.2
      = k0_pay6 (iblk m c 4 t) (iblk m c 5 t) (iblk m c 6 t)
          (outsAt0 m c (t.val - 1) (Nat.lt_of_le_of_lt (Nat.sub_le _ _) t.isLt)).2.2.1
          (outsAt0 m c (t.val - 1) (Nat.lt_of_le_of_lt (Nat.sub_le _ _) t.isLt)).2.2.2 := by
  by_cases h7 : t.val % 8 = 7
  · rw [outsAt0_C m c t h0 h0 h7]; frame_out; rw [rd0, rd1]
  · rw [outsAt0_B m c t h0 h0 h7]; frame_out; rw [rd0, rd1]

/-- The last point of a run leaves in the first output the accumulator's first 256 rows times their gates. -/
theorem out7_C (t : Fin cfg0.N) (h7 : t.val % 8 = 7) :
    (outsAt0 m c t.val t.isLt).1
      = k0_pay1 (fun j => (outsAt0 m c t.val t.isLt).2.2.2 (ix2 ⟨(j 0).val, by have : (j 0).val < 256 := (j 0).isLt; omega⟩ (j 1))) (iblk m c 2 t) := by
  rw [acc_B m c t (by omega), outsAt0_C m c t (by omega) (by omega) h7]; frame_out
  rw [rd0, rd1, View.readCov_eq_canon', View.canon_cons_unit_lit (S := S1280x2048) (h := by decide)]
  refine congrArg (fun x => k0_pay1 x (iblk m c 2 t)) ?_
  funext j
  refine congrArg (k0_pay6 _ _ _ _ _) ?_
  funext a; apply Fin.ext; rw [Rect.idx_unit_val]
  fin_cases a
  · show 0 + (j 0).val = (j 0).val; omega
  · show 0 + (j 1).val = (j 1).val; omega

/-- And in the second output the other 1024 rows times theirs. -/
theorem out8_C (t : Fin cfg0.N) (h7 : t.val % 8 = 7) :
    (outsAt0 m c t.val t.isLt).2.1
      = k0_pay2 (fun j => (outsAt0 m c t.val t.isLt).2.2.2 (ix2 ⟨(j 0).val + 256, by have : (j 0).val < 1024 := (j 0).isLt; omega⟩ (j 1))) (iblk m c 3 t) := by
  rw [acc_B m c t (by omega), outsAt0_C m c t (by omega) (by omega) h7]; frame_out
  rw [rd0, rd1, View.readCov_eq_canon', View.canon_cons_unit_lit (S := S1280x2048) (h := by decide)]
  refine congrArg (fun x => k0_pay2 x (iblk m c 3 t)) ?_
  funext j
  refine congrArg (k0_pay6 _ _ _ _ _) ?_
  funext a; apply Fin.ext; rw [Rect.idx_unit_val]
  fin_cases a
  · show 256 + (j 0).val = (j 0).val + 256; omega
  · show 0 + (j 1).val = (j 1).val; omega

end Cert.Kernel2Ideal.Ffn

end
-- ==== Proof.FfnValue.lean ====
/- The expert feed-forward call at an index: what each grid point reads, and the accumulator at the end of a run of eight. -/
module

public import proofs.«01_k».proof.Proof.FfnPieces

@[expose] public section

set_option maxRecDepth 16384

noncomputable section

namespace Cert.Kernel2Ideal.Ffn

open Cert.Kernel2Ideal Cert.Kernel2Ideal.Gen
open Idealize.ShloMosaic Idealize.ShloMosaic.TcCoe

/-- One hidden unit of the gated feed-forward layer: `silu (x · w1) * (x · w3)`. -/
def hid (x w1 w3 : Fin 2048 → EReal) : EReal :=
  (∑ j, x j * w1 j) * Ideal.logistic (∑ j, x j * w1 j) * (∑ j, x j * w3 j)

variable (m : (ℓ : Loc nD τ sig) → Buf (Elt Ideal) ℓ) (c : Dev nD)

/-- A point's term at row `r` and column `d`: its 256 hidden units times their rows of the third weight. -/
def part (w1 w3 : Vec Ideal S1x2048x256 .f32) (w2 : Vec Ideal S1x256x2048 .f32) (x : Vec Ideal S1280x2048 .bf16)
    (r : Fin 1280) (d : Fin 2048) : EReal :=
  ∑ k : Fin 256, hid (fun j => x (ix2 r j)) (fun j => w1 (ix3 0 j k)) (fun j => w3 (ix3 0 j k)) * w2 (ix3 0 k d)

/-- The accumulator after one grid point: what it held plus this slice's part. -/
theorem pay6_at (w1 w3 : Vec Ideal S1x2048x256 .f32) (w2 : Vec Ideal S1x256x2048 .f32) (x : Vec Ideal S1280x2048 .bf16)
    (acc : Vec Ideal S1280x2048 .f32) (r : Fin 1280) (d : Fin 2048) :
    k0_pay6 w1 w3 w2 x acc (ix2 r d) = acc (ix2 r d) + part w1 w3 w2 x r d := by
  unfold part hid
  pointwise [k0_pay6]

/-- The accumulator starts at zero. -/
theorem pay5_at (r : Fin 1280) (d : Fin 2048) : k0_pay5 (F := Ideal) (ix2 r d) = 0 := by
  pointwise [k0_pay5]

/-- The stored rows of the first result: the accumulated row times its gate. -/
theorem pay1_at (a : Vec Ideal S256x2048 .f32) (g : Vec Ideal S1x256x1 .f32) (r : Fin 256) (d : Fin 2048) :
    k0_pay1 a g (ix3 0 r d) = a (ix2 r d) * g (ix3 0 r 0) := by
  pointwise [k0_pay1]

/-- The stored rows of the second result: the accumulated row times its gate. -/
theorem pay2_at (a : Vec Ideal S1024x2048 .f32) (g : Vec Ideal S1x1024x1 .f32) (r : Fin 1024) (d : Fin 2048) :
    k0_pay2 a g (ix3 0 r d) = a (ix2 r d) * g (ix3 0 r 0) := by
  pointwise [k0_pay2]

/-- Which block of operand 0 a grid point reads. -/
theorem index0 : ∀ t : Fin cfg0.N, win0_0.index t = ![t.val / 16, t.val / 8 % 2, 0] :=
  (by decide +kernel : ∀ t : Fin grid0.N, _)
/-- Which block of operand 1 a grid point reads. -/
theorem index1 : ∀ t : Fin cfg0.N, win0_1.index t = ![t.val / 16, t.val / 8 % 2, 0] :=
  (by decide +kernel : ∀ t : Fin grid0.N, _)
/-- Which block of operand 2 a grid point reads. -/
theorem index2 : ∀ t : Fin cfg0.N, win0_2.index t = ![t.val / 16, t.val / 8 % 2, 0] :=
  (by decide +kernel : ∀ t : Fin grid0.N, _)
/-- Which block of operand 3 a grid point reads. -/
theorem index3 : ∀ t : Fin cfg0.N, win0_3.index t = ![t.val / 16, t.val / 8 % 2, 0] :=
  (by decide +kernel : ∀ t : Fin grid0.N, _)
/-- Which block of operand 4 a grid point reads. -/
theorem index4 : ∀ t : Fin cfg0.N, win0_4.index t = ![t.val / 16, 0, t.val % 8] :=
  (by decide +kernel : ∀ t : Fin grid0.N, _)
/-- Which block of operand 5 a grid point reads. -/
theorem index5 : ∀ t : Fin cfg0.N, win0_5.index t = ![t.val / 16, 0, t.val % 8] :=
  (by decide +kernel : ∀ t : Fin grid0.N, _)
/-- Which block of operand 6 a grid point reads. -/
theorem index6 : ∀ t : Fin cfg0.N, win0_6.index t = ![t.val / 16, t.val % 8, 0] :=
  (by decide +kernel : ∀ t : Fin grid0.N, _)

/-- The expert a point works for, the half of its rows, the slice of its hidden units. -/
def ex (t : Fin cfg0.N) : Fin 16 := ⟨t.val / 16, by have := lt_of_lt_of_eq t.isLt (show cfg0.N = 256 from N_0); omega⟩

/-- Row `r` of the first row block is row `256 h + r` of the expert's rows. -/
def row0 (t : Fin cfg0.N) (r : Fin 256) : Fin 512 := ⟨t.val / 8 % 2 * 256 + r.val, by omega⟩
/-- Row `r` of the second row block is row `1024 h + r` of the expert's rows. -/
def row1 (t : Fin cfg0.N) (r : Fin 1024) : Fin 2048 := ⟨t.val / 8 % 2 * 1024 + r.val, by omega⟩
/-- Hidden unit `k` of a point's slice is hidden unit `256 f + k`. -/
def unit (t : Fin cfg0.N) (k : Fin 256) : Fin 2048 := ⟨t.val % 8 * 256 + k.val, by omega⟩

/-- The expert of a grid point. -/
theorem ex_val (t : Fin cfg0.N) : (ex t).val = t.val / 16 := rfl
/-- The row of the first array a grid point's block row is. -/
theorem row0_val (t : Fin cfg0.N) (r : Fin 256) : (row0 t r).val = t.val / 8 % 2 * 256 + r.val := rfl
/-- The row of the second array a grid point's block row is. -/
theorem row1_val (t : Fin cfg0.N) (r : Fin 1024) : (row1 t r).val = t.val / 8 % 2 * 1024 + r.val := rfl
/-- The hidden unit a grid point's slice column is. -/
theorem unit_val (t : Fin cfg0.N) (k : Fin 256) : (unit t k).val = t.val % 8 * 256 + k.val := rfl

/-- Operand 0's block at a grid point, by its place in the whole array. -/
theorem blk0 (t : Fin cfg0.N) (r : Fin 256) (l : Fin 2048) :
    iblk m c 0 t (ix3 0 r l) = m ((c : Thread nD τ).loc main_arg0) (ix3 (ex t) (row0 t r) l) := by
  rw [← V_main_arg0 m c]
  blk_simp [iblk, index0]
  refine congrArg _ ?_
  blk_ext [index0, ex_val, row0_val]
/-- Operand 1's block at a grid point, by its place in the whole array. -/
theorem blk1 (t : Fin cfg0.N) (r : Fin 1024) (l : Fin 2048) :
    iblk m c 1 t (ix3 0 r l) = m ((c : Thread nD τ).loc main_arg1) (ix3 (ex t) (row1 t r) l) := by
  rw [← V_main_arg1 m c]
  blk_simp [iblk, index1]
  refine congrArg _ ?_
  blk_ext [index1, ex_val, row1_val]

/-- Operand 2's block at a grid point, by its place in the whole array. -/
theorem blk2 (t : Fin cfg0.N) (r : Fin 256) :
    iblk m c 2 t (ix3 0 r 0) = m ((c : Thread nD τ).loc main_arg2) (ix3 (ex t) (row0 t r) 0) := by
  rw [← V_main_arg2 m c]
  blk_simp [iblk, index2]
  refine congrArg _ ?_
  blk_ext [index2, ex_val, row0_val]
/-- Operand 3's block at a grid point, by its place in the whole array. -/
theorem blk3 (t : Fin cfg0.N) (r : Fin 1024) :
    iblk m c 3 t (ix3 0 r 0) = m ((c : Thread nD τ).loc main_arg3) (ix3 (ex t) (row1 t r) 0) := by
  rw [← V_main_arg3 m c]
  blk_simp [iblk, index3]
  refine congrArg _ ?_
  blk_ext [index3, ex_val, row1_val]

/-- A weight without its leading layer axis. -/
theorem dropLayer_at (x : Vec Ideal S1x16x2048x2048 .f32) (e : Fin 16) (j k : Fin 2048) :
    shapeCast S16x2048x2048 x shapeCasts_S1x16x2048x2048_S16x2048x2048 (ix3 e j k) = x (ix4 0 e j k) := by
  pointwise

/-- The first weight as the call finds it: the argument without its leading axis of one layer. -/
theorem V0 (e : Fin 16) (j k : Fin 2048) :
    V m c main_v0 (ix3 e j k) = m ((c : Thread nD τ).loc main_arg4) (ix4 0 e j k) := by
  have h : V m c main_v0 = shapeCast S16x2048x2048 (m ((c : Thread nD τ).loc main_arg4)) shapeCasts_S1x16x2048x2048_S16x2048x2048 := by
    show StableHlo.after hostOps0 (fun b => m (c, b)) main_v0 = _
    after_results_simp <;> rfl
  rw [h]; exact dropLayer_at _ e j k
/-- The second weight as the call reads it. -/
theorem V1 (e : Fin 16) (j k : Fin 2048) :
    V m c main_v1 (ix3 e j k) = m ((c : Thread nD τ).loc main_arg5) (ix4 0 e j k) := by
  have h : V m c main_v1 = shapeCast S16x2048x2048 (m ((c : Thread nD τ).loc main_arg5)) shapeCasts_S1x16x2048x2048_S16x2048x2048 := by
    show StableHlo.after hostOps0 (fun b => m (c, b)) main_v1 = _
    after_results_simp <;> rfl
  rw [h]; exact dropLayer_at _ e j k
/-- The third weight as the call reads it. -/
theorem V2 (e : Fin 16) (j k : Fin 2048) :
    V m c main_v2 (ix3 e j k) = m ((c : Thread nD τ).loc main_arg6) (ix4 0 e j k) := by
  have h : V m c main_v2 = shapeCast S16x2048x2048 (m ((c : Thread nD τ).loc main_arg6)) shapeCasts_S1x16x2048x2048_S16x2048x2048 := by
    show StableHlo.after hostOps0 (fun b => m (c, b)) main_v2 = _
    after_results_simp <;> rfl
  rw [h]; exact dropLayer_at _ e j k

/-- Operand 4's block at a grid point, by its place in the whole array. -/
theorem blk4 (t : Fin cfg0.N) (j : Fin 2048) (k : Fin 256) :
    iblk m c 4 t (ix3 0 j k) = m ((c : Thread nD τ).loc main_arg4) (ix4 0 (ex t) j (unit t k)) := by
  rw [← V0 m c]
  blk_simp [iblk, index4]
  refine congrArg _ ?_
  blk_ext [index4, ex_val, unit_val]
/-- Operand 5's block at a grid point, by its place in the whole array. -/
theorem blk5 (t : Fin cfg0.N) (j : Fin 2048) (k : Fin 256) :
    iblk m c 5 t (ix3 0 j k) = m ((c : Thread nD τ).loc main_arg5) (ix4 0 (ex t) j (unit t k)) := by
  rw [← V1 m c]
  blk_simp [iblk, index5]
  refine congrArg _ ?_
  blk_ext [index5, ex_val, unit_val]
/-- Operand 6's block at a grid point, by its place in the whole array. -/
theorem blk6 (t : Fin cfg0.N) (k : Fin 256) (d : Fin 2048) :
    iblk m c 6 t (ix3 0 k d) = m ((c : Thread nD τ).loc main_arg6) (ix4 0 (ex t) (unit t k) d) := by
  rw [← V2 m c]
  blk_simp [iblk, index6]
  refine congrArg _ ?_
  blk_ext [index6, ex_val, unit_val]

/-- Inside a run the row blocks do not move. -/
theorem blk01_pred (t : Fin cfg0.N) (h : ¬t.val % 8 = 0) :
    xcat (iblk m c 0 t) (iblk m c 1 t)
      = xcat (iblk m c 0 ⟨t.val - 1, Nat.lt_of_le_of_lt (Nat.sub_le _ _) t.isLt⟩)
          (iblk m c 1 ⟨t.val - 1, Nat.lt_of_le_of_lt (Nat.sub_le _ _) t.isLt⟩) := by
  have e1 : ex t = ex ⟨t.val - 1, Nat.lt_of_le_of_lt (Nat.sub_le _ _) t.isLt⟩ := Fin.ext (by simp only [ex_val]; omega)
  have e2 : t.val / 8 = (t.val - 1) / 8 := by omega
  funext y
  unfold xcat
  split
  · refine (blk0 m c t _ _).trans (Eq.trans ?_ (blk0 m c _ _ _).symm)
    rw [← e1]
    refine congrArg _ (congrArg (fun a => ix3 (ex t) a _) (Fin.ext ?_))
    simp only [row0_val]; rw [e2]
  · refine (blk1 m c t _ _).trans (Eq.trans ?_ (blk1 m c _ _ _).symm)
    rw [← e1]
    refine congrArg _ (congrArg (fun a => ix3 (ex t) a _) (Fin.ext ?_))
    simp only [row1_val]; rw [e2]

/-- The row buffer after any point holds that point's two row blocks. -/
theorem xbuf_eq (n : ℕ) (h : n < cfg0.N) :
    (outsAt0 m c n h).2.2.1 = xcat (iblk m c 0 ⟨n, h⟩) (iblk m c 1 ⟨n, h⟩) := by
  induction n with
  | zero => exact xbuf_A m c ⟨0, h⟩ rfl
  | succ n ih =>
    by_cases h0 : (n + 1) % 8 = 0
    · exact xbuf_A m c ⟨n + 1, h⟩ h0
    · exact (xbuf_B m c ⟨n + 1, h⟩ h0).trans ((ih (by omega)).trans (blk01_pred m c ⟨n + 1, h⟩ h0).symm)

/-- The term of point `t`, over its own blocks. -/
def term (t : Fin cfg0.N) (i : Fin 1280 × Fin 2048) : EReal :=
  part (iblk m c 4 t) (iblk m c 5 t) (iblk m c 6 t) (xcat (iblk m c 0 t) (iblk m c 1 t)) i.1 i.2

/-- After the last point of a run the accumulator holds the sum of the run's eight terms. -/
theorem acc_last (t : Fin cfg0.N) (h7 : t.val % 8 = 7) (r : Fin 1280) (d : Fin 2048) :
    (outsAt0 m c t.val t.isLt).2.2.2 (ix2 r d)
      = ∑ s : Fin 8, term m c ⟨8 * (t.val / 8) + s.val, Pipeline.run_point_lt_of_flush t (by omega) s⟩ (r, d) := by
  have := Pipeline.eq_sum_fin_of_reset_step_apply_of_flush
    (fun n h (i : Fin 1280 × Fin 2048) => (outsAt0 m c n h).2.2.2 (ix2 i.1 i.2)) 8 (fun _ => (0 : EReal)) (term m c)
    (fun t h i => by
      show (outsAt0 m c t.val t.isLt).2.2.2 (ix2 i.1 i.2) = _
      rw [acc_A m c t h, pay6_at, pay5_at, xbuf_A m c t h]; rfl)
    (fun t h i => by
      show (outsAt0 m c t.val t.isLt).2.2.2 (ix2 i.1 i.2) = _
      rw [acc_B m c t h, pay6_at, ← xbuf_B m c t h, xbuf_eq]; rfl) t (by omega) (r, d)
  rw [zero_add] at this
  exact this

end Cert.Kernel2Ideal.Ffn

end
-- ==== Proof.FfnResult.lean ====
/- The expert feed-forward call's two result arrays, and the reference's, as one formula. -/
module

public import proofs.«01_k».proof.Proof.FfnValue
public import proofs.«01_k».proof.Proof.Gen.Kernel2Ideal.Value
public import proofs.«01_k».proof.Proof.Gen.Reference2Ideal.Run

@[expose] public section

set_option maxRecDepth 16384

noncomputable section

namespace Cert.Kernel2Ideal.Ffn

open Cert.Kernel2Ideal Cert.Kernel2Ideal.Gen
open Idealize.ShloMosaic Idealize.ShloMosaic.TcCoe

/-- Expert `e`'s feed-forward layer on one row `x`, at column `d`: the 2048 hidden units times the third weight. -/
def ffn (w1 w3 w2 : Vec Ideal S1x16x2048x2048 .f32) (e : Fin 16) (x : Fin 2048 → EReal) (d : Fin 2048) : EReal :=
  ∑ k : Fin 2048, hid x (fun j => w1 (ix4 0 e j k)) (fun j => w3 (ix4 0 e j k)) * w2 (ix4 0 e k d)

variable (m : (ℓ : Loc nD τ sig) → Buf (Elt Ideal) ℓ) (c : Dev nD)

/-- The joined block's first 256 rows are the first array's. -/
theorem xcat_lo (x0 : Vec Ideal S1x256x2048 .bf16) (x1 : Vec Ideal S1x1024x2048 .bf16) (r : Fin 256) (l : Fin 2048) :
    xcat x0 x1 (ix2 ⟨r.val, by omega⟩ l) = x0 (ix3 0 r l) := by
  have h : (ix2 (⟨r.val, by omega⟩ : Fin 1280) l 0).val < 256 := r.isLt
  unfold xcat; rw [dif_pos h]; rfl

/-- Its remaining rows are the second array's. -/
theorem xcat_hi (x0 : Vec Ideal S1x256x2048 .bf16) (x1 : Vec Ideal S1x1024x2048 .bf16) (r : Fin 1024) (l : Fin 2048) :
    xcat x0 x1 (ix2 ⟨r.val + 256, by omega⟩ l) = x1 (ix3 0 r l) := by
  have h : ¬(ix2 (⟨r.val + 256, by omega⟩ : Fin 1280) l 0).val < 256 := by show ¬(r.val + 256 < 256); omega
  unfold xcat; rw [dif_neg h]
  refine congrArg x1 (congrArg (fun a => ix3 0 a l) (Fin.ext ?_))
  show r.val + 256 - 256 = r.val; omega

/-- A run's eight terms of a row sum to the whole layer on that row: the 2048 hidden units in eight slices of 256. -/
theorem sum_terms (t : Fin cfg0.N) (h7 : t.val % 8 = 7) (r : Fin 1280) (d : Fin 2048) (x : Fin 2048 → EReal)
    (hx : ∀ (t' : Fin cfg0.N) (j : Fin 2048), t'.val / 8 = t.val / 8 →
      xcat (iblk m c 0 t') (iblk m c 1 t') (ix2 r j) = x j) :
    ∑ s : Fin 8, term m c ⟨8 * (t.val / 8) + s.val, Pipeline.run_point_lt_of_flush t (by omega) s⟩ (r, d)
      = ffn (m ((c : Thread nD τ).loc main_arg4)) (m ((c : Thread nD τ).loc main_arg5)) (m ((c : Thread nD τ).loc main_arg6))
          (ex t) x d := by
  unfold ffn
  refine Fin.sum_mul_add_congr (fun s k hl => ?_)
  have hs : (8 * (t.val / 8) + s.val) / 8 = t.val / 8 := by omega
  have he : ex ⟨8 * (t.val / 8) + s.val, Pipeline.run_point_lt_of_flush t (by omega) s⟩ = ex t := Fin.ext (by simp only [ex_val]; omega)
  have hu : unit ⟨8 * (t.val / 8) + s.val, Pipeline.run_point_lt_of_flush t (by omega) s⟩ k = ⟨s.val * 256 + k.val, hl⟩ :=
    Fin.ext (by simp only [unit_val]; omega)
  dsimp only
  rw [blk6, he, hu]
  refine congrArg (· * _) ?_
  congr 1
  · funext j; exact hx _ j hs
  · funext j; rw [blk4, he, hu]
  · funext j; rw [blk5, he, hu]

/-- The first result at row `r` of expert `e`: the layer on that row, times its gate. -/
theorem G7_at (e : Fin 16) (r : Fin 512) (d : Fin 2048) :
    Value.G7 m c (ix3 e r d)
      = ffn (m ((c : Thread nD τ).loc main_arg4)) (m ((c : Thread nD τ).loc main_arg5)) (m ((c : Thread nD τ).loc main_arg6))
          e (fun j => m ((c : Thread nD τ).loc main_arg0) (ix3 e r j)) d
        * m ((c : Thread nD τ).loc main_arg2) (ix3 e r 0) := by
  have hN : cfg0.N = 256 := N_0
  have ht : 8 * (2 * e.val + r.val / 256) + 7 < cfg0.N := by omega
  obtain ⟨t, rfl⟩ : ∃ t : Fin cfg0.N, t = ⟨8 * (2 * e.val + r.val / 256) + 7, ht⟩ := ⟨_, rfl⟩
  generalize htt : (⟨8 * (2 * e.val + r.val / 256) + 7, ht⟩ : Fin cfg0.N) = t
  have htv : t.val = 8 * (2 * e.val + r.val / 256) + 7 := by rw [← htt]
  have hp : Value.pt7Of (ix3 e r d) = t.val := by
    show 8 * (2 * (e.val / 1 - 0) + 1 * (r.val / 256 - 0) + 1 * (d.val / 2048 - 0)) + 7 = _
    omega
  have hl : Value.loc7Of (ix3 e r d) = ix3 0 (⟨r.val % 256, by omega⟩ : Fin 256) d := by
    funext a; apply Fin.ext
    fin_cases a
    · show e.val % 1 = 0; omega
    · rfl
    · show d.val % 2048 = d.val; omega
  have he : ex t = e := Fin.ext (by simp only [ex_val]; omega)
  have hr : ∀ t' : Fin cfg0.N, t'.val / 8 = t.val / 8 → row0 t' (⟨r.val % 256, by omega⟩ : Fin 256) = r := fun t' h =>
    Fin.ext (by simp only [row0_val]; omega)
  have hee : ∀ t' : Fin cfg0.N, t'.val / 8 = t.val / 8 → ex t' = e := fun t' h =>
    Fin.ext (by simp only [ex_val]; omega)
  have key : Value.G7 m c (ix3 e r d) = (outsAt0 m c t.val t.isLt).1 (ix3 0 (⟨r.val % 256, by omega⟩ : Fin 256) d) := by
    have hlt : Value.pt7Of (ix3 e r d) < cfg0.N := hp ▸ t.isLt
    unfold Value.G7
    rw [dif_pos hlt, hl, ← Value.outsAt0_sweep m c _ hlt]
    have : ∀ (n : ℕ) (h : n < cfg0.N) (h' : n = t.val), (outsAt0 m c n h).1 = (outsAt0 m c t.val t.isLt).1 := by
      intro n h h'; subst h'; rfl
    rw [this _ _ hp]
  rw [key, out7_C m c t (by omega), pay1_at, blk2, he, hr t rfl]
  refine congrArg (· * _) ?_
  refine (acc_last m c t (by omega) _ d).trans ?_
  rw [sum_terms m c t (by omega) _ d (fun j => m ((c : Thread nD τ).loc main_arg0) (ix3 e r j)) (fun t' j h => by
    refine (xcat_lo _ _ (⟨r.val % 256, by omega⟩ : Fin 256) j).trans ?_
    rw [blk0, hr t' h, hee t' h]), he]

/-- The second result at row `r` of expert `e`: the layer on that row, times its gate. -/
theorem G8_at (e : Fin 16) (r : Fin 2048) (d : Fin 2048) :
    Value.G8 m c (ix3 e r d)
      = ffn (m ((c : Thread nD τ).loc main_arg4)) (m ((c : Thread nD τ).loc main_arg5)) (m ((c : Thread nD τ).loc main_arg6))
          e (fun j => m ((c : Thread nD τ).loc main_arg1) (ix3 e r j)) d
        * m ((c : Thread nD τ).loc main_arg3) (ix3 e r 0) := by
  have hN : cfg0.N = 256 := N_0
  have ht : 8 * (2 * e.val + r.val / 1024) + 7 < cfg0.N := by omega
  obtain ⟨t, rfl⟩ : ∃ t : Fin cfg0.N, t = ⟨8 * (2 * e.val + r.val / 1024) + 7, ht⟩ := ⟨_, rfl⟩
  generalize htt : (⟨8 * (2 * e.val + r.val / 1024) + 7, ht⟩ : Fin cfg0.N) = t
  have htv : t.val = 8 * (2 * e.val + r.val / 1024) + 7 := by rw [← htt]
  have hp : Value.pt8Of (ix3 e r d) = t.val := by
    show 8 * (2 * (e.val / 1 - 0) + 1 * (r.val / 1024 - 0) + 1 * (d.val / 2048 - 0)) + 7 = _
    omega
  have hl : Value.loc8Of (ix3 e r d) = ix3 0 (⟨r.val % 1024, by omega⟩ : Fin 1024) d := by
    funext a; apply Fin.ext
    fin_cases a
    · show e.val % 1 = 0; omega
    · rfl
    · show d.val % 2048 = d.val; omega
  have he : ex t = e := Fin.ext (by simp only [ex_val]; omega)
  have hr : ∀ t' : Fin cfg0.N, t'.val / 8 = t.val / 8 → row1 t' (⟨r.val % 1024, by omega⟩ : Fin 1024) = r := fun t' h =>
    Fin.ext (by simp only [row1_val]; omega)
  have hee : ∀ t' : Fin cfg0.N, t'.val / 8 = t.val / 8 → ex t' = e := fun t' h =>
    Fin.ext (by simp only [ex_val]; omega)
  have key : Value.G8 m c (ix3 e r d) = (outsAt0 m c t.val t.isLt).2.1 (ix3 0 (⟨r.val % 1024, by omega⟩ : Fin 1024) d) := by
    have hlt : Value.pt8Of (ix3 e r d) < cfg0.N := hp ▸ t.isLt
    unfold Value.G8
    rw [dif_pos hlt, hl, ← Value.outsAt0_sweep m c _ hlt]
    have : ∀ (n : ℕ) (h : n < cfg0.N) (h' : n = t.val), (outsAt0 m c n h).2.1 = (outsAt0 m c t.val t.isLt).2.1 := by
      intro n h h'; subst h'; rfl
    rw [this _ _ hp]
  rw [key, out8_C m c t (by omega), pay2_at, blk3, he, hr t rfl]
  refine congrArg (· * _) ?_
  refine (acc_last m c t (by omega) _ d).trans ?_
  rw [sum_terms m c t (by omega) _ d (fun j => m ((c : Thread nD τ).loc main_arg1) (ix3 e r j)) (fun t' j h => by
    refine (xcat_hi _ _ (⟨r.val % 1024, by omega⟩ : Fin 1024) j).trans ?_
    rw [blk1, hr t' h, hee t' h]), he]

end Cert.Kernel2Ideal.Ffn

namespace Cert.Reference2Ideal.Ffn

open Cert.Reference2Ideal Cert.Reference2Ideal.Facts Cert.Reference2Ideal.Gen
open Idealize.ShloMosaic Idealize.ShloMosaic.TcCoe
open Cert.Kernel2Ideal.Ffn (hid ffn)

variable (w1 w3 w2 : Vec Ideal S1x16x2048x2048 .f32)

/-- A weight without its leading layer axis, as the reference reads it. -/
abbrev wt (w : Vec Ideal S1x16x2048x2048 .f32) : FVec Ideal S16x2048x2048 .f32 :=
  shapeCast S16x2048x2048 w shapeCasts_S1x16x2048x2048_S16x2048x2048

/-- That weight at an index. -/
theorem wt_at (w : Vec Ideal S1x16x2048x2048 .f32) (e : Fin 16) (j k : Fin 2048) : wt w (ix3 e j k) = w (ix4 0 e j k) := by
  pointwise [wt]

/-- The reference's first result as its operations' term. -/
abbrev term0 (x : Vec Ideal S16x512x2048 .bf16) (g : Vec Ideal S16x512x1 .f32) : FVec Ideal S16x512x2048 .bf16 :=
  truncf .bf16 (mulf (Host.dotGeneral dot_S16x512x2048_S16x2048x2048_S16x512x2048_2_1_1_2_0_0 none (mulf (mulf (Host.dotGeneral dot_S16x512x2048_S16x2048x2048_S16x512x2048_2_1_1_2_0_0 none (extf .f32 x bitsLt_bf16_f32) (wt w1)) (Host.divf (broadcastInDim S16x512x2048 ![] bcast_S_S16x512x2048 (constant S_ .f32 0x3F800000#32)) (addf (broadcastInDim S16x512x2048 ![] bcast_S_S16x512x2048 (constant S_ .f32 0x3F800000#32)) (Host.exp (Host.negf (Host.dotGeneral dot_S16x512x2048_S16x2048x2048_S16x512x2048_2_1_1_2_0_0 none (extf .f32 x bitsLt_bf16_f32) (wt w1))))))) (Host.dotGeneral dot_S16x512x2048_S16x2048x2048_S16x512x2048_2_1_1_2_0_0 none (extf .f32 x bitsLt_bf16_f32) (wt w3))) (wt w2)) (broadcastInDim S16x512x2048 ![0, 1, 2] bcast_S16x512x1_S16x512x2048_0_1_2 g)) bitsLt_bf16_f32

/-- The reference's first result at an index. -/
theorem term0_at (x : Vec Ideal S16x512x2048 .bf16) (g : Vec Ideal S16x512x1 .f32) (e : Fin 16) (r : Fin 512) (d : Fin 2048) :
    term0 w1 w3 w2 x g (ix3 e r d) = ffn w1 w3 w2 e (fun j => x (ix3 e r j)) d * g (ix3 e r 0) := by
  unfold ffn hid
  pointwise [term0, wt]
  rfl

/-- The reference's second result as its operations' term. -/
abbrev term1 (x : Vec Ideal S16x2048x2048 .bf16) (g : Vec Ideal S16x2048x1 .f32) : FVec Ideal S16x2048x2048 .bf16 :=
  truncf .bf16 (mulf (Host.dotGeneral dot_S16x2048x2048_S16x2048x2048_S16x2048x2048_2_1_1_2_0_0 none (mulf (mulf (Host.dotGeneral dot_S16x2048x2048_S16x2048x2048_S16x2048x2048_2_1_1_2_0_0 none (extf .f32 x bitsLt_bf16_f32) (wt w1)) (Host.divf (broadcastInDim S16x2048x2048 ![] bcast_S_S16x2048x2048 (constant S_ .f32 0x3F800000#32)) (addf (broadcastInDim S16x2048x2048 ![] bcast_S_S16x2048x2048 (constant S_ .f32 0x3F800000#32)) (Host.exp (Host.negf (Host.dotGeneral dot_S16x2048x2048_S16x2048x2048_S16x2048x2048_2_1_1_2_0_0 none (extf .f32 x bitsLt_bf16_f32) (wt w1))))))) (Host.dotGeneral dot_S16x2048x2048_S16x2048x2048_S16x2048x2048_2_1_1_2_0_0 none (extf .f32 x bitsLt_bf16_f32) (wt w3))) (wt w2)) (broadcastInDim S16x2048x2048 ![0, 1, 2] bcast_S16x2048x1_S16x2048x2048_0_1_2 g)) bitsLt_bf16_f32

/-- The reference's second result at an index. -/
theorem term1_at (x : Vec Ideal S16x2048x2048 .bf16) (g : Vec Ideal S16x2048x1 .f32) (e : Fin 16) (r : Fin 2048) (d : Fin 2048) :
    term1 w1 w3 w2 x g (ix3 e r d) = ffn w1 w3 w2 e (fun j => x (ix3 e r j)) d * g (ix3 e r 0) := by
  unfold ffn hid
  pointwise [term1, wt]
  rfl

end Cert.Reference2Ideal.Ffn

end
-- ==== Proof.FfnClaims.lean ====
/- The claims about the expert feed-forward call: the frames of the three programs, and the equality of results. -/
module

public import proofs.«01_k».proof.Defs
public import proofs.«01_k».proof.Proof.FfnResult
public import proofs.«01_k».proof.Proof.Gen.Kernel2.Frame
public import Idealize.ShloMosaic.Adequacy
public import Idealize.ShloMosaic.Init

@[expose] public section

set_option maxRecDepth 16384

noncomputable section

namespace Cert.Proof.FfnClaims

open Idealize.ShloMosaic Idealize.ShloMosaic.TcCoe Idealize.SL.Sem

/-- The kernel as printed runs, leaves its arguments as they were and every semaphore at zero. -/
theorem frame_p : Cert.quiescent_Kernel2 := fun m ρ _ => Cert.Kernel2.Gen.frame m ρ

/-- The same of the kernel read over the extended reals. -/
theorem frame_pi : Cert.quiescent_Kernel2Ideal := fun m ρ _ => Cert.Kernel2Ideal.Gen.frame m ρ

/-- The reference runs, leaves its arguments as they were, and has no semaphore. -/
theorem frame_ri : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- No operation was rewritten. -/
theorem preserves : Cert.preserves_Kernel2_Kernel2Ideal := trivial

/-- The reference's first term is the kernel's first result array, of the same arguments. -/
theorem first_eq (m : (ℓ : Loc Cert.Kernel2Ideal.nD Cert.Kernel2Ideal.τ Cert.Kernel2Ideal.sig) → Buf (Elt Ideal) ℓ)
    (c : Dev Cert.Kernel2Ideal.nD) :
    Cert.Reference2Ideal.Ffn.term0 (m ((c : Thread Cert.Kernel2Ideal.nD Cert.Kernel2Ideal.τ).loc Cert.Kernel2Ideal.main_arg4))
        (m ((c : Thread Cert.Kernel2Ideal.nD Cert.Kernel2Ideal.τ).loc Cert.Kernel2Ideal.main_arg5))
        (m ((c : Thread Cert.Kernel2Ideal.nD Cert.Kernel2Ideal.τ).loc Cert.Kernel2Ideal.main_arg6))
        (m ((c : Thread Cert.Kernel2Ideal.nD Cert.Kernel2Ideal.τ).loc Cert.Kernel2Ideal.main_arg0))
        (m ((c : Thread Cert.Kernel2Ideal.nD Cert.Kernel2Ideal.τ).loc Cert.Kernel2Ideal.main_arg2))
      = Cert.Kernel2Ideal.Value.G7 m c := by
  funext i
  rw [eq_ix3 i]
  exact (Cert.Reference2Ideal.Ffn.term0_at _ _ _ _ _ (i 0) (i 1) (i 2)).trans
    (Cert.Kernel2Ideal.Ffn.G7_at m c (i 0) (i 1) (i 2)).symm

/-- The reference's second term is the kernel's second result array, of the same arguments. -/
theorem second_eq (m : (ℓ : Loc Cert.Kernel2Ideal.nD Cert.Kernel2Ideal.τ Cert.Kernel2Ideal.sig) → Buf (Elt Ideal) ℓ)
    (c : Dev Cert.Kernel2Ideal.nD) :
    Cert.Reference2Ideal.Ffn.term1 (m ((c : Thread Cert.Kernel2Ideal.nD Cert.Kernel2Ideal.τ).loc Cert.Kernel2Ideal.main_arg4))
        (m ((c : Thread Cert.Kernel2Ideal.nD Cert.Kernel2Ideal.τ).loc Cert.Kernel2Ideal.main_arg5))
        (m ((c : Thread Cert.Kernel2Ideal.nD Cert.Kernel2Ideal.τ).loc Cert.Kernel2Ideal.main_arg6))
        (m ((c : Thread Cert.Kernel2Ideal.nD Cert.Kernel2Ideal.τ).loc Cert.Kernel2Ideal.main_arg1))
        (m ((c : Thread Cert.Kernel2Ideal.nD Cert.Kernel2Ideal.τ).loc Cert.Kernel2Ideal.main_arg3))
      = Cert.Kernel2Ideal.Value.G8 m c := by
  funext i
  rw [eq_ix3 i]
  exact (Cert.Reference2Ideal.Ffn.term1_at _ _ _ _ _ (i 0) (i 1) (i 2)).trans
    (Cert.Kernel2Ideal.Ffn.G8_at m c (i 0) (i 1) (i 2)).symm

/-- Both programs end with the same two arrays: of every row, the expert's feed-forward layer times the row's gate. -/
theorem algebraic : Cert.algebraic_Kernel2Ideal_Reference2Ideal := by
  intro m ρ m' ρ' _ hagree
  refine ⟨_, _, Cert.Kernel2Ideal.Value.run (F := Ideal) m ρ, ?_⟩
  refine (θ_run Cert.Reference2Ideal.defs _ _).mono (fun _ h c => ⟨(h c).1.trans ?_, (h c).2.1.trans ?_, (h c).2.2⟩)
    (Cert.Reference2Ideal.Value.run (F := Ideal) m' ρ')
  · rw [(hagree c).1, (hagree c).2.2.1, (hagree c).2.2.2.2.1, (hagree c).2.2.2.2.2.1, (hagree c).2.2.2.2.2.2]
    exact first_eq m c
  · rw [(hagree c).2.1, (hagree c).2.2.2.1, (hagree c).2.2.2.2.1, (hagree c).2.2.2.2.2.1, (hagree c).2.2.2.2.2.2]
    exact second_eq m c

end Cert.Proof.FfnClaims

end
-- ==== Proof.RgSpec.lean ====
module

public import proofs.«01_k».proof.Proof.Gen.KernelIdeal.Frame
public import proofs.«01_k».proof.Proof.Gen.KernelIdeal.Loops

/-!
# What one grid point of the recurrence computes

One grid point holds one slab of 128 lanes over all 256 time steps of 16 batch rows (row `16 t + r` is
time `t`, batch row `r`). The body walks the time axis in chunks of 32 steps, from both ends at once:
a first loop of four trips stores the two states, a second loop of four trips adds the stored state of
the other direction and multiplies by the gate. Here are these values as functions of the blocks alone,
without a mention of memory.
-/

@[expose] public section
set_option maxRecDepth 65536

noncomputable section

namespace Cert.KernelIdeal.Rg
open Idealize.ShloMosaic Idealize.ShloMosaic.TcCoe
open Cert.KernelIdeal Cert.KernelIdeal.Facts Cert.KernelIdeal.Gen

variable {F : FTy → Type} [FloatOps F] [Named F]

/-- What a load of a rectangle reads out of a block. -/
def ld {α : Type} {s : Shape} (x : s.Idx → α) (r : LoadRect s) : r.shape.Idx → α := fun i => x (r.idx i)

/-- What the body reads once per grid point: the four taps and the bias of the convolution, half the
exponent of the decay, the gate weights and the gate biases, forward and backward. -/
structure Consts (F : FTy → Type) [FloatOps F] where
  c0 : FVec F S1x128 .f32
  c1 : FVec F S1x128 .f32
  c2 : FVec F S1x128 .f32
  c3 : FVec F S1x128 .f32
  cb : FVec F S1x128 .f32
  hf : FVec F S1x128 .f32
  hb : FVec F S1x128 .f32
  wf : Vec F S1x1x128x256 .bf16
  wb : Vec F S1x1x128x256 .bf16
  bf : Vec F S1x1x1x256 .f32
  bb : Vec F S1x1x1x256 .f32

/-- A chunk with one step before it and two after it; the margin is kept where
the given bit is one and is zero where it is zero. -/
def ext (mp mn : BitVec 1) (cur : Vec F S1x512x128 .f32) (prv : Vec F S1x16x128 .f32) (nxt : Vec F S1x32x128 .f32) :
    FVec F S560x128 .f32 :=
  concatenate S560x128 0 [⟨S16x128, mulf (shapeCast S16x128 prv shapeCasts_S1x16x128_S16x128)
      (broadcast S16x128 (Scalar.select mp (Scalar.ofBits .f32 0x3F800000#32) (Scalar.ofBits .f32 0x00000000#32)))⟩,
    ⟨S512x128, shapeCast S512x128 cur shapeCasts_S1x512x128_S512x128⟩,
    ⟨S32x128, mulf (shapeCast S32x128 nxt shapeCasts_S1x32x128_S32x128)
      (broadcast S32x128 (Scalar.select mn (Scalar.ofBits .f32 0x3F800000#32) (Scalar.ofBits .f32 0x00000000#32)))⟩]
    concatenates_S16x128_S512x128_S32x128_S560x128_d0

/-- The convolution of four taps along time. -/
def conv (p : Consts F) (e : FVec F S560x128 .f32) : FVec F S512x128 .f32 :=
  addf (addf (addf (addf
    (mulf (broadcastTo S512x128 p.c0 broadcasts_S1x128_S512x128) (extractStridedSlice S512x128 ![0, 0] e slices_S560x128_o0_0_S512x128))
    (mulf (broadcastTo S512x128 p.c1 broadcasts_S1x128_S512x128) (extractStridedSlice S512x128 ![16, 0] e slices_S560x128_o16_0_S512x128)))
    (mulf (broadcastTo S512x128 p.c2 broadcasts_S1x128_S512x128) (extractStridedSlice S512x128 ![32, 0] e slices_S560x128_o32_0_S512x128)))
    (mulf (broadcastTo S512x128 p.c3 broadcasts_S1x128_S512x128) (extractStridedSlice S512x128 ![48, 0] e slices_S560x128_o48_0_S512x128)))
    (broadcastTo S512x128 p.cb broadcasts_S1x128_S512x128)

/-- The two gates of one direction, as hyperbolic tangents of half their arguments. -/
def gates (xc : FVec F S512x128 .f32) (w : Vec F S1x1x128x256 .bf16) (b : Vec F S1x1x1x256 .f32) : FVec F S512x256 .f32 :=
  tanh (addf (matmul dot_S512x128_S128x256_S512x256_1_0_0_1_n_n none (truncf .bf16 xc bitsLt_bf16_f32)
      (shapeCast S128x256 w shapeCasts_S1x1x128x256_S128x256) (constant S512x256 .f32 0x00000000#32))
    (broadcastTo S512x256 (shapeCast S1x256 b shapeCasts_S1x1x1x256_S1x256) broadcasts_S1x256_S512x256))

/-- The decay of the state. -/
def decay (hl : FVec F S1x128 .f32) (g : FVec F S512x256 .f32) : FVec F S512x128 .f32 :=
  exp2 (addf (broadcastTo S512x128 hl broadcasts_S1x128_S512x128)
    (mulf (broadcastTo S512x128 hl broadcasts_S1x128_S512x128)
      (extractStridedSlice S512x128 ![0, 0] g slices_S512x256_o0_0_S512x128)))

/-- What enters the state. -/
def drive (a : FVec F S512x128 .f32) (g : FVec F S512x256 .f32) (xc : FVec F S512x128 .f32) : FVec F S512x128 .f32 :=
  let om := subf (broadcast S512x128 (Scalar.ofBits .f32 0x3F800000#32)) (mulf a a)
  mulf (select (cmpf .ogt om (broadcast S512x128 (Scalar.ofBits .f32 0x00000000#32))) (mulf om (rsqrt om))
      (broadcast S512x128 (Scalar.ofBits .f32 0x00000000#32)))
    (mulf (addf (broadcast S512x128 (Scalar.ofBits .f32 0x3F000000#32)) (mulf (broadcast S512x128 (Scalar.ofBits .f32 0x3F000000#32))
      (extractStridedSlice S512x128 ![0, 128] g slices_S512x256_o0_128_S512x128))) xc)

def chAf (p : Consts F) (e : FVec F S560x128 .f32) : FVec F S512x128 .f32 := decay p.hf (gates (conv p e) p.wf p.bf)
def chBf (p : Consts F) (e : FVec F S560x128 .f32) : FVec F S512x128 .f32 := drive (chAf p e) (gates (conv p e) p.wf p.bf) (conv p e)
def chAb (p : Consts F) (e : FVec F S560x128 .f32) : FVec F S512x128 .f32 := decay p.hb (gates (conv p e) p.wb p.bb)
def chBb (p : Consts F) (e : FVec F S560x128 .f32) : FVec F S512x128 .f32 := drive (chAb p e) (gates (conv p e) p.wb p.bb) (conv p e)

/-- The chunk the first loop takes forward at trip `k`. -/
def e1f (x : Vec F S1x4096x128 .f32) (k : Fin k0_t1_loop.trips) : FVec F S560x128 .f32 :=
  ext (Scalar.cmpi .sgt (Scalar.muli (Scf.iv 0#32 1#32 k) 32#32) 0#32) 1#1
    (ld x (Rect.unit (s := S1x4096x128) (k0_off1 k) S1x512x128.size (k0_off1_inb k)).toLoadRect)
    (ld x (Rect.unit (s := S1x4096x128) (k0_off2 k) S1x16x128.size (k0_off2_inb k)).toLoadRect)
    (ld x (Rect.unit (s := S1x4096x128) (k0_off3 k) S1x32x128.size (k0_off3_inb k)).toLoadRect)
/-- The chunk the first loop takes backward at trip `k`. -/
def e1b (x : Vec F S1x4096x128 .f32) (k : Fin k0_t1_loop.trips) : FVec F S560x128 .f32 :=
  ext 1#1 (Scalar.cmpi .slt (Scalar.addi (Scalar.muli (Scalar.subi 7#32 (Scf.iv 0#32 1#32 k)) 32#32) 32#32) 256#32)
    (ld x (Rect.unit (s := S1x4096x128) (k0_off4 k) S1x512x128.size (k0_off4_inb k)).toLoadRect)
    (ld x (Rect.unit (s := S1x4096x128) (k0_off5 k) S1x16x128.size (k0_off5_inb k)).toLoadRect)
    (ld x (Rect.unit (s := S1x4096x128) (k0_off6 k) S1x32x128.size (k0_off6_inb k)).toLoadRect)
/-- The chunk the second loop takes forward at trip `k`. -/
def e2f (x : Vec F S1x4096x128 .f32) (k : Fin k0_t2_loop.trips) : FVec F S560x128 .f32 :=
  ext 1#1 (Scalar.cmpi .slt (Scalar.addi (Scalar.muli (Scf.iv 4#32 1#32 k) 32#32) 32#32) 256#32)
    (ld x (Rect.unit (s := S1x4096x128) (k0_off9 k) S1x512x128.size (k0_off9_inb k)).toLoadRect)
    (ld x (Rect.unit (s := S1x4096x128) (k0_off10 k) S1x16x128.size (k0_off10_inb k)).toLoadRect)
    (ld x (Rect.unit (s := S1x4096x128) (k0_off11 k) S1x32x128.size (k0_off11_inb k)).toLoadRect)
/-- The chunk the second loop takes backward at trip `k`. -/
def e2b (x : Vec F S1x4096x128 .f32) (k : Fin k0_t2_loop.trips) : FVec F S560x128 .f32 :=
  ext (Scalar.cmpi .sgt (Scalar.muli (Scalar.subi 7#32 (Scf.iv 4#32 1#32 k)) 32#32) 0#32) 1#1
    (ld x (Rect.unit (s := S1x4096x128) (k0_off12 k) S1x512x128.size (k0_off12_inb k)).toLoadRect)
    (ld x (Rect.unit (s := S1x4096x128) (k0_off13 k) S1x16x128.size (k0_off13_inb k)).toLoadRect)
    (ld x (Rect.unit (s := S1x4096x128) (k0_off14 k) S1x32x128.size (k0_off14_inb k)).toLoadRect)

/-- Sixteen rows, a time step, lie inside a chunk. -/
theorem slices16 (t : Fin 32) : S512x128.Slices ![16 * t.val, 0] S16x128 := by
  revert t; decide

/-- Step `t` of a chunk. -/
def row (t : Fin 32) (a : FVec F S512x128 .f32) : FVec F S16x128 .f32 :=
  extractStridedSlice S16x128 ![16 * t.val, 0] a (slices16 t)

/-- The step the forward scan takes after `n` steps, and the backward scan. -/
def tF (n : ℕ) : Fin 32 := ⟨n % 32, Nat.mod_lt _ (by decide)⟩
def tB (n : ℕ) : Fin 32 := ⟨31 - n % 32, by omega⟩

/-- The state after `n` forward steps of a chunk. -/
def scF (a b : FVec F S512x128 .f32) (h : FVec F S16x128 .f32) : ℕ → FVec F S16x128 .f32
  | 0 => h
  | n + 1 => addf (mulf (row (tF n) a) (scF a b h n)) (row (tF n) b)

/-- The state after `n` backward steps of a chunk. -/
def scB (a b : FVec F S512x128 .f32) (h : FVec F S16x128 .f32) : ℕ → FVec F S16x128 .f32
  | 0 => h
  | n + 1 => addf (mulf (row (tB n) a) (scB a b h n)) (row (tB n) b)

/-- A state as it is stored. -/
def put (h : FVec F S16x128 .f32) : FVec F S1x16x128 .f32 := shapeCast S1x16x128 h shapeCasts_S16x128_S1x16x128

abbrev Pc (F : FTy → Type) [FloatOps F] := View.Piece (Elt F) S1x4096x128 .f32

/-- What the first loop stores in `n` steps of a trip, the last store first. -/
def list1 (k : Fin k0_t1_loop.trips) (aF bF aB bB : FVec F S512x128 .f32) (h : FVec F S16x128 .f32 × FVec F S16x128 .f32) :
    ℕ → List (Pc F)
  | 0 => []
  | n + 1 =>
    ⟨Rect.unit (s := S1x4096x128) (k0_off8 k (BitVec.ofNat 32 (16 * (tB n).val))) S1x16x128.size (k0_off8_inb k (tB n)), put (scB aB bB h.2 (n + 1))⟩ ::
    ⟨Rect.unit (s := S1x4096x128) (k0_off7 k (BitVec.ofNat 32 (16 * (tF n).val))) S1x16x128.size (k0_off7_inb k (tF n)), put (scF aF bF h.1 (n + 1))⟩ ::
    list1 k aF bF aB bB h n

/-- What the second loop stores in `n` steps of a trip, the last store first: the sum of the two states
times the gate. -/
def list2 (k : Fin k0_t2_loop.trips) (aF bF aB bB oF oB gF gB : FVec F S512x128 .f32) (h : FVec F S16x128 .f32 × FVec F S16x128 .f32) :
    ℕ → List (Pc F)
  | 0 => []
  | n + 1 =>
    ⟨Rect.unit (s := S1x4096x128) (k0_off16 k (BitVec.ofNat 32 (16 * (tB n).val))) S1x16x128.size (k0_off16_inb k (tB n)),
      put (mulf (addf (row (tB n) oB) (scB aB bB h.2 (n + 1))) (row (tB n) gB))⟩ ::
    ⟨Rect.unit (s := S1x4096x128) (k0_off15 k (BitVec.ofNat 32 (16 * (tF n).val))) S1x16x128.size (k0_off15_inb k (tF n)),
      put (mulf (addf (row (tF n) oF) (scF aF bF h.1 (n + 1))) (row (tF n) gF))⟩ ::
    list2 k aF bF aB bB oF oB gF gB h n

def trip1R (p : Consts F) (x : Vec F S1x4096x128 .f32) (k : Fin k0_t1_loop.trips) (h : FVec F S16x128 .f32 × FVec F S16x128 .f32) :
    FVec F S16x128 .f32 × FVec F S16x128 .f32 :=
  (scF (chAf p (e1f x k)) (chBf p (e1f x k)) h.1 32, scB (chAb p (e1b x k)) (chBb p (e1b x k)) h.2 32)
def trip1L (p : Consts F) (x : Vec F S1x4096x128 .f32) (k : Fin k0_t1_loop.trips) (h : FVec F S16x128 .f32 × FVec F S16x128 .f32) :
    List (Pc F) :=
  list1 k (chAf p (e1f x k)) (chBf p (e1f x k)) (chAb p (e1b x k)) (chBb p (e1b x k)) h 32
def trip2R (p : Consts F) (x : Vec F S1x4096x128 .f32) (k : Fin k0_t2_loop.trips) (h : FVec F S16x128 .f32 × FVec F S16x128 .f32) :
    FVec F S16x128 .f32 × FVec F S16x128 .f32 :=
  (scF (chAf p (e2f x k)) (chBf p (e2f x k)) h.1 32, scB (chAb p (e2b x k)) (chBb p (e2b x k)) h.2 32)
/-- The rows of a whole block that belong to the chunk of the second loop, forward and backward. -/
def curF (y : Vec F S1x4096x128 .f32) (k : Fin k0_t2_loop.trips) : FVec F S512x128 .f32 :=
  shapeCast S512x128 (show Vec F S1x512x128 .f32 from ld y (Rect.unit (s := S1x4096x128) (k0_off9 k) S1x512x128.size (k0_off9_inb k)).toLoadRect) shapeCasts_S1x512x128_S512x128
def curB (y : Vec F S1x4096x128 .f32) (k : Fin k0_t2_loop.trips) : FVec F S512x128 .f32 :=
  shapeCast S512x128 (show Vec F S1x512x128 .f32 from ld y (Rect.unit (s := S1x4096x128) (k0_off12 k) S1x512x128.size (k0_off12_inb k)).toLoadRect) shapeCasts_S1x512x128_S512x128
def trip2L (p : Consts F) (x g y : Vec F S1x4096x128 .f32) (k : Fin k0_t2_loop.trips) (h : FVec F S16x128 .f32 × FVec F S16x128 .f32) :
    List (Pc F) :=
  list2 k (chAf p (e2f x k)) (chBf p (e2f x k)) (chAb p (e2b x k)) (chBb p (e2b x k)) (curF y k) (curB y k) (curF g k) (curB g k) h 32

/-- The constants out of the blocks. -/
def consts (x2 : Vec F S4x128 .f32) (x3 : Vec F S1x128 .f32) (x4 : Vec F S1x2x128x256 .bf16) (x5 : Vec F S1x2x1x256 .f32) (x6 : Vec F S2x128 .f32) : Consts F where
  c0 := k0_pay319 (ld x2 (Rect.unit (s := S4x128) ![0, 0] S1x128.size inb_S4x128_S1x128_0_0).toLoadRect)
  c1 := k0_pay320 (ld x2 (Rect.unit (s := S4x128) ![1, 0] S1x128.size inb_S4x128_S1x128_1_0).toLoadRect)
  c2 := k0_pay321 (ld x2 (Rect.unit (s := S4x128) ![2, 0] S1x128.size inb_S4x128_S1x128_2_0).toLoadRect)
  c3 := k0_pay322 (ld x2 (Rect.unit (s := S4x128) ![3, 0] S1x128.size inb_S4x128_S1x128_3_0).toLoadRect)
  cb := k0_pay323 (ld x3 (Rect.unit (s := S1x128) ![0, 0] S1x128.size inb_S1x128_S1x128_0_0).toLoadRect)
  hf := k0_pay324 (ld x6 (Rect.unit (s := S2x128) ![0, 0] S1x128.size inb_S2x128_S1x128_0_0).toLoadRect)
  hb := k0_pay324 (ld x6 (Rect.unit (s := S2x128) ![1, 0] S1x128.size inb_S2x128_S1x128_1_0).toLoadRect)
  wf := ld x4 (Rect.unit (s := S1x2x128x256) ![0, 0, 0, 0] S1x1x128x256.size inb_S1x2x128x256_S1x1x128x256_0_0_0_0).toLoadRect
  wb := ld x4 (Rect.unit (s := S1x2x128x256) ![0, 1, 0, 0] S1x1x128x256.size inb_S1x2x128x256_S1x1x128x256_0_1_0_0).toLoadRect
  bf := ld x5 (Rect.unit (s := S1x2x1x256) ![0, 0, 0, 0] S1x1x1x256.size inb_S1x2x1x256_S1x1x1x256_0_0_0_0).toLoadRect
  bb := ld x5 (Rect.unit (s := S1x2x1x256) ![0, 1, 0, 0] S1x1x1x256.size inb_S1x2x1x256_S1x1x1x256_0_1_0_0).toLoadRect

/-- The two states at the start. -/
def init (x7 : Vec F S2x16x128 .f32) : FVec F S16x128 .f32 × FVec F S16x128 .f32 :=
  (k0_pay2 (ld x7 (Rect.unit (s := S2x16x128) ![0, 0, 0] S1x16x128.size inb_S2x16x128_S1x16x128_0_0_0).toLoadRect),
   k0_pay3 (ld x7 (Rect.unit (s := S2x16x128) ![1, 0, 0] S1x16x128.size inb_S2x16x128_S1x16x128_1_0_0).toLoadRect))

def k1 (n : ℕ) : Fin k0_t1_loop.trips := ⟨n % 4, lt_of_lt_of_le (Nat.mod_lt _ (by decide)) (by decide)⟩
def k2 (n : ℕ) : Fin k0_t2_loop.trips := ⟨n % 4, lt_of_lt_of_le (Nat.mod_lt _ (by decide)) (by decide)⟩

/-- States and stores of the first loop after `n` trips. -/
def st1 (p : Consts F) (x : Vec F S1x4096x128 .f32) (h : FVec F S16x128 .f32 × FVec F S16x128 .f32) :
    ℕ → (FVec F S16x128 .f32 × FVec F S16x128 .f32) × List (Pc F)
  | 0 => (h, [])
  | n + 1 => (trip1R p x (k1 n) (st1 p x h n).1, trip1L p x (k1 n) (st1 p x h n).1 ++ (st1 p x h n).2)

/-- States and stores of the second loop after `n` trips, over the states the first one stored. -/
def st2 (p : Consts F) (x g y : Vec F S1x4096x128 .f32) (h : FVec F S16x128 .f32 × FVec F S16x128 .f32) :
    ℕ → (FVec F S16x128 .f32 × FVec F S16x128 .f32) × List (Pc F)
  | 0 => (h, [])
  | n + 1 => (trip2R p x (k2 n) (st2 p x g y h n).1, trip2L p x g y (k2 n) (st2 p x g y h n).1 ++ (st2 p x g y h n).2)

section out
variable (x0 x1 : Vec F S1x4096x128 .f32) (x2 : Vec F S4x128 .f32) (x3 : Vec F S1x128 .f32) (x4 : Vec F S1x2x128x256 .bf16)
  (x5 : Vec F S1x2x1x256 .f32) (x6 : Vec F S2x128 .f32) (x7 : Vec F S2x16x128 .f32)

/-- The states the first loop stored. -/
def mid : Vec F S1x4096x128 .f32 := View.canon (st1 (consts x2 x3 x4 x5 x6) x0 (init x7) 4).2
/-- The states after the first loop. -/
def half : FVec F S16x128 .f32 × FVec F S16x128 .f32 := (st1 (consts x2 x3 x4 x5 x6) x0 (init x7) 4).1
/-- The whole second loop. -/
def second : (FVec F S16x128 .f32 × FVec F S16x128 .f32) × List (Pc F) :=
  st2 (consts x2 x3 x4 x5 x6) x0 x1 (mid x0 x2 x3 x4 x5 x6 x7) (half x0 x2 x3 x4 x5 x6 x7) 4
/-- The first result's block. -/
def out8 : Vec F S1x4096x128 .f32 := View.canon (second x0 x1 x2 x3 x4 x5 x6 x7).2
/-- The second result's block. -/
def out9 : Vec F S2x16x128 .f32 := View.canon
  [⟨Rect.unit (s := S2x16x128) ![1, 0, 0] S1x16x128.size inb_S2x16x128_S1x16x128_1_0_0, put (second x0 x1 x2 x3 x4 x5 x6 x7).1.2⟩,
   ⟨Rect.unit (s := S2x16x128) ![0, 0, 0] S1x16x128.size inb_S2x16x128_S1x16x128_0_0_0, put (second x0 x1 x2 x3 x4 x5 x6 x7).1.1⟩]
end out

end Cert.KernelIdeal.Rg
end
-- ==== Proof.RgTrips.lean ====
module

public import proofs.«01_k».proof.Proof.RgSpec

/-!
# One trip of each loop

What a trip of the first and of the second loop carries on and stores is what `RgSpec` says.
-/

@[expose] public section
set_option maxRecDepth 65536

noncomputable section

namespace Cert.KernelIdeal.Rg
open Idealize.ShloMosaic Idealize.ShloMosaic.TcCoe
open Cert.KernelIdeal Cert.KernelIdeal.Facts Cert.KernelIdeal.Gen

variable {F : FTy → Type} [FloatOps F] [Named F]

section
variable (𝒱 : Variants) (c : Dev nD) (bd : Option 𝒱.V) (i : grid0.Coords)
  (arg1 : Memref sig .tc .vmem S1x4096x128 .f32) (harg1 : arg1.IsWhole) (arg2 : Memref sig .tc .vmem S1x4096x128 .f32) (harg2 : arg2.IsWhole) (arg3 : Memref sig .tc .vmem S4x128 .f32) (harg3 : arg3.IsWhole) (arg4 : Memref sig .tc .vmem S1x128 .f32) (harg4 : arg4.IsWhole) (arg5 : Memref sig .tc .vmem S1x2x128x256 .bf16) (harg5 : arg5.IsWhole) (arg6 : Memref sig .tc .vmem S1x2x1x256 .f32) (harg6 : arg6.IsWhole) (arg7 : Memref sig .tc .vmem S2x128 .f32) (harg7 : arg7.IsWhole) (arg8 : Memref sig .tc .vmem S2x16x128 .f32) (harg8 : arg8.IsWhole) (arg9 : Memref sig .tc .vmem S1x4096x128 .f32) (harg9 : arg9.IsWhole) (arg10 : Memref sig .tc .vmem S2x16x128 .f32) (harg10 : arg10.IsWhole)
  (v1 v3 v5 v7 v9 v29 v33 : FVec F S1x128 .f32) (cst_14 : F .f32) (v35 v37 : FVec F S1x128 .f32) (v38 : IVec S1x128 1)
  (X1 : BufTy.Contents (Elt F) arg1.view.ty) (X2 : BufTy.Contents (Elt F) arg2.view.ty) (X5 : BufTy.Contents (Elt F) arg5.view.ty)
  (X6 : BufTy.Contents (Elt F) arg6.view.ty)

/-- The constants a trip is given. -/
abbrev pOf : Consts F where
  c0 := v1
  c1 := v3
  c2 := v5
  c3 := v7
  cb := v9
  hf := v29
  hb := k0_pay1 v33 cst_14 v35 v37 v38
  wf := ld (arg5.view.read (Elt F) X5) (Rect.unit (s := S1x2x128x256) ![0, 0, 0, 0] S1x1x128x256.size inb_S1x2x128x256_S1x1x128x256_0_0_0_0).toLoadRect
  wb := ld (arg5.view.read (Elt F) X5) (Rect.unit (s := S1x2x128x256) ![0, 1, 0, 0] S1x1x128x256.size inb_S1x2x128x256_S1x1x128x256_0_1_0_0).toLoadRect
  bf := ld (arg6.view.read (Elt F) X6) (Rect.unit (s := S1x2x1x256) ![0, 0, 0, 0] S1x1x1x256.size inb_S1x2x1x256_S1x1x1x256_0_0_0_0).toLoadRect
  bb := ld (arg6.view.read (Elt F) X6) (Rect.unit (s := S1x2x1x256) ![0, 1, 0, 0] S1x1x1x256.size inb_S1x2x1x256_S1x1x1x256_0_1_0_0).toLoadRect

/-- The states after a trip of the first loop. -/
theorem trip1R_eq (k : Fin k0_t1_loop.trips) (h : FVec F S16x128 .f32 × FVec F S16x128 .f32) :
    tripR_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 k h
      = trip1R (pOf arg5 arg6 v1 v3 v5 v7 v9 v29 v33 cst_14 v35 v37 v38 X5 X6) (arg1.view.read (Elt F) X1) k h := by
  unfold tripR_k0_t1 trip_k0_t1
  rfl

set_option maxHeartbeats 4000000 in
/-- What a trip of the first loop stores. -/
theorem trip1L_eq (k : Fin k0_t1_loop.trips) (h : FVec F S16x128 .f32 × FVec F S16x128 .f32) :
    tripL_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 k h
      = trip1L (pOf arg5 arg6 v1 v3 v5 v7 v9 v29 v33 cst_14 v35 v37 v38 X5 X6) (arg1.view.read (Elt F) X1) k h := by
  unfold tripL_k0_t1 trip_k0_t1
  rfl

/-- The states after a trip of the second loop. -/
theorem trip2R_eq (G : BufTy.Contents (Elt F) arg9.view.ty) (k : Fin k0_t2_loop.trips) (h : FVec F S16x128 .f32 × FVec F S16x128 .f32) :
    tripR_k0_t2 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X2 X5 X6 k h G
      = trip2R (pOf arg5 arg6 v1 v3 v5 v7 v9 v29 v33 cst_14 v35 v37 v38 X5 X6) (arg1.view.read (Elt F) X1) k h := by
  unfold tripR_k0_t2 trip_k0_t2
  rfl

set_option maxHeartbeats 4000000 in
/-- What a trip of the second loop stores. -/
theorem trip2L_eq (G : BufTy.Contents (Elt F) arg9.view.ty) (k : Fin k0_t2_loop.trips) (h : FVec F S16x128 .f32 × FVec F S16x128 .f32) :
    tripL_k0_t2 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X2 X5 X6 k h G
      = trip2L (pOf arg5 arg6 v1 v3 v5 v7 v9 v29 v33 cst_14 v35 v37 v38 X5 X6) (arg1.view.read (Elt F) X1)
          (arg2.view.read (Elt F) X2) (arg9.view.read (Elt F) G) k h := by
  unfold tripL_k0_t2 trip_k0_t2
  rfl

end
end Cert.KernelIdeal.Rg
end
-- ==== Proof.RgStates.lean ====
module

public import proofs.«01_k».proof.Proof.RgTrips

/-!
# The two loops as a whole

The trips put together: the states and the stores after four trips, that the stores of each loop cover
the whole block, and that what the second loop loads of the stored states is what the first loop stored.
-/

@[expose] public section
set_option maxRecDepth 65536

noncomputable section

namespace Cert.KernelIdeal.Rg
open Idealize.ShloMosaic Idealize.ShloMosaic.TcCoe
open Cert.KernelIdeal Cert.KernelIdeal.Facts Cert.KernelIdeal.Gen

variable {F : FTy → Type} [FloatOps F] [Named F]

/-- The first loop has four trips. -/
theorem trips1 : k0_t1_loop.trips = 4 := by decide
/-- The second loop has four trips. -/
theorem trips2 : k0_t2_loop.trips = 4 := by decide

/-- The number of a trip of the first loop. -/
theorem k1_val {n : ℕ} (h : n < 4) : (k1 n).val = n := Nat.mod_eq_of_lt h
/-- The number of a trip of the second loop. -/
theorem k2_val {n : ℕ} (h : n < 4) : (k2 n).val = n := Nat.mod_eq_of_lt h
/-- The time step of the chunk the forward scan is at. -/
theorem tF_val {n : ℕ} (h : n < 32) : (tF n).val = n := Nat.mod_eq_of_lt h
/-- The time step of the chunk the backward scan is at. -/
theorem tB_val {n : ℕ} (h : n < 32) : (tB n).val = 31 - n := by
  show 31 - n % 32 = 31 - n
  rw [Nat.mod_eq_of_lt h]

/-- A position lies in a stored tile exactly when its row is one of the tile's sixteen. -/
theorem mem_tile {off : Fin 3 → ℕ} {inb : ∀ a, off a + S1x16x128.size a ≤ S1x4096x128.size a} {o : ℕ} (ho : off = ![0, o, 0])
    (y : S1x4096x128.Idx) :
    y ∈ (Rect.unit (s := S1x4096x128) off S1x16x128.size inb).set ↔ o ≤ (y 1).val ∧ (y 1).val < o + 16 := by
  subst ho
  rw [Rect.mem_set_unit]
  constructor
  · intro h; exact h 1
  · intro h a
    match a with
    | ⟨0, _⟩ => exact ⟨Nat.zero_le _, (y 0).isLt⟩
    | ⟨1, _⟩ => exact h
    | ⟨2, _⟩ => exact ⟨Nat.zero_le _, lt_of_lt_of_eq (y 2).isLt (Nat.zero_add _).symm⟩

section lists
variable (k : Fin k0_t1_loop.trips) (l : Fin k0_t2_loop.trips) (aF bF aB bB oF oB gF gB : FVec F S512x128 .f32) (h : FVec F S16x128 .f32 × FVec F S16x128 .f32)

/-- The forward store of a step of the first loop, the backward one, and those of the second loop. -/
def p1f (n : ℕ) : Pc F := ⟨Rect.unit (s := S1x4096x128) (k0_off7 k (BitVec.ofNat 32 (16 * (tF n).val))) S1x16x128.size (k0_off7_inb k (tF n)), put (scF aF bF h.1 (n + 1))⟩
def p1b (n : ℕ) : Pc F := ⟨Rect.unit (s := S1x4096x128) (k0_off8 k (BitVec.ofNat 32 (16 * (tB n).val))) S1x16x128.size (k0_off8_inb k (tB n)), put (scB aB bB h.2 (n + 1))⟩
def p2f (n : ℕ) : Pc F := ⟨Rect.unit (s := S1x4096x128) (k0_off15 l (BitVec.ofNat 32 (16 * (tF n).val))) S1x16x128.size (k0_off15_inb l (tF n)),
  put (mulf (addf (row (tF n) oF) (scF aF bF h.1 (n + 1))) (row (tF n) gF))⟩
def p2b (n : ℕ) : Pc F := ⟨Rect.unit (s := S1x4096x128) (k0_off16 l (BitVec.ofNat 32 (16 * (tB n).val))) S1x16x128.size (k0_off16_inb l (tB n)),
  put (mulf (addf (row (tB n) oB) (scB aB bB h.2 (n + 1))) (row (tB n) gB))⟩

/-- The stores of a trip of the first loop, one by one. -/
theorem mem_list1 (q : Pc F) : ∀ N, q ∈ list1 k aF bF aB bB h N ↔ ∃ n < N, q = p1f k aF bF h n ∨ q = p1b k aB bB h n
  | 0 => by simp [list1]
  | N + 1 => by
    rw [list1, List.mem_cons, List.mem_cons, mem_list1 q N]
    constructor
    · rintro (e | e | ⟨n, hn, e⟩)
      · exact ⟨N, N.lt_succ_self, .inr e⟩
      · exact ⟨N, N.lt_succ_self, .inl e⟩
      · exact ⟨n, hn.trans N.lt_succ_self, e⟩
    · rintro ⟨n, hn, e⟩
      rcases Nat.lt_succ_iff_lt_or_eq.1 hn with hn | rfl
      · exact .inr (.inr ⟨n, hn, e⟩)
      · exact e.elim (fun e => .inr (.inl e)) .inl

/-- The stores of a trip of the second loop, one by one. -/
theorem mem_list2 (q : Pc F) : ∀ N, q ∈ list2 l aF bF aB bB oF oB gF gB h N ↔
    ∃ n < N, q = p2f l aF bF oF gF h n ∨ q = p2b l aB bB oB gB h n
  | 0 => by simp [list2]
  | N + 1 => by
    rw [list2, List.mem_cons, List.mem_cons, mem_list2 q N]
    constructor
    · rintro (e | e | ⟨n, hn, e⟩)
      · exact ⟨N, N.lt_succ_self, .inr e⟩
      · exact ⟨N, N.lt_succ_self, .inl e⟩
      · exact ⟨n, hn.trans N.lt_succ_self, e⟩
    · rintro ⟨n, hn, e⟩
      rcases Nat.lt_succ_iff_lt_or_eq.1 hn with hn | rfl
      · exact .inr (.inr ⟨n, hn, e⟩)
      · exact e.elim (fun e => .inr (.inl e)) .inl
end lists

section states
variable (p : Consts F) (x g z : Vec F S1x4096x128 .f32) (h : FVec F S16x128 .f32 × FVec F S16x128 .f32)

/-- The stores of the first loop are those of its trips. -/
theorem mem_st1 (q : Pc F) : ∀ N, q ∈ (st1 p x h N).2 ↔ ∃ n < N, q ∈ trip1L p x (k1 n) (st1 p x h n).1
  | 0 => by simp [st1]
  | N + 1 => by
    rw [show (st1 p x h (N + 1)).2 = trip1L p x (k1 N) (st1 p x h N).1 ++ (st1 p x h N).2 from rfl, List.mem_append, mem_st1 q N]
    constructor
    · rintro (e | ⟨n, hn, e⟩)
      · exact ⟨N, N.lt_succ_self, e⟩
      · exact ⟨n, hn.trans N.lt_succ_self, e⟩
    · rintro ⟨n, hn, e⟩
      rcases Nat.lt_succ_iff_lt_or_eq.1 hn with hn | rfl
      · exact .inr ⟨n, hn, e⟩
      · exact .inl e

/-- The stores of the second loop are those of its trips. -/
theorem mem_st2 (q : Pc F) : ∀ N, q ∈ (st2 p x g z h N).2 ↔ ∃ n < N, q ∈ trip2L p x g z (k2 n) (st2 p x g z h n).1
  | 0 => by simp [st2]
  | N + 1 => by
    rw [show (st2 p x g z h (N + 1)).2 = trip2L p x g z (k2 N) (st2 p x g z h N).1 ++ (st2 p x g z h N).2 from rfl, List.mem_append, mem_st2 q N]
    constructor
    · rintro (e | ⟨n, hn, e⟩)
      · exact ⟨N, N.lt_succ_self, e⟩
      · exact ⟨n, hn.trans N.lt_succ_self, e⟩
    · rintro ⟨n, hn, e⟩
      rcases Nat.lt_succ_iff_lt_or_eq.1 hn with hn | rfl
      · exact .inr ⟨n, hn, e⟩
      · exact .inl e

/-- The stores of the first loop reach every row. -/
theorem cover1 (y : S1x4096x128.Idx) : ∃ q ∈ (st1 p x h 4).2, y ∈ q.1.set := by
  have hy : (y 1).val < 4096 := (y 1).isLt
  rcases lt_or_ge (y 1).val 2048 with hlt | hge
  · have hn : (y 1).val / 512 < 4 := by omega
    have ht : (y 1).val % 512 / 16 < 32 := by omega
    refine ⟨_, (mem_st1 p x h _ 4).2 ⟨(y 1).val / 512, hn, (mem_list1 _ _ _ _ _ _ _ 32).2 ⟨(y 1).val % 512 / 16, ht, .inl rfl⟩⟩, ?_⟩
    refine (mem_tile (inb := k0_off7_inb _ _) (k0_off7_eq _ _) y).2 ?_
    rw [k1_val hn, tF_val ht]; omega
  · have hn : 7 - (y 1).val / 512 < 4 := by omega
    have ht : 31 - (y 1).val % 512 / 16 < 32 := by omega
    refine ⟨_, (mem_st1 p x h _ 4).2 ⟨7 - (y 1).val / 512, hn, (mem_list1 _ _ _ _ _ _ _ 32).2 ⟨31 - (y 1).val % 512 / 16, ht, .inr rfl⟩⟩, ?_⟩
    refine (mem_tile (inb := k0_off8_inb _ _) (k0_off8_eq _ _) y).2 ?_
    rw [k1_val hn, tB_val ht]; omega

/-- The stores of the second loop reach every row. -/
theorem cover2 (y : S1x4096x128.Idx) : ∃ q ∈ (st2 p x g z h 4).2, y ∈ q.1.set := by
  have hy : (y 1).val < 4096 := (y 1).isLt
  rcases lt_or_ge (y 1).val 2048 with hlt | hge
  · have hn : 3 - (y 1).val / 512 < 4 := by omega
    have ht : 31 - (y 1).val % 512 / 16 < 32 := by omega
    refine ⟨_, (mem_st2 p x g z h _ 4).2 ⟨3 - (y 1).val / 512, hn, (mem_list2 _ _ _ _ _ _ _ _ _ _ _ 32).2 ⟨31 - (y 1).val % 512 / 16, ht, .inr rfl⟩⟩, ?_⟩
    refine (mem_tile (inb := k0_off16_inb _ _) (k0_off16_eq _ _) y).2 ?_
    rw [k2_val hn, tB_val ht]; omega
  · have hn : (y 1).val / 512 - 4 < 4 := by omega
    have ht : (y 1).val % 512 / 16 < 32 := by omega
    refine ⟨_, (mem_st2 p x g z h _ 4).2 ⟨(y 1).val / 512 - 4, hn, (mem_list2 _ _ _ _ _ _ _ _ _ _ _ 32).2 ⟨(y 1).val % 512 / 16, ht, .inl rfl⟩⟩, ?_⟩
    refine (mem_tile (inb := k0_off15_inb _ _) (k0_off15_eq _ _) y).2 ?_
    rw [k2_val hn, tF_val ht]; omega

/-- Before trip `N` of the second loop nothing has been stored from row `2048 + 512 N` on, nor in the
rows from `1536 - 512 N` up to the middle that trips before have not reached. -/
theorem not_mem_st2 {N : ℕ} (hN : N < 4) (y : S1x4096x128.Idx)
    (hy : 2048 + 512 * N ≤ (y 1).val ∨ (y 1).val < 2048 - 512 * N) (q : Pc F) (hq : q ∈ (st2 p x g z h N).2) : y ∉ q.1.set := by
  obtain ⟨n, hn, hq⟩ := (mem_st2 p x g z h q N).1 hq
  obtain ⟨t, ht, hq⟩ := (mem_list2 _ _ _ _ _ _ _ _ _ _ q 32).1 hq
  rcases hq with rfl | rfl
  · refine mt (mem_tile (inb := k0_off15_inb _ _) (k0_off15_eq _ _) y).1 ?_
    rw [k2_val (hn.trans hN), tF_val ht]; omega
  · refine mt (mem_tile (inb := k0_off16_inb _ _) (k0_off16_eq _ _) y).1 ?_
    rw [k2_val (hn.trans hN), tB_val ht]; omega

end states

section
variable (𝒱 : Variants) (c : Dev nD) (bd : Option 𝒱.V) (i : grid0.Coords)
  (arg1 : Memref sig .tc .vmem S1x4096x128 .f32) (harg1 : arg1.IsWhole) (arg2 : Memref sig .tc .vmem S1x4096x128 .f32) (harg2 : arg2.IsWhole) (arg3 : Memref sig .tc .vmem S4x128 .f32) (harg3 : arg3.IsWhole) (arg4 : Memref sig .tc .vmem S1x128 .f32) (harg4 : arg4.IsWhole) (arg5 : Memref sig .tc .vmem S1x2x128x256 .bf16) (harg5 : arg5.IsWhole) (arg6 : Memref sig .tc .vmem S1x2x1x256 .f32) (harg6 : arg6.IsWhole) (arg7 : Memref sig .tc .vmem S2x128 .f32) (harg7 : arg7.IsWhole) (arg8 : Memref sig .tc .vmem S2x16x128 .f32) (harg8 : arg8.IsWhole) (arg9 : Memref sig .tc .vmem S1x4096x128 .f32) (harg9 : arg9.IsWhole) (arg10 : Memref sig .tc .vmem S2x16x128 .f32) (harg10 : arg10.IsWhole)
  (v1 v3 v5 v7 v9 v29 v33 : FVec F S1x128 .f32) (cst_14 : F .f32) (v35 v37 : FVec F S1x128 .f32) (v38 : IVec S1x128 1)
  (X1 : BufTy.Contents (Elt F) arg1.view.ty) (X2 : BufTy.Contents (Elt F) arg2.view.ty) (X5 : BufTy.Contents (Elt F) arg5.view.ty)
  (X6 : BufTy.Contents (Elt F) arg6.view.ty) (G : BufTy.Contents (Elt F) arg9.view.ty) (h : FVec F S16x128 .f32 × FVec F S16x128 .f32)

/-- The first loop. -/
theorem st1_eq : ∀ n ≤ 4,
    st_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h n = st1 (pOf arg5 arg6 v1 v3 v5 v7 v9 v29 v33 cst_14 v35 v37 v38 X5 X6) (arg1.view.read (Elt F) X1) h n
  | 0, _ => rfl
  | n + 1, hn => by
    have hk : (k1 n).val = n := k1_val (by omega)
    refine (congrArg (fun m => st_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h (m + 1)) hk).symm.trans ?_
    refine (st_k0_t1_succ (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h (k1 n)).trans ?_
    rw [trip1R_eq, trip1L_eq, hk, st1_eq n (by omega)]
    rfl

omit [Named F] in
/-- A load of the stored states reads what was there before the second loop. -/
theorem curF_eq (y y' : Vec F S1x4096x128 .f32) (k : Fin k0_t2_loop.trips)
    (e : ∀ j : S1x4096x128.Idx, 2048 + 512 * k.val ≤ (j 1).val → y j = y' j) : curF y k = curF y' k := by
  unfold curF
  refine congrArg (fun w => shapeCast S512x128 w shapeCasts_S1x512x128_S512x128) (funext fun j => e _ ?_)
  have := congrFun (k0_off9_eq k) 1
  show 2048 + 512 * k.val ≤ k0_off9 k 1 + 1 * (j 1).val
  rw [this]
  show 2048 + 512 * k.val ≤ (512 * k.val + 2048) + 1 * (j 1).val
  omega

omit [Named F] in
/-- The backward chunk of the second loop read from two blocks that agree on its rows. -/
theorem curB_eq (y y' : Vec F S1x4096x128 .f32) (k : Fin k0_t2_loop.trips)
    (e : ∀ j : S1x4096x128.Idx, (j 1).val < 2048 - 512 * k.val → y j = y' j) : curB y k = curB y' k := by
  unfold curB
  refine congrArg (fun w => shapeCast S512x128 w shapeCasts_S1x512x128_S512x128) (funext fun j => e _ ?_)
  have := congrFun (k0_off12_eq k) 1
  show k0_off12 k 1 + 1 * (j 1).val < 2048 - 512 * k.val
  rw [this]
  have hj : (j 1).val < 512 := (j 1).isLt
  have hk : k.val < 4 := lt_of_lt_of_eq k.isLt trips2
  show (1536 - 512 * k.val) + 1 * (j 1).val < 2048 - 512 * k.val
  omega

/-- The second loop, over whatever the first one left. -/
theorem st2_eq : ∀ n ≤ 4,
    st_k0_t2 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X2 X5 X6 G h n
      = st2 (pOf arg5 arg6 v1 v3 v5 v7 v9 v29 v33 cst_14 v35 v37 v38 X5 X6) (arg1.view.read (Elt F) X1) (arg2.view.read (Elt F) X2) (arg9.view.read (Elt F) G) h n
  | 0, _ => rfl
  | n + 1, hn => by
    have hk : (k2 n).val = n := k2_val (by omega)
    refine (congrArg (fun m => st_k0_t2 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X2 X5 X6 G h (m + 1)) hk).symm.trans ?_
    refine (st_k0_t2_succ (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X2 X5 X6 G h (k2 n)).trans ?_
    rw [trip2R_eq, trip2L_eq, hk, st2_eq n (by omega)]
    refine congrArg (Prod.mk _) (congrArg (· ++ _) ?_)
    unfold trip2L
    rw [curF_eq _ (arg9.view.read (Elt F) G) (k2 n) fun j hj => View.read_writes_apply_of_forall_not_mem _ _ _ _
        (not_mem_st2 _ _ _ _ _ (by omega) _ (.inl (by rw [hk] at hj; exact hj))),
      curB_eq _ (arg9.view.read (Elt F) G) (k2 n) fun j hj => View.read_writes_apply_of_forall_not_mem _ _ _ _
        (not_mem_st2 _ _ _ _ _ (by omega) _ (.inr (by rw [hk] at hj; exact hj)))]

end
end Cert.KernelIdeal.Rg
end
-- ==== Proof.RgFrame.lean ====
module

public import proofs.«01_k».proof.Proof.RgStates
public import Idealize.ShloMosaic.Lib.Claim

/-!
# The body at a grid point, the launch and the frame

The body run from the blocks it is given leaves `out8` and `out9` of them in its two result blocks; the
launch runs it once per slab; the arguments end unchanged and every counter ends at zero.
-/

@[expose] public section
set_option maxRecDepth 65536

noncomputable section

namespace Cert.KernelIdeal.Rg
open Cert.KernelIdeal Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The two stores of the states reach every position. -/
theorem cover9 {w0 w1 : FVec F S1x16x128 .f32} (y : S2x16x128.Idx) : ∃ q ∈ ([⟨Rect.unit (s := S2x16x128) ![1, 0, 0] S1x16x128.size inb_S2x16x128_S1x16x128_1_0_0, w1⟩,
    ⟨Rect.unit (s := S2x16x128) ![0, 0, 0] S1x16x128.size inb_S2x16x128_S1x16x128_0_0_0, w0⟩] : List (View.Piece (Elt F) S2x16x128 .f32)), y ∈ q.1.set := by
  have h0 : (y 0).val < 2 := (y 0).isLt
  rcases Nat.lt_or_ge (y 0).val 1 with h | h
  · refine ⟨_, List.mem_cons_of_mem _ List.mem_cons_self, ?_⟩
    refine (Rect.mem_set_unit (inb := inb_S2x16x128_S1x16x128_0_0_0)).2 fun a => ?_
    match a with
    | ⟨0, _⟩ => exact ⟨Nat.zero_le _, h⟩
    | ⟨1, _⟩ => exact ⟨Nat.zero_le _, lt_of_lt_of_eq (y 1).isLt (Nat.zero_add _).symm⟩
    | ⟨2, _⟩ => exact ⟨Nat.zero_le _, lt_of_lt_of_eq (y 2).isLt (Nat.zero_add _).symm⟩
  · refine ⟨_, List.mem_cons_self, ?_⟩
    refine (Rect.mem_set_unit (inb := inb_S2x16x128_S1x16x128_1_0_0)).2 fun a => ?_
    match a with
    | ⟨0, _⟩ => exact ⟨h, h0⟩
    | ⟨1, _⟩ => exact ⟨Nat.zero_le _, lt_of_lt_of_eq (y 1).isLt (Nat.zero_add _).symm⟩
    | ⟨2, _⟩ => exact ⟨Nat.zero_le _, lt_of_lt_of_eq (y 2).isLt (Nat.zero_add _).symm⟩

section
variable (𝒱 : Variants) (c : Dev nD) (bd : Option 𝒱.V) (i : grid0.Coords)
  (arg1 : Memref sig .tc .vmem S1x4096x128 .f32) (harg1 : arg1.IsWhole) (arg2 : Memref sig .tc .vmem S1x4096x128 .f32) (harg2 : arg2.IsWhole) (arg3 : Memref sig .tc .vmem S4x128 .f32) (harg3 : arg3.IsWhole) (arg4 : Memref sig .tc .vmem S1x128 .f32) (harg4 : arg4.IsWhole) (arg5 : Memref sig .tc .vmem S1x2x128x256 .bf16) (harg5 : arg5.IsWhole) (arg6 : Memref sig .tc .vmem S1x2x1x256 .f32) (harg6 : arg6.IsWhole) (arg7 : Memref sig .tc .vmem S2x128 .f32) (harg7 : arg7.IsWhole) (arg8 : Memref sig .tc .vmem S2x16x128 .f32) (harg8 : arg8.IsWhole) (arg9 : Memref sig .tc .vmem S1x4096x128 .f32) (harg9 : arg9.IsWhole) (arg10 : Memref sig .tc .vmem S2x16x128 .f32) (harg10 : arg10.IsWhole)
  (v1 v3 v5 v7 v9 v29 v33 : FVec F S1x128 .f32) (cst_14 : F .f32) (v35 v37 : FVec F S1x128 .f32) (v38 : IVec S1x128 1)
  (X1 : BufTy.Contents (Elt F) arg1.view.ty) (X2 : BufTy.Contents (Elt F) arg2.view.ty) (X5 : BufTy.Contents (Elt F) arg5.view.ty)
  (X6 : BufTy.Contents (Elt F) arg6.view.ty) (f : BufTy.Contents (Elt F) arg9.view.ty) (h : FVec F S16x128 .f32 × FVec F S16x128 .f32)

/-- Both loops together. -/
theorem both_eq :
    st_k0_t2 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X2 X5 X6
        (arg9.view.writes (Elt F) f (st_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h k0_t1_loop.trips).2)
        (st_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h k0_t1_loop.trips).1 k0_t2_loop.trips
      = st2 (pOf arg5 arg6 v1 v3 v5 v7 v9 v29 v33 cst_14 v35 v37 v38 X5 X6) (arg1.view.read (Elt F) X1) (arg2.view.read (Elt F) X2)
          (View.canon (st1 (pOf arg5 arg6 v1 v3 v5 v7 v9 v29 v33 cst_14 v35 v37 v38 X5 X6) (arg1.view.read (Elt F) X1) h 4).2)
          (st1 (pOf arg5 arg6 v1 v3 v5 v7 v9 v29 v33 cst_14 v35 v37 v38 X5 X6) (arg1.view.read (Elt F) X1) h 4).1 4 := by
  have e1 : st_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h k0_t1_loop.trips = _ := st1_eq (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h 4 le_rfl
  rw [e1]
  refine (st2_eq (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X2 X5 X6 _ _ 4 le_rfl).trans ?_
  rw [View.read_writes_eq_canon _ _ _ (cover1 _ _ _)]

variable (x2 : Vec F S4x128 .f32) (x3 : Vec F S1x128 .f32) (x6 : Vec F S2x128 .f32) (x7 : Vec F S2x16x128 .f32)
  (hp : pOf arg5 arg6 v1 v3 v5 v7 v9 v29 v33 cst_14 v35 v37 v38 X5 X6 = consts x2 x3 (arg5.view.read (Elt F) X5) (arg6.view.read (Elt F) X6) x6) (hh : h = init x7)
include hp hh

/-- What the two loops leave in the first result's block. -/
theorem read8 :
    arg9.view.read (Elt F) (arg9.view.writes (Elt F) f ((st_k0_t2 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X2 X5 X6
        (arg9.view.writes (Elt F) f (st_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h k0_t1_loop.trips).2)
        (st_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h k0_t1_loop.trips).1 k0_t2_loop.trips).2 ++
        (st_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h k0_t1_loop.trips).2))
      = out8 (arg1.view.read (Elt F) X1) (arg2.view.read (Elt F) X2) x2 x3 (arg5.view.read (Elt F) X5) (arg6.view.read (Elt F) X6) x6 x7 := by
  rw [both_eq, hp, hh, View.writes_append]
  exact View.read_writes_eq_canon _ _ _ (cover2 _ _ _ _ _)

/-- What is stored of the states the two loops end with. -/
theorem read9 (f9 : BufTy.Contents (Elt F) arg10.view.ty) :
    arg10.view.read (Elt F) (arg10.view.writes (Elt F) f9
      [⟨Rect.unit (s := S2x16x128) ![1, 0, 0] S1x16x128.size inb_S2x16x128_S1x16x128_1_0_0, k0_pay13 (st_k0_t2 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X2 X5 X6
        (arg9.view.writes (Elt F) f (st_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h k0_t1_loop.trips).2)
        (st_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h k0_t1_loop.trips).1 k0_t2_loop.trips).1.2⟩,
       ⟨Rect.unit (s := S2x16x128) ![0, 0, 0] S1x16x128.size inb_S2x16x128_S1x16x128_0_0_0, k0_pay12 (st_k0_t2 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X2 X5 X6
        (arg9.view.writes (Elt F) f (st_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h k0_t1_loop.trips).2)
        (st_k0_t1 (F := F) 𝒱 c bd i arg1 harg1 arg2 harg2 arg3 harg3 arg4 harg4 arg5 harg5 arg6 harg6 arg7 harg7 arg8 harg8 arg9 harg9 arg10 harg10 v1 v3 v5 v7 v9 v29 v33 cst_14 v35 v37 v38 X1 X5 X6 h k0_t1_loop.trips).1 k0_t2_loop.trips).1.1⟩])
      = out9 (arg1.view.read (Elt F) X1) (arg2.view.read (Elt F) X2) x2 x3 (arg5.view.read (Elt F) X5) (arg6.view.read (Elt F) X6) x6 x7 := by
  rw [both_eq, hp, hh]
  exact View.read_writes_eq_canon _ _ _ cover9

end

set_option maxHeartbeats 1000000 in
/-- The body, from blocks to blocks. -/
theorem sound_kernel (c : Dev nD) (E : Set ℕ) (i : grid0.Coords) (arg1 : Memref sig .tc .vmem S1x4096x128 .f32) (harg1 : arg1.IsWhole) (arg2 : Memref sig .tc .vmem S1x4096x128 .f32) (harg2 : arg2.IsWhole) (arg3 : Memref sig .tc .vmem S4x128 .f32) (harg3 : arg3.IsWhole) (arg4 : Memref sig .tc .vmem S1x128 .f32) (harg4 : arg4.IsWhole) (arg5 : Memref sig .tc .vmem S1x2x128x256 .bf16) (harg5 : arg5.IsWhole) (arg6 : Memref sig .tc .vmem S1x2x1x256 .f32) (harg6 : arg6.IsWhole) (arg7 : Memref sig .tc .vmem S2x128 .f32) (harg7 : arg7.IsWhole) (arg8 : Memref sig .tc .vmem S2x16x128 .f32) (harg8 : arg8.IsWhole) (arg9 : Memref sig .tc .vmem S1x4096x128 .f32) (harg9 : arg9.IsWhole) (arg10 : Memref sig .tc .vmem S2x16x128 .f32) (harg10 : arg10.IsWhole) (x0 x1 : Vec F S1x4096x128 .f32) (x2 : Vec F S4x128 .f32) (x3 : Vec F S1x128 .f32) (x4 : Vec F S1x2x128x256 .bf16) (x5 : Vec F S1x2x1x256 .f32) (x6 : Vec F S2x128 .f32) (x7 : Vec F S2x16x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2 x3 x4 x5 x6 x7) ∗ owns (c : Thread nD τ) arg10 fullShare (out9 x0 x1 x2 x3 x4 x5 x6 x7)) -∗ K ⟨⟩)) ⊢ wp frame (wpE (defs₀ (F := F)) Variants.none (c : Thread nD τ) none) E (cc0_rglru_ctx (F := F) i arg1 harg1 arg2 harg2 arg3 harg3 arg4 harg4 arg5 harg5 arg6 harg6 arg7 harg7 arg8 harg8 arg9 harg9 arg10 harg10) K := by
  rw [cc0_rglru_ctx_eq_skeleton]
  unfold cc0_rglru_ctx_skel
  simp only [k0_part40_eq_skeleton]
  unfold k0_part40_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0
  subst hf1
  subst hf2
  subst hf3
  subst hf4
  subst hf5
  subst hf6
  subst hf7
  sl_exec
  sl_step
  iapply Hk
  isplitl [H0]
  · iexists f0
    isplitr
    · ipureintro; rfl
    iexact H0
  isplitl [H1]
  · iexists f1
    isplitr
    · ipureintro; rfl
    iexact H1
  isplitl [H2]
  · iexists f2
    isplitr
    · ipureintro; rfl
    iexact H2
  isplitl [H3]
  · iexists f3
    isplitr
    · ipureintro; rfl
    iexact H3
  isplitl [H4]
  · iexists f4
    isplitr
    · ipureintro; rfl
    iexact H4
  isplitl [H5]
  · iexists f5
    isplitr
    · ipureintro; rfl
    iexact H5
  isplitl [H6]
  · iexists f6
    isplitr
    · ipureintro; rfl
    iexact H6
  isplitl [H7]
  · iexists f7
    isplitr
    · ipureintro; rfl
    iexact H7
  isplitl [H8]
  · iexists _
    isplitr
    swap
    · iexact H8
    ipureintro
    refine read8 (x2 := arg3.view.read (Elt F) f2) (x3 := arg4.view.read (Elt F) f3) (x6 := arg7.view.read (Elt F) f6) (x7 := arg8.view.read (Elt F) f7) (hp := ?_) (hh := ?_) .. <;> rfl
  iexists _
  isplitr
  swap
  · iexact H9
  ipureintro
  refine read9 (x2 := arg3.view.read (Elt F) f2) (x3 := arg4.view.read (Elt F) f3) (x6 := arg7.view.read (Elt F) f6) (x7 := arg8.view.read (Elt F) f7) (hp := ?_) (hh := ?_) .. <;> rfl

variable (m : (ℓ : Loc nD τ sig) → Buf (Elt F) ℓ) (ρ : Dev nD → PrngReg)

/-- The launch's data: each input's block stays, the two results' blocks get `out8` and `out9`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
    | ⟨9, _⟩ => out9 (iblk m c 0 t) (iblk m c 1 t) (iblk m c 2 t) (iblk m c 3 t) (iblk m c 4 t) (iblk m c 5 t) (iblk m c 6 t) (iblk m c 7 t)
  Φ _ := Pipeline.ΦA spec0 c
  q w := Pipeline.shareOf spec0 w
  owed _ := 0

/-- An array before the launch is what its buffer holds then. -/
theorem A_eq (c : Dev nD) (w : Fin cfg0.W) : (dats m 0 c).A w = V m c (Pipeline.arrRef spec0 w) := by
  dsimp only [dats]
/-- The body leaves the block of the projection, as values as it was. -/
theorem after0_0 (c : Dev nD) (t : Fin cfg0.N) : (dats m 0 c).after 0 t = iblk m c 0 t := by dsimp only [dats]
/-- The body leaves the block of the projection, as gate branch as it was. -/
theorem after0_1 (c : Dev nD) (t : Fin cfg0.N) : (dats m 0 c).after 1 t = iblk m c 1 t := by dsimp only [dats]
/-- The body leaves the block of the convolution taps as it was. -/
theorem after0_2 (c : Dev nD) (t : Fin cfg0.N) : (dats m 0 c).after 2 t = iblk m c 2 t := by dsimp only [dats]
/-- The body leaves the block of the convolution bias as it was. -/
theorem after0_3 (c : Dev nD) (t : Fin cfg0.N) : (dats m 0 c).after 3 t = iblk m c 3 t := by dsimp only [dats]
/-- The body leaves the block of the gate weights as it was. -/
theorem after0_4 (c : Dev nD) (t : Fin cfg0.N) : (dats m 0 c).after 4 t = iblk m c 4 t := by dsimp only [dats]
/-- The body leaves the block of the gate biases as it was. -/
theorem after0_5 (c : Dev nD) (t : Fin cfg0.N) : (dats m 0 c).after 5 t = iblk m c 5 t := by dsimp only [dats]
/-- The body leaves the block of the decay parameters as it was. -/
theorem after0_6 (c : Dev nD) (t : Fin cfg0.N) : (dats m 0 c).after 6 t = iblk m c 6 t := by dsimp only [dats]
/-- The body leaves the block of the initial states as it was. -/
theorem after0_7 (c : Dev nD) (t : Fin cfg0.N) : (dats m 0 c).after 7 t = iblk m c 7 t := by dsimp only [dats]
/-- After a grid point the first result's block is `out8` of the blocks given. -/
theorem after0_8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]
/-- After a grid point the second result's block is `out9` of the blocks given. -/
theorem after0_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) := by dsimp only [dats]
/-- The body finds the block of the projection, as values read from its array. -/
theorem before0_0 (c : Dev nD) (t : Fin cfg0.N) (d) : (dats m 0 c).before 0 t d = iblk m c 0 t :=
  before0_0_of m (dats m 0 c) (A_eq m c 0) (after0_0 m c) t d
/-- The body finds the block of the projection, as gate branch read from its array. -/
theorem before0_1 (c : Dev nD) (t : Fin cfg0.N) (d) : (dats m 0 c).before 1 t d = iblk m c 1 t :=
  before0_1_of m (dats m 0 c) (A_eq m c 1) (after0_1 m c) t d
/-- The body finds the block of the convolution taps read from its array. -/
theorem before0_2 (c : Dev nD) (t : Fin cfg0.N) (d) : (dats m 0 c).before 2 t d = iblk m c 2 t :=
  before0_2_of m (dats m 0 c) (A_eq m c 2) (after0_2 m c) t d
/-- The body finds the block of the convolution bias read from its array. -/
theorem before0_3 (c : Dev nD) (t : Fin cfg0.N) (d) : (dats m 0 c).before 3 t d = iblk m c 3 t :=
  before0_3_of m (dats m 0 c) (A_eq m c 3) (after0_3 m c) t d
/-- The body finds the block of the gate weights read from its array. -/
theorem before0_4 (c : Dev nD) (t : Fin cfg0.N) (d) : (dats m 0 c).before 4 t d = iblk m c 4 t :=
  before0_4_of m (dats m 0 c) (A_eq m c 4) (after0_4 m c) t d
/-- The body finds the block of the gate biases read from its array. -/
theorem before0_5 (c : Dev nD) (t : Fin cfg0.N) (d) : (dats m 0 c).before 5 t d = iblk m c 5 t :=
  before0_5_of m (dats m 0 c) (A_eq m c 5) (after0_5 m c) t d
/-- The body finds the block of the decay parameters read from its array. -/
theorem before0_6 (c : Dev nD) (t : Fin cfg0.N) (d) : (dats m 0 c).before 6 t d = iblk m c 6 t :=
  before0_6_of m (dats m 0 c) (A_eq m c 6) (after0_6 m c) t d
/-- The body finds the block of the initial states read from its array. -/
theorem before0_7 (c : Dev nD) (t : Fin cfg0.N) (d) : (dats m 0 c).before 7 t d = iblk m c 7 t :=
  before0_7_of m (dats m 0 c) (A_eq m c 7) (after0_7 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  iintro ⟨H0, H1, H2, H3, H4, H5, H6, H7, H8, H9⟩
  isplitl [HΦ]
  · iexact HΦ
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing but the buffers is held before the first grid point. -/
theorem hin (c : Dev nD) : Pipeline.ΦA spec0 c ⊢ (dats m 0 c).Φ 0 := Idealize.SL.BI.Entails.refl _
/-- Nothing but the buffers is held after the last grid point. -/
theorem hout (c : Dev nD) : (dats m 0 c).Φ (Fin.last cfg0.N) ⊢ Pipeline.ΦA spec0 c := Idealize.SL.BI.Entails.refl _

set_option backward.isDefEq.respectTransparency.types false in
/-- The launch: every array of the pipeline ends at what the data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The program runs, and ends with the arrays the launch leaves and everything else as it was. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Rg
end
-- ==== Proof.RgArrays.lean ====
module

public import proofs.«01_k».proof.Proof.RgFrame
public import Idealize.ShloMosaic.Lib.Pipeline.Value
public import Idealize.ShloMosaic.Lib.Pipeline.ValueKit
public import Idealize.ShloMosaic.Lib.Pointwise

/-!
# The call's arrays

Which part of each array a grid point reads, and the two result arrays after the call.
-/

@[expose] public section
set_option maxRecDepth 65536

noncomputable section

namespace Cert.KernelIdeal.Rg
open Idealize.ShloMosaic Idealize.ShloMosaic.TcCoe
open Cert.KernelIdeal Cert.KernelIdeal.Facts Cert.KernelIdeal.Gen

variable (m : (ℓ : Loc nD τ sig) → Buf (Elt Ideal) ℓ) (c : Dev nD)

/-- Where the block of the projection, as values starts at a grid point, in blocks. -/
theorem ix_0 : ∀ t : Fin cfg0.N, win0_0.index t = ![t.val, 0, 0] := (by decide +kernel : ∀ t : Fin grid0.N, _)
/-- Where the block of the projection, as gate branch starts at a grid point, in blocks. -/
theorem ix_1 : ∀ t : Fin cfg0.N, win0_1.index t = ![t.val + 12, 0, 0] := (by decide +kernel : ∀ t : Fin grid0.N, _)
/-- Where the block of the convolution taps starts at a grid point, in blocks. -/
theorem ix_2 : ∀ t : Fin cfg0.N, win0_2.index t = ![0, t.val] := (by decide +kernel : ∀ t : Fin grid0.N, _)
/-- Where the block of the convolution bias starts at a grid point, in blocks. -/
theorem ix_3 : ∀ t : Fin cfg0.N, win0_3.index t = ![0, t.val] := (by decide +kernel : ∀ t : Fin grid0.N, _)
/-- Where the block of the gate weights starts at a grid point, in blocks. -/
theorem ix_4 : ∀ t : Fin cfg0.N, win0_4.index t = ![t.val, 0, 0, 0] := (by decide +kernel : ∀ t : Fin grid0.N, _)
/-- Where the block of the gate biases starts at a grid point, in blocks. -/
theorem ix_5 : ∀ t : Fin cfg0.N, win0_5.index t = ![t.val, 0, 0, 0] := (by decide +kernel : ∀ t : Fin grid0.N, _)
/-- Where the block of the decay parameters starts at a grid point, in blocks. -/
theorem ix_6 : ∀ t : Fin cfg0.N, win0_6.index t = ![0, t.val] := (by decide +kernel : ∀ t : Fin grid0.N, _)
/-- Where the block of the initial states starts at a grid point, in blocks. -/
theorem ix_7 : ∀ t : Fin cfg0.N, win0_7.index t = ![0, 0, t.val] := (by decide +kernel : ∀ t : Fin grid0.N, _)
/-- Where the block of the first result starts at a grid point, in blocks. -/
theorem ix_8 : ∀ t : Fin cfg0.N, win0_8.index t = ![t.val, 0, 0] := (by decide +kernel : ∀ t : Fin grid0.N, _)
/-- Where the block of the second result starts at a grid point, in blocks. -/
theorem ix_9 : ∀ t : Fin cfg0.N, win0_9.index t = ![0, 0, t.val] := (by decide +kernel : ∀ t : Fin grid0.N, _)

/-- There are twelve grid points, one per slab. -/
theorem N_12 : cfg0.N = 12 := N_0

/-- The grid point that works on a slab of 128 lanes. -/
def pt (s : Fin 12) : Fin cfg0.N := ⟨s.val, lt_of_lt_of_eq s.isLt N_12.symm⟩
/-- The number of a slab's grid point is the slab's. -/
theorem pt_val (s : Fin 12) : (pt s).val = s.val := rfl
/-- Lane `l` of slab `s` among all 1536. -/
def lane (s : Fin 12) (l : Fin 128) : Fin 1536 := ⟨s.val * 128 + l.val, by omega⟩
/-- The number of a lane among all 1536. -/
theorem lane_val (s : Fin 12) (l : Fin 128) : (lane s l).val = s.val * 128 + l.val := rfl

/-- The block the body is given in place 0: slab `s` of the projection. -/
theorem blk0 (s : Fin 12) (t : Fin 4096) (l : Fin 128) :
    iblk m c 0 (pt s) (ix3 0 t l) = m ((c : Thread nD τ).loc main_arg0) (ix3 ⟨s.val, by omega⟩ t l) := by
  rw [← V_main_arg0 m c]
  blk_simp [iblk, ix_0]
  refine congrArg _ ?_
  blk_ext [ix_0, pt_val]
/-- The block the body is given in place 1: slab `s + 12` of the projection. -/
theorem blk1 (s : Fin 12) (t : Fin 4096) (l : Fin 128) :
    iblk m c 1 (pt s) (ix3 0 t l) = m ((c : Thread nD τ).loc main_arg0) (ix3 ⟨s.val + 12, by omega⟩ t l) := by
  rw [← V_main_arg0 m c]
  blk_simp [iblk, ix_1]
  refine congrArg _ ?_
  blk_ext [ix_1, pt_val]
/-- The block the body is given in place 2: the taps at the slab's lanes. -/
theorem blk2 (s : Fin 12) (k : Fin 4) (l : Fin 128) :
    iblk m c 2 (pt s) (ix2 k l) = V m c main_v43 (ix2 k (lane s l)) := by
  blk_simp [iblk, ix_2]
  refine congrArg _ ?_
  blk_ext [ix_2, pt_val, lane_val]
/-- The block the body is given in place 3: the convolution's bias at the slab's lanes. -/
theorem blk3 (s : Fin 12) (l : Fin 128) :
    iblk m c 3 (pt s) (ix2 0 l) = V m c main_v45 (ix2 0 (lane s l)) := by
  blk_simp [iblk, ix_3]
  refine congrArg _ ?_
  blk_ext [ix_3, pt_val, lane_val]
/-- The block the body is given in place 4: the slab's gate weights. -/
theorem blk4 (s : Fin 12) (d : Fin 2) (k : Fin 128) (j : Fin 256) :
    iblk m c 4 (pt s) (ix4 0 d k j) = V m c main_v33 (ix4 s d k j) := by
  blk_simp [iblk, ix_4]
  refine congrArg _ ?_
  blk_ext [ix_4, pt_val]
/-- The block the body is given in place 5: the slab's gate biases. -/
theorem blk5 (s : Fin 12) (d : Fin 2) (j : Fin 256) :
    iblk m c 5 (pt s) (ix4 0 d 0 j) = V m c main_v42 (ix4 s d 0 j) := by
  blk_simp [iblk, ix_5]
  refine congrArg _ ?_
  blk_ext [ix_5, pt_val]
/-- The block the body is given in place 6: the decay parameters at the slab's lanes. -/
theorem blk6 (s : Fin 12) (d : Fin 2) (l : Fin 128) :
    iblk m c 6 (pt s) (ix2 d l) = V m c main_v46 (ix2 d (lane s l)) := by
  blk_simp [iblk, ix_6]
  refine congrArg _ ?_
  blk_ext [ix_6, pt_val, lane_val]
/-- The block the body is given in place 7: the initial states at the slab's lanes. -/
theorem blk7 (s : Fin 12) (d : Fin 2) (r : Fin 16) (l : Fin 128) :
    iblk m c 7 (pt s) (ix3 d r l) = m ((c : Thread nD τ).loc main_arg8) (ix3 d r (lane s l)) := by
  rw [← V_main_arg8 m c]
  blk_simp [iblk, ix_7]
  refine congrArg _ ?_
  blk_ext [ix_7, pt_val, lane_val]

/-- The first result's block of a slab. -/
def B8 (s : Fin 12) : Vec Ideal S1x4096x128 .f32 :=
  out8 (iblk m c 0 (pt s)) (iblk m c 1 (pt s)) (iblk m c 2 (pt s)) (iblk m c 3 (pt s)) (iblk m c 4 (pt s)) (iblk m c 5 (pt s)) (iblk m c 6 (pt s)) (iblk m c 7 (pt s))
/-- The second result's block of a slab. -/
def B9 (s : Fin 12) : Vec Ideal S2x16x128 .f32 :=
  out9 (iblk m c 0 (pt s)) (iblk m c 1 (pt s)) (iblk m c 2 (pt s)) (iblk m c 3 (pt s)) (iblk m c 4 (pt s)) (iblk m c 5 (pt s)) (iblk m c 6 (pt s)) (iblk m c 7 (pt s))

/-- The first result: slab by slab the blocks. -/
def G8 : Buf (Elt Ideal) ((c : Thread nD τ).loc main_v47_0) := fun (i : S12x4096x128.Idx) => B8 m c (i 0) (ix3 0 (i 1) (i 2))
/-- The second result: lane slab by lane slab the blocks. -/
def G9 : Buf (Elt Ideal) ((c : Thread nD τ).loc main_v47_1) := fun (i : S2x16x1536.Idx) =>
  B9 m c ⟨(i 2).val / 128, by have : (i 2).val < 1536 := (i 2).isLt; omega⟩ (ix3 (i 0) (i 1) ⟨(i 2).val % 128, Nat.mod_lt _ (by decide)⟩)

/-- A family of blocks, one per slab, is what the grid points write of the array of them. -/
theorem cut8 (β : Fin 12 → Vec Ideal S1x4096x128 .f32) (t : Fin cfg0.N) (ht : t.val < 12) :
    (cfg0.win 8).cut (grid0.coords t) (β ⟨t.val, ht⟩)
      = ((cfg0.win 8).blk t).view.read (Elt Ideal) (fun (i : S12x4096x128.Idx) => β (i 0) (ix3 0 (i 1) (i 2))) := by
  funext y
  have hy0 : (y 0).val < 1 := (y 0).isLt
  have e0 : win0_8.index t (0 : Fin 3) = t.val := congrFun (ix_8 t) 0
  have e1 : win0_8.index t (1 : Fin 3) = 0 := congrFun (ix_8 t) 1
  have e2 : win0_8.index t (2 : Fin 3) = 0 := congrFun (ix_8 t) 2
  have hb0 : (((cfg0.win 8).blk t).view.emb y 0).val = win0_8.index t (0 : Fin 3) * 1 + 1 * (y 0).val := rfl
  have hb1 : (((cfg0.win 8).blk t).view.emb y 1).val = win0_8.index t (1 : Fin 3) * 4096 + 1 * (y 1).val := rfl
  have hb2 : (((cfg0.win 8).blk t).view.emb y 2).val = win0_8.index t (2 : Fin 3) * 128 + 1 * (y 2).val := rfl
  have key : ∀ (i : S12x4096x128.Idx), (i 0).val = t.val → (i 1).val = (y 1).val → (i 2).val = (y 2).val →
      β ⟨t.val, ht⟩ ((cfg0.win 8).xinj (grid0.coords t) y) = β (i 0) (ix3 0 (i 1) (i 2)) := by
    intro i h0 h1 h2
    have h0' : i 0 = (⟨t.val, ht⟩ : Fin 12) := Fin.ext h0
    rw [h0']
    refine congrArg _ (funext fun a => Fin.ext ?_)
    match a with
    | ⟨0, _⟩ => show (y 0).val = 0; omega
    | ⟨1, _⟩ => exact h1.symm
    | ⟨2, _⟩ => exact h2.symm
  exact key (((cfg0.win 8).blk t).view.emb y) (by rw [hb0, e0]; omega) (by rw [hb1, e1]; omega) (by rw [hb2, e2]; omega)

/-- The same for the second result, whose slabs lie along the lanes. -/
theorem cut9 (β : Fin 12 → Vec Ideal S2x16x128 .f32) (t : Fin cfg0.N) (ht : t.val < 12) :
    (cfg0.win 9).cut (grid0.coords t) (β ⟨t.val, ht⟩)
      = ((cfg0.win 9).blk t).view.read (Elt Ideal) (fun (i : S2x16x1536.Idx) =>
          β ⟨(i 2).val / 128, by have : (i 2).val < 1536 := (i 2).isLt; omega⟩ (ix3 (i 0) (i 1) ⟨(i 2).val % 128, Nat.mod_lt _ (by decide)⟩)) := by
  funext y
  have hy2 : (y 2).val < 128 := (y 2).isLt
  have e0 : win0_9.index t (0 : Fin 3) = 0 := congrFun (ix_9 t) 0
  have e1 : win0_9.index t (1 : Fin 3) = 0 := congrFun (ix_9 t) 1
  have e2 : win0_9.index t (2 : Fin 3) = t.val := congrFun (ix_9 t) 2
  have hb0 : (((cfg0.win 9).blk t).view.emb y 0).val = win0_9.index t (0 : Fin 3) * 2 + 1 * (y 0).val := rfl
  have hb1 : (((cfg0.win 9).blk t).view.emb y 1).val = win0_9.index t (1 : Fin 3) * 16 + 1 * (y 1).val := rfl
  have hb2 : (((cfg0.win 9).blk t).view.emb y 2).val = win0_9.index t (2 : Fin 3) * 128 + 1 * (y 2).val := rfl
  have key : ∀ (i : S2x16x1536.Idx) (hi : (i 2).val / 128 < 12), (i 0).val = (y 0).val → (i 1).val = (y 1).val → (i 2).val = t.val * 128 + (y 2).val →
      β ⟨t.val, ht⟩ ((cfg0.win 9).xinj (grid0.coords t) y) = β ⟨(i 2).val / 128, hi⟩ (ix3 (i 0) (i 1) ⟨(i 2).val % 128, Nat.mod_lt _ (by decide)⟩) := by
    intro i hi h0 h1 h2
    have hp : (⟨(i 2).val / 128, hi⟩ : Fin 12) = ⟨t.val, ht⟩ := Fin.ext (by show (i 2).val / 128 = t.val; omega)
    rw [hp]
    refine congrArg _ (funext fun a => Fin.ext ?_)
    match a with
    | ⟨0, _⟩ => exact h0.symm
    | ⟨1, _⟩ => exact h1.symm
    | ⟨2, _⟩ => show (y 2).val = (i 2).val % 128; omega
  exact key (((cfg0.win 9).blk t).view.emb y) _ (by rw [hb0, e0]; omega) (by rw [hb1, e1]; omega) (by rw [hb2, e2]; omega)

/-- What a grid point writes of the first result is its part of the whole. -/
theorem flushed8_eq (t : Fin cfg0.N) : (dats m 0 c).flushed 8 t = ((cfg0.win 8).blk t).view.read (Elt Ideal) (G8 m c) := by
  have ht : t.val < 12 := lt_of_lt_of_eq t.isLt N_12
  refine (congrArg ((cfg0.win 8).cut (grid0.coords t)) ((after0_8 m c t).trans ?_)).trans (cut8 (B8 m c) t ht)
  unfold B8; rfl

/-- What a grid point writes of the second result is its part of the whole. -/
theorem flushed9_eq (t : Fin cfg0.N) : (dats m 0 c).flushed 9 t = ((cfg0.win 9).blk t).view.read (Elt Ideal) (G9 m c) := by
  have ht : t.val < 12 := lt_of_lt_of_eq t.isLt N_12
  refine (congrArg ((cfg0.win 9).cut (grid0.coords t)) ((after0_9 m c t).trans ?_)).trans (cut9 (B9 m c) t ht)
  unfold B9; rfl

/-- A position of the first result lies in the block of its slab. -/
theorem mem_blk8 (t : Fin cfg0.N) (i : S12x4096x128.Idx) :
    i ∈ ((cfg0.win 8).blk t).view.set ↔ ∀ a : Fin 3, win0_8.index t a * S1x4096x128.size a ≤ (i a).val ∧ (i a).val < win0_8.index t a * S1x4096x128.size a + S1x4096x128.size a := by
  show i ∈ ((View.whole main_v47_0).slice (win0_8.rect t)).set ↔ _
  rw [View.set_slice_whole, Rect.mem_set_unit]
  exact Iff.rfl

/-- A position of the second result lies in the block of its lane's slab. -/
theorem mem_blk9 (t : Fin cfg0.N) (i : S2x16x1536.Idx) :
    i ∈ ((cfg0.win 9).blk t).view.set ↔ ∀ a : Fin 3, win0_9.index t a * S2x16x128.size a ≤ (i a).val ∧ (i a).val < win0_9.index t a * S2x16x128.size a + S2x16x128.size a := by
  show i ∈ ((View.whole main_v47_1).slice (win0_9.rect t)).set ↔ _
  rw [View.set_slice_whole, Rect.mem_set_unit]
  exact Iff.rfl

/-- The first result's array after the call. -/
theorem final8 : (dats m 0 c).arrAt 8 cfg0.N = G8 m c :=
  (dats m 0 c).arrAt_eq_of_cover 8 _ (fun t _ => flushed8_eq m c t) (fun i => by
    have h0 : (i 0).val < 12 := (i 0).isLt
    have h1 : (i 1).val < 4096 := (i 1).isLt
    have h2 : (i 2).val < 128 := (i 2).isLt
    refine ⟨pt ⟨(i 0).val, h0⟩, flush0_8 _, ?_⟩
    refine (mem_blk8 _ i).2 fun a => ?_
    rw [ix_8]
    match a with
    | ⟨0, _⟩ => show (i 0).val * 1 ≤ (i 0).val ∧ (i 0).val < (i 0).val * 1 + 1; omega
    | ⟨1, _⟩ => show 0 * 4096 ≤ (i 1).val ∧ (i 1).val < 0 * 4096 + 4096; omega
    | ⟨2, _⟩ => show 0 * 128 ≤ (i 2).val ∧ (i 2).val < 0 * 128 + 128; omega)

/-- The second result's array after the call. -/
theorem final9 : (dats m 0 c).arrAt 9 cfg0.N = G9 m c :=
  (dats m 0 c).arrAt_eq_of_cover 9 _ (fun t _ => flushed9_eq m c t) (fun i => by
    have h0 : (i 0).val < 2 := (i 0).isLt
    have h1 : (i 1).val < 16 := (i 1).isLt
    have h2 : (i 2).val < 1536 := (i 2).isLt
    refine ⟨pt ⟨(i 2).val / 128, by omega⟩, flush0_9 _, ?_⟩
    refine (mem_blk9 _ i).2 fun a => ?_
    rw [ix_9]
    match a with
    | ⟨0, _⟩ => show 0 * 2 ≤ (i 0).val ∧ (i 0).val < 0 * 2 + 2; omega
    | ⟨1, _⟩ => show 0 * 16 ≤ (i 1).val ∧ (i 1).val < 0 * 16 + 16; omega
    | ⟨2, _⟩ => show (i 2).val / 128 * 128 ≤ (i 2).val ∧ (i 2).val < (i 2).val / 128 * 128 + 128; omega)

end Cert.KernelIdeal.Rg
end
-- ==== Proof.RgScalar.lean ====
module

public import Idealize.ShloMosaic.PureOps.Ideal
public import Mathlib.Analysis.SpecialFunctions.Pow.Real
public import Mathlib.Analysis.SpecialFunctions.Trigonometric.DerivHyp

/-!
# The scalar identities of the recurrence

The kernel writes a sigmoid as a hyperbolic tangent of half its argument, an exponential as a power of
two, and the square root of `1 - a²` as `om` times its reciprocal square root.
-/

@[expose] public section

noncomputable section

namespace Cert.RgScalar
open Idealize.ShloMosaic

/-- The sigmoid as it is written out on the host. -/
def sig (z : EReal) : EReal := Ideal.div 1 (1 + Ideal.exp (-z))

/-- A hyperbolic tangent of half an argument is a number between minus one and one, and the sigmoid is
half of one plus it. -/
theorem tanh_half (z : EReal) : ∃ t : ℝ, -1 ≤ t ∧ t ≤ 1 ∧ Ideal.tanh (((1 / 2 : ℝ) : EReal) * z) = (t : EReal)
    ∧ sig z = ((1 / 2 + 1 / 2 * t : ℝ) : EReal) := by
  induction z with
  | bot =>
    refine ⟨-1, le_refl _, by norm_num, ?_, ?_⟩
    · rw [EReal.coe_mul_bot_of_pos (by norm_num)]; simp
    · unfold sig
      rw [EReal.neg_bot, Ideal.exp_top, show (1 : EReal) + ⊤ = ⊤ from EReal.add_top_of_ne_bot (by decide)]
      simp [Ideal.div]
  | top =>
    refine ⟨1, by norm_num, le_refl _, ?_, ?_⟩
    · rw [EReal.coe_mul_top_of_pos (by norm_num)]; simp
    · unfold sig
      rw [EReal.neg_top, Ideal.exp_bot, add_zero]
      simp only [Ideal.div, if_neg (one_ne_zero' EReal), inv_one, mul_one]
      rw [← EReal.coe_one]; refine congrArg _ ?_; norm_num
  | coe r =>
    refine ⟨Real.tanh (1 / 2 * r), (Real.neg_one_lt_tanh _).le, (Real.tanh_lt_one _).le, ?_, ?_⟩
    · rw [← EReal.coe_mul, Ideal.tanh_coe]
    · unfold sig
      rw [← EReal.coe_neg, Ideal.exp_coe, ← EReal.coe_one, ← EReal.coe_add]
      have hp : (0 : ℝ) < 1 + Real.exp (-r) := by positivity
      unfold Ideal.div
      rw [if_neg (by rw [← EReal.coe_zero]; exact fun h => hp.ne' (EReal.coe_injective h)), ← EReal.coe_inv, ← EReal.coe_mul]
      refine congrArg _ ?_
      rw [Real.tanh_eq_sinh_div_cosh, Real.sinh_eq, Real.cosh_eq]
      have h1 : Real.exp (-r) = Real.exp (-(1 / 2 * r)) * Real.exp (-(1 / 2 * r)) := by rw [← Real.exp_add]; congr 1; ring
      have h2 : Real.exp (1 / 2 * r) * Real.exp (-(1 / 2 * r)) = 1 := by rw [← Real.exp_add]; simp
      have h3 : 0 < Real.exp (1 / 2 * r) := Real.exp_pos _
      have h4 : 0 < Real.exp (-(1 / 2 * r)) := Real.exp_pos _
      rw [h1]
      generalize Real.exp (1 / 2 * r) = u at *
      generalize Real.exp (-(1 / 2 * r)) = v at *
      have h5 : u ≠ 0 := h3.ne'
      have h6 : v = u⁻¹ := by field_simp; linarith
      subst h6
      field_simp
      ring

/-- The power of two that the kernel takes is the exponential the reference takes; it is a number
between zero and one. -/
theorem decay_eq (s t : ℝ) (hs : 0 ≤ s) (h1 : -1 ≤ t) :
    Ideal.exp2 (((-4 * (Real.log 2)⁻¹ : ℝ) : EReal) * (s : EReal) + ((-4 * (Real.log 2)⁻¹ : ℝ) : EReal) * (s : EReal) * (t : EReal))
      = ((Real.exp (-8 * (1 / 2 + 1 / 2 * t) * s) : ℝ) : EReal) := by
  rw [← EReal.coe_mul, ← EReal.coe_mul, ← EReal.coe_add, Ideal.exp2_coe]
  refine congrArg _ ?_
  rw [Real.rpow_eq_pow, Real.rpow_def_of_pos (by norm_num)]
  congr 1
  have h2 : Real.log 2 ≠ 0 := (Real.log_pos (by norm_num)).ne'
  field_simp
  ring

/-- The factor of the input: `om` times its reciprocal square root where `om` is positive and zero where
it isn't is the square root of `1 - a²`. -/
theorem root_eq (x : ℝ) (hx : x ≤ 0) :
    (if (0 : EReal) < 1 - (Real.exp x : EReal) * (Real.exp x : EReal)
      then (1 - (Real.exp x : EReal) * (Real.exp x : EReal)) * Ideal.rsqrt (1 - (Real.exp x : EReal) * (Real.exp x : EReal)) else 0)
      = Ideal.sqrt (-(Ideal.expm1 (((2 : ℝ) : EReal) * (x : EReal)))) := by
  have h2 : Real.exp (2 * x) = Real.exp x * Real.exp x := by rw [← Real.exp_add]; congr 1; ring
  have h1 : Real.exp x * Real.exp x ≤ 1 := by rw [← h2]; exact Real.exp_le_one_iff.mpr (by linarith)
  unfold Ideal.expm1
  rw [← EReal.coe_mul, ← EReal.coe_mul, Ideal.exp_coe, h2]
  generalize Real.exp x * Real.exp x = q at *
  rw [← EReal.coe_one, ← EReal.coe_sub, ← EReal.coe_sub, ← EReal.coe_neg, Ideal.rsqrt_coe, Ideal.sqrt_coe, neg_sub,
    if_neg (not_lt.mpr (sub_nonneg.mpr h1)), if_neg (not_lt.mpr (sub_nonneg.mpr h1)), ← EReal.coe_zero]
  by_cases h : (0 : ℝ) < 1 - q
  · rw [if_pos (EReal.coe_lt_coe_iff.mpr h), if_neg h.ne', ← EReal.coe_mul]
    refine congrArg _ ?_
    have := Real.mul_self_sqrt h.le
    have h3 : Real.sqrt (1 - q) ≠ 0 := (Real.sqrt_pos.mpr h).ne'
    field_simp
    rw [sq]; exact this.symm
  · rw [if_neg (fun h' => h (EReal.coe_lt_coe_iff.mp h')), show 1 - q = 0 by linarith, Real.sqrt_zero]

/-- The softplus of minus `x` as it is written out. -/
def sp (x : EReal) : EReal := max (-x) 0 + Ideal.log1p (Ideal.exp (-(max (-x - 0) (-(-x - 0)))))

/-- It is a number not below zero unless `x` is minus infinity. -/
theorem sp_real (x : EReal) (h : ⊥ < x) : ∃ s : ℝ, 0 ≤ s ∧ sp x = (s : EReal) := by
  induction x with
  | bot => exact absurd h (lt_irrefl _)
  | top =>
    refine ⟨0, le_refl _, ?_⟩
    unfold sp
    simp [Ideal.log1p]
    rw [← EReal.coe_one, Ideal.log_coe]
    simp
  | coe r =>
    refine ⟨max (-r) 0 + Real.log (1 + Real.exp (-(max (-r) r))), ?_, ?_⟩
    · have : 0 ≤ Real.log (1 + Real.exp (-(max (-r) r))) := Real.log_nonneg (by linarith [Real.exp_pos (-(max (-r) r))])
      have := le_max_right (-r) 0
      linarith
    · unfold sp
      rw [sub_zero, neg_neg, ← EReal.coe_neg, ← EReal.coe_zero, ← EReal.coe_strictMono.monotone.map_max, ← EReal.coe_strictMono.monotone.map_max, ← EReal.coe_neg, Ideal.exp_coe]
      unfold Ideal.log1p
      rw [← EReal.coe_one, ← EReal.coe_add, Ideal.log_coe, if_neg (not_le.mpr (by positivity)), ← EReal.coe_add]

end Cert.RgScalar
end
-- ==== Proof.RgChunk.lean ====
module

public import proofs.«01_k».proof.Proof.RgStates
public import proofs.«01_k».proof.Proof.RgScalar
public import Idealize.ShloMosaic.Lib.Pipeline.ValueKit
public import Idealize.ShloMosaic.Lib.Pointwise

/-!
# One chunk of the recurrence, over the extended reals

A chunk of 32 time steps with its margins, the convolution, the two gates, the decay and the drive, each
read at a time step, a batch row and a lane.
-/

@[expose] public section
set_option maxRecDepth 65536

noncomputable section

namespace Cert.KernelIdeal.Rg
open Idealize.ShloMosaic Idealize.ShloMosaic.TcCoe
open Cert.KernelIdeal Cert.KernelIdeal.Facts Cert.KernelIdeal.Gen

/-- The bit pattern of one half. -/
theorem half_f32 : Ideal.ofBits .f32 0x3F000000#32 = ((1/2 : ℝ) : EReal) := by
  simp [Ideal.ofBits, Ideal.ieee, -EReal.coe_mul]; norm_num

/-- The first sixteen rows of an extended chunk: the time step before it, or zero. -/
theorem ext_prv (mp mn : BitVec 1) (cur : Vec Ideal S1x512x128 .f32) (prv : Vec Ideal S1x16x128 .f32) (nxt : Vec Ideal S1x32x128 .f32)
    (r : Fin 16) (l : Fin 128) :
    ext mp mn cur prv nxt (ix2 ⟨r.val, by omega⟩ l) = Scalar.select mp (prv (ix3 0 r l)) (0 : EReal) := by
  pointwise [ext]

/-- The middle rows of an extended chunk: the chunk. -/
theorem ext_cur (mp mn : BitVec 1) (cur : Vec Ideal S1x512x128 .f32) (prv : Vec Ideal S1x16x128 .f32) (nxt : Vec Ideal S1x32x128 .f32)
    (q : Fin 512) (l : Fin 128) :
    ext mp mn cur prv nxt (ix2 ⟨16 + q.val, by omega⟩ l) = cur (ix3 0 q l) := by
  pointwise [ext]

/-- The last rows of an extended chunk: the two time steps after it, or zero. -/
theorem ext_nxt (mp mn : BitVec 1) (cur : Vec Ideal S1x512x128 .f32) (prv : Vec Ideal S1x16x128 .f32) (nxt : Vec Ideal S1x32x128 .f32)
    (q : Fin 32) (l : Fin 128) :
    ext mp mn cur prv nxt (ix2 ⟨528 + q.val, by omega⟩ l) = Scalar.select mn (nxt (ix3 0 q l)) (0 : EReal) := by
  pointwise [ext]
  rw [dif_neg (by omega), dif_neg (by omega)]
  refine congrArg (fun v => Scalar.select mn v (0 : EReal)) (congrArg nxt (congrArg (fun q => ix3 0 q l) (Fin.ext ?_)))
  show 528 + q.val - 16 - 512 = q.val
  omega

/-- A load of a rectangle of rows reads the block at the rectangle's first row plus the row. -/
theorem ld_row {sz : Fin 3 → ℕ} {off : Fin 3 → ℕ} {inb : ∀ a, off a + sz a ≤ S1x4096x128.size a}
    (x : Vec Ideal S1x4096x128 .f32) (o : ℕ) (ho : off = ![0, o, 0])
    (i : (Rect.unit (s := S1x4096x128) off sz inb).toLoadRect.shape.Idx) (t : Fin 4096) (l : Fin 128)
    (h1 : t.val = o + (i 1).val) (h2 : l.val = (i 2).val) :
    ld x (Rect.unit (s := S1x4096x128) off sz inb).toLoadRect i = x (ix3 0 t l) := by
  subst ho
  refine congrArg x (funext fun a => ?_)
  fin_cases a
  · exact Subsingleton.elim (α := Fin 1) _ _
  · refine Fin.ext ((Rect.idx_unit_val _ _ _ _ _).trans ?_)
    show o + (i 1).val = t.val; omega
  · refine Fin.ext ((Rect.idx_unit_val _ _ _ _ _).trans ?_)
    show 0 + (i 2).val = l.val; omega

/-- The convolution of a chunk at a row and lane: four taps a time step apart, and the bias. -/
theorem conv_at (p : Consts Ideal) (e : FVec Ideal S560x128 .f32) (q : Fin 512) (l : Fin 128) :
    conv p e (ix2 q l) = p.c0 (ix2 0 l) * e (ix2 ⟨q.val, by omega⟩ l) + p.c1 (ix2 0 l) * e (ix2 ⟨16 + q.val, by omega⟩ l)
      + p.c2 (ix2 0 l) * e (ix2 ⟨32 + q.val, by omega⟩ l) + p.c3 (ix2 0 l) * e (ix2 ⟨48 + q.val, by omega⟩ l) + p.cb (ix2 0 l) := by
  pointwise [conv]

/-- The gates of a chunk before they are shifted: the hyperbolic tangent of a product plus a bias. -/
theorem gates_at (xc : FVec Ideal S512x128 .f32) (w : Vec Ideal S1x1x128x256 .bf16) (b : Vec Ideal S1x1x1x256 .f32) (q : Fin 512) (j : Fin 256) :
    gates xc w b (ix2 q j) = Ideal.tanh ((∑ k : Fin 128, xc (ix2 q k) * w (ix4 0 0 k j)) + b (ix4 0 0 0 j)) := by
  pointwise [gates]

/-- The decay of a chunk: a power of two. -/
theorem decay_at (hl : FVec Ideal S1x128 .f32) (g : FVec Ideal S512x256 .f32) (q : Fin 512) (l : Fin 128) :
    decay hl g (ix2 q l) = Ideal.exp2 (hl (ix2 0 l) + hl (ix2 0 l) * g (ix2 q ⟨l.val, by omega⟩)) := by
  pointwise [decay]
  rfl

/-- The added term of a chunk: the root factor times the input gate times the convolution. -/
theorem drive_at (a : FVec Ideal S512x128 .f32) (g : FVec Ideal S512x256 .f32) (xc : FVec Ideal S512x128 .f32) (q : Fin 512) (l : Fin 128) :
    drive a g xc (ix2 q l) = (if 0 < 1 - a (ix2 q l) * a (ix2 q l) then (1 - a (ix2 q l) * a (ix2 q l)) * Ideal.rsqrt (1 - a (ix2 q l) * a (ix2 q l)) else 0)
      * ((((1/2 : ℝ) : EReal) + ((1/2 : ℝ) : EReal) * g (ix2 q ⟨128 + l.val, by omega⟩)) * xc (ix2 q l)) := by
  pointwise [drive]
  rw [half_f32]

/-- The rows of a time step of a chunk. -/
theorem row_at (t : Fin 32) (a : FVec Ideal S512x128 .f32) (r : Fin 16) (l : Fin 128) :
    row t a (ix2 r l) = a (ix2 ⟨16 * t.val + r.val, by omega⟩ l) := by
  pointwise [row]

/-- A state as it is stored, with a leading axis. -/
theorem put_at (h : FVec Ideal S16x128 .f32) (r : Fin 16) (l : Fin 128) : put h (ix3 0 r l) = h (ix2 r l) := by
  pointwise [put]

end Cert.KernelIdeal.Rg
end
-- ==== Proof.RgScan.lean ====
module

public import proofs.«01_k».proof.Proof.RgChunk

/-!
# The recurrence over the extended reals

The two scans as recursions over the 256 time steps, and what the two loops leave in the states and in the
first result's block.
-/

@[expose] public section
set_option maxRecDepth 65536

noncomputable section

namespace Cert.KernelIdeal.Rg
open Idealize.ShloMosaic Idealize.ShloMosaic.TcCoe
open Cert.KernelIdeal Cert.KernelIdeal.Facts Cert.KernelIdeal.Gen

/-- A value at a time step, a batch row and a lane. -/
abbrev Tm := ℕ → Fin 16 → Fin 128 → EReal

/-- The rows of a block with one step of zeros before them and zeros after them: step `t` is row group `t - 1`. -/
def xt (x : Vec Ideal S1x4096x128 .f32) : Tm := fun t r l =>
  if h : 1 ≤ t ∧ t ≤ 256 then x (ix3 0 ⟨16 * (t - 1) + r.val, by omega⟩ l) else 0

/-- The convolution of four taps. -/
def xc (p : Consts Ideal) (X : Tm) : Tm := fun t r l =>
  p.c0 (ix2 0 l) * X t r l + p.c1 (ix2 0 l) * X (t + 1) r l + p.c2 (ix2 0 l) * X (t + 2) r l
    + p.c3 (ix2 0 l) * X (t + 3) r l + p.cb (ix2 0 l)

/-- The gates of one direction: lanes 0 to 127 the recurrence gate, lanes 128 to 255 the input gate. -/
def gt (p : Consts Ideal) (w : Vec Ideal S1x1x128x256 .bf16) (b : Vec Ideal S1x1x1x256 .f32) (X : Tm) (t : ℕ) (r : Fin 16) (j : Fin 256) : EReal :=
  Ideal.tanh ((∑ k : Fin 128, xc p X t r k * w (ix4 0 0 k j)) + b (ix4 0 0 0 j))

/-- The decay. -/
def dA (p : Consts Ideal) (hl : FVec Ideal S1x128 .f32) (w : Vec Ideal S1x1x128x256 .bf16) (b : Vec Ideal S1x1x1x256 .f32) (X : Tm) : Tm := fun t r l =>
  Ideal.exp2 (hl (ix2 0 l) + hl (ix2 0 l) * gt p w b X t r ⟨l.val, by omega⟩)

/-- The drive. -/
def dB (p : Consts Ideal) (hl : FVec Ideal S1x128 .f32) (w : Vec Ideal S1x1x128x256 .bf16) (b : Vec Ideal S1x1x1x256 .f32) (X : Tm) : Tm := fun t r l =>
  (if 0 < 1 - dA p hl w b X t r l * dA p hl w b X t r l then
      (1 - dA p hl w b X t r l * dA p hl w b X t r l) * Ideal.rsqrt (1 - dA p hl w b X t r l * dA p hl w b X t r l) else 0)
    * ((((1/2 : ℝ) : EReal) + ((1/2 : ℝ) : EReal) * gt p w b X t r ⟨128 + l.val, by omega⟩) * xc p X t r l)

/-- The state after `n` steps forward. -/
def HF (A B : Tm) (h : Fin 16 → Fin 128 → EReal) : Tm
  | 0 => h
  | n + 1 => fun r l => A n r l * HF A B h n r l + B n r l

/-- The state after `n` steps backward. -/
def HB (A B : Tm) (h : Fin 16 → Fin 128 → EReal) : Tm
  | 0 => h
  | n + 1 => fun r l => A (255 - n) r l * HB A B h n r l + B (255 - n) r l

section chunk
variable (p : Consts Ideal) (X : Tm) (e : FVec Ideal S560x128 .f32) (c : ℕ)
  (He : ∀ j (hj : j < 35) (r : Fin 16) (l : Fin 128), e (ix2 ⟨16 * j + r.val, by omega⟩ l) = X (32 * c + j) r l)
include He

/-- The convolution of a chunk is that of the whole sequence at the chunk's time steps. -/
theorem conv_chunk (t : ℕ) (ht : t < 32) (r : Fin 16) (l : Fin 128) :
    conv p e (ix2 ⟨16 * t + r.val, by omega⟩ l) = xc p X (32 * c + t) r l := by
  refine (conv_at p e _ l).trans ?_
  have h : ∀ (d : ℕ) (hd : d < 4) (hq : 16 * d + (16 * t + r.val) < 560),
      e (ix2 ⟨16 * d + (16 * t + r.val), hq⟩ l) = X (32 * c + t + d) r l := fun d hd hq => by
    refine Eq.trans (congrArg e (congrArg (fun q => ix2 q l) (Fin.ext ?_))) ((He (t + d) (by omega) r l).trans ?_)
    · show 16 * d + (16 * t + r.val) = 16 * (t + d) + r.val; omega
    · rw [Nat.add_assoc]
  unfold xc
  refine congrArg (· + _) (congrArg₂ (· + ·) (congrArg₂ (· + ·) (congrArg₂ (· + ·) ?_ ?_) ?_) ?_)
  · refine congrArg (_ * ·) (Eq.trans (congrArg e (congrArg (fun q => ix2 q l) (Fin.ext ?_))) (h 0 (by omega) (by omega)))
    show 16 * t + r.val = 16 * 0 + (16 * t + r.val); omega
  · exact congrArg (_ * ·) (h 1 (by omega) (by omega))
  · exact congrArg (_ * ·) (h 2 (by omega) (by omega))
  · exact congrArg (_ * ·) (h 3 (by omega) (by omega))

/-- The gates of a chunk are those of the whole sequence at the chunk's time steps. -/
theorem gates_chunk (w : Vec Ideal S1x1x128x256 .bf16) (b : Vec Ideal S1x1x1x256 .f32) (t : ℕ) (ht : t < 32) (r : Fin 16) (j : Fin 256) :
    gates (conv p e) w b (ix2 ⟨16 * t + r.val, by omega⟩ j) = gt p w b X (32 * c + t) r j := by
  refine (gates_at _ w b _ j).trans ?_
  unfold gt
  exact congrArg Ideal.tanh (congrArg (· + _) (Finset.sum_congr rfl fun k _ => congrArg (· * _) (conv_chunk p X e c He t ht r k)))

/-- The decays of a chunk are those of the whole sequence at the chunk's time steps. -/
theorem decay_chunk (hl : FVec Ideal S1x128 .f32) (w : Vec Ideal S1x1x128x256 .bf16) (b : Vec Ideal S1x1x1x256 .f32) (t : ℕ) (ht : t < 32) (r : Fin 16) (l : Fin 128) :
    decay hl (gates (conv p e) w b) (ix2 ⟨16 * t + r.val, by omega⟩ l) = dA p hl w b X (32 * c + t) r l := by
  refine (decay_at hl _ _ l).trans ?_
  rw [gates_chunk p X e c He w b t ht r]
  rfl

/-- The added terms of a chunk are those of the whole sequence at the chunk's time steps. -/
theorem drive_chunk (hl : FVec Ideal S1x128 .f32) (w : Vec Ideal S1x1x128x256 .bf16) (b : Vec Ideal S1x1x1x256 .f32) (t : ℕ) (ht : t < 32) (r : Fin 16) (l : Fin 128) :
    drive (decay hl (gates (conv p e) w b)) (gates (conv p e) w b) (conv p e) (ix2 ⟨16 * t + r.val, by omega⟩ l) = dB p hl w b X (32 * c + t) r l := by
  refine (drive_at _ _ _ _ l).trans ?_
  rw [decay_chunk p X e c He hl w b t ht r, gates_chunk p X e c He w b t ht r, conv_chunk p X e c He t ht r]
  rfl
end chunk

/-- A time step's rows of a chunk that is a part of a sequence. -/
theorem row_chunk (A : Tm) (a : FVec Ideal S512x128 .f32) (c : ℕ)
    (Ha : ∀ t (ht : t < 32) (r : Fin 16) (l : Fin 128), a (ix2 ⟨16 * t + r.val, by omega⟩ l) = A (32 * c + t) r l)
    (t : Fin 32) (r : Fin 16) (l : Fin 128) : row t a (ix2 r l) = A (32 * c + t.val) r l :=
  (row_at t a r l).trans (Ha t.val t.isLt r l)

section scan
variable (A B : Tm) (h0 : Fin 16 → Fin 128 → EReal) (a b : FVec Ideal S512x128 .f32) (c : ℕ)
  (Ha : ∀ t (ht : t < 32) (r : Fin 16) (l : Fin 128), a (ix2 ⟨16 * t + r.val, by omega⟩ l) = A (32 * c + t) r l)
  (Hb : ∀ t (ht : t < 32) (r : Fin 16) (l : Fin 128), b (ix2 ⟨16 * t + r.val, by omega⟩ l) = B (32 * c + t) r l)
  (h : FVec Ideal S16x128 .f32)
include Ha Hb

/-- The forward scan of a chunk continues the forward recursion. -/
theorem scF_at (hh : ∀ r l, h (ix2 r l) = HF A B h0 (32 * c) r l) (r : Fin 16) (l : Fin 128) :
    ∀ n ≤ 32, scF a b h n (ix2 r l) = HF A B h0 (32 * c + n) r l
  | 0, _ => hh r l
  | n + 1, hn => by
    show row (tF n) a (ix2 r l) * scF a b h n (ix2 r l) + row (tF n) b (ix2 r l) = _
    rw [row_chunk A a c Ha, row_chunk B b c Hb, scF_at hh r l n (by omega), tF_val (by omega)]
    rfl

/-- The backward scan of a chunk continues the backward recursion. -/
theorem scB_at (k : ℕ) (hk : c + k = 7) (hh : ∀ r l, h (ix2 r l) = HB A B h0 (32 * k) r l) (r : Fin 16) (l : Fin 128) :
    ∀ n ≤ 32, scB a b h n (ix2 r l) = HB A B h0 (32 * k + n) r l
  | 0, _ => hh r l
  | n + 1, hn => by
    show row (tB n) a (ix2 r l) * scB a b h n (ix2 r l) + row (tB n) b (ix2 r l) = _
    rw [row_chunk A a c Ha, row_chunk B b c Hb, scB_at k hk hh r l n (by omega), tB_val (by omega)]
    show _ = A (255 - (32 * k + n)) r l * _ + B (255 - (32 * k + n)) r l
    rw [show 32 * c + (31 - n) = 255 - (32 * k + n) by omega]
    rfl
end scan

/-- A chunk with its margins, read at a step. -/
theorem ext_chunk (x : Vec Ideal S1x4096x128 .f32) (mp mn : BitVec 1) (cur : Vec Ideal S1x512x128 .f32) (prv : Vec Ideal S1x16x128 .f32)
    (nxt : Vec Ideal S1x32x128 .f32) (c : ℕ) (hc : c < 8)
    (hcur : ∀ (q : Fin 512) l, cur (ix3 0 q l) = x (ix3 0 ⟨512 * c + q.val, by omega⟩ l))
    (hp0 : c = 0 → mp = 0#1)
    (hp1 : c ≠ 0 → mp = 1#1 ∧ ∀ (q : Fin 16) (l : Fin 128), prv (ix3 0 q l) = x (ix3 0 ⟨512 * c - 16 + q.val, by omega⟩ l))
    (hn0 : c = 7 → mn = 0#1)
    (hn1 : ∀ h : c < 7, mn = 1#1 ∧ ∀ (q : Fin 32) (l : Fin 128), nxt (ix3 0 q l) = x (ix3 0 ⟨512 * c + 512 + q.val, by omega⟩ l))
    (j : ℕ) (hj : j < 35) (r : Fin 16) (l : Fin 128) :
    ext mp mn cur prv nxt (ix2 ⟨16 * j + r.val, by omega⟩ l) = xt x (32 * c + j) r l := by
  rcases Nat.eq_zero_or_pos j with rfl | hj0
  · refine Eq.trans (congrArg (ext mp mn cur prv nxt) (congrArg (fun q => ix2 q l) (Fin.ext ?_))) ((ext_prv mp mn cur prv nxt r l).trans ?_)
    · show 16 * 0 + r.val = r.val; omega
    by_cases h : c = 0
    · rw [hp0 h]; unfold xt; rw [dif_neg (by omega)]; rfl
    · obtain ⟨h1, h2⟩ := hp1 h
      rw [h1]
      refine (h2 r l).trans ?_
      unfold xt; rw [dif_pos (by omega)]
      refine congrArg x (congrArg (fun q => ix3 0 q l) (Fin.ext ?_))
      show 512 * c - 16 + r.val = 16 * (32 * c + 0 - 1) + r.val; omega
  · by_cases hj1 : j < 33
    · refine Eq.trans (congrArg (ext mp mn cur prv nxt) (congrArg (fun q => ix2 q l) (Fin.ext ?_)))
        ((ext_cur mp mn cur prv nxt ⟨16 * (j - 1) + r.val, by omega⟩ l).trans ((hcur _ l).trans ?_))
      · show 16 * j + r.val = 16 + (16 * (j - 1) + r.val); omega
      unfold xt; rw [dif_pos (by omega)]
      refine congrArg x (congrArg (fun q => ix3 0 q l) (Fin.ext ?_))
      show 512 * c + (16 * (j - 1) + r.val) = 16 * (32 * c + j - 1) + r.val; omega
    · refine Eq.trans (congrArg (ext mp mn cur prv nxt) (congrArg (fun q => ix2 q l) (Fin.ext ?_)))
        ((ext_nxt mp mn cur prv nxt ⟨16 * (j - 33) + r.val, by omega⟩ l).trans ?_)
      · show 16 * j + r.val = 528 + (16 * (j - 33) + r.val); omega
      by_cases h : c = 7
      · rw [hn0 h]; unfold xt; rw [dif_neg (by omega)]; rfl
      · obtain ⟨h1, h2⟩ := hn1 (by omega)
        rw [h1]
        refine (h2 _ l).trans ?_
        unfold xt; rw [dif_pos (by omega)]
        refine congrArg x (congrArg (fun q => ix3 0 q l) (Fin.ext ?_))
        show 512 * c + 512 + (16 * (j - 33) + r.val) = 16 * (32 * c + j - 1) + r.val; omega

section trips
variable (x : Vec Ideal S1x4096x128 .f32)

/-- Where the time step before the forward chunk of the first loop starts. -/
theorem off2_eq : ∀ k : Fin k0_t1_loop.trips, k.val ≠ 0 → k0_off2 k = ![0, 512 * k.val - 16, 0] := by decide +kernel
/-- Where the time step before the backward chunk of the second loop starts. -/
theorem off13_eq : ∀ k : Fin k0_t2_loop.trips, k.val ≠ 3 → k0_off13 k = ![0, 1520 - 512 * k.val, 0] := by decide +kernel
/-- Where the time steps after the backward chunk of the first loop start. -/
theorem off6_eq : ∀ k : Fin k0_t1_loop.trips, k.val ≠ 0 → k0_off6 k = ![0, 4096 - 512 * k.val, 0] := by decide +kernel
/-- Where the time steps after the forward chunk of the second loop start. -/
theorem off11_eq : ∀ k : Fin k0_t2_loop.trips, k.val ≠ 3 → k0_off11 k = ![0, 512 * k.val + 2560, 0] := by decide +kernel
/-- The forward chunk of the first loop has a time step before it unless it is the first. -/
theorem mask1f : ∀ k : Fin k0_t1_loop.trips, Scalar.cmpi .sgt (Scalar.muli (Scf.iv 0#32 1#32 k) 32#32) 0#32 = if k.val = 0 then 0#1 else 1#1 := by
  decide +kernel
/-- The backward chunk of the first loop has time steps after it unless it is the last. -/
theorem mask1b : ∀ k : Fin k0_t1_loop.trips, Scalar.cmpi .slt (Scalar.addi (Scalar.muli (Scalar.subi 7#32 (Scf.iv 0#32 1#32 k)) 32#32) 32#32) 256#32
    = if k.val = 0 then 0#1 else 1#1 := by decide +kernel
/-- The forward chunk of the second loop has time steps after it unless it is the last. -/
theorem mask2f : ∀ k : Fin k0_t2_loop.trips, Scalar.cmpi .slt (Scalar.addi (Scalar.muli (Scf.iv 4#32 1#32 k) 32#32) 32#32) 256#32
    = if k.val = 3 then 0#1 else 1#1 := by decide +kernel
/-- The backward chunk of the second loop has a time step before it unless it is the first. -/
theorem mask2b : ∀ k : Fin k0_t2_loop.trips, Scalar.cmpi .sgt (Scalar.muli (Scalar.subi 7#32 (Scf.iv 4#32 1#32 k)) 32#32) 0#32
    = if k.val = 3 then 0#1 else 1#1 := by decide +kernel

/-- The extended forward chunk of the first loop is a part of the padded sequence. -/
theorem e1f_at (k : Fin k0_t1_loop.trips) (j : ℕ) (hj : j < 35) (r : Fin 16) (l : Fin 128) :
    e1f x k (ix2 ⟨16 * j + r.val, by omega⟩ l) = xt x (32 * k.val + j) r l := by
  have hk : k.val < 4 := k.isLt
  refine ext_chunk x _ _ _ _ _ k.val (by omega) (fun q l => ld_row x _ (k0_off1_eq k) _ _ _ rfl rfl) (fun h => ?_) (fun h => ⟨?_, fun q l => ?_⟩)
    (fun h => by omega) (fun h => ⟨rfl, fun q l => ld_row x _ (k0_off3_eq k) _ _ _ rfl rfl⟩) j hj r l
  · rw [mask1f, if_pos h]
  · rw [mask1f, if_neg h]
  · exact ld_row x _ (off2_eq k h) _ _ _ rfl rfl

/-- The extended backward chunk of the first loop is a part of the padded sequence. -/
theorem e1b_at (k : Fin k0_t1_loop.trips) (j : ℕ) (hj : j < 35) (r : Fin 16) (l : Fin 128) :
    e1b x k (ix2 ⟨16 * j + r.val, by omega⟩ l) = xt x (32 * (7 - k.val) + j) r l := by
  have hk : k.val < 4 := k.isLt
  refine ext_chunk x _ _ _ _ _ (7 - k.val) (by omega) (fun q l => ld_row x _ (k0_off4_eq k) _ _ _ ?_ rfl) (fun h => by omega)
    (fun h => ⟨rfl, fun q l => ld_row x _ (k0_off5_eq k) _ _ _ ?_ rfl⟩)
    (fun h => ?_) (fun h => ⟨?_, fun q l => ld_row x _ (off6_eq k (by omega)) _ _ _ ?_ rfl⟩) j hj r l
  · show 512 * (7 - k.val) + q.val = 3584 - 512 * k.val + q.val; omega
  · show 512 * (7 - k.val) - 16 + q.val = 3568 - 512 * k.val + q.val; omega
  · rw [mask1b, if_pos (by omega)]
  · rw [mask1b, if_neg (by omega)]
  · show 512 * (7 - k.val) + 512 + q.val = 4096 - 512 * k.val + q.val; omega

/-- The extended forward chunk of the second loop is a part of the padded sequence. -/
theorem e2f_at (k : Fin k0_t2_loop.trips) (j : ℕ) (hj : j < 35) (r : Fin 16) (l : Fin 128) :
    e2f x k (ix2 ⟨16 * j + r.val, by omega⟩ l) = xt x (32 * (4 + k.val) + j) r l := by
  have hk : k.val < 4 := k.isLt
  refine ext_chunk x _ _ _ _ _ (4 + k.val) (by omega) (fun q l => ld_row x _ (k0_off9_eq k) _ _ _ ?_ rfl) (fun h => by omega)
    (fun h => ⟨rfl, fun q l => ld_row x _ (k0_off10_eq k) _ _ _ ?_ rfl⟩)
    (fun h => ?_) (fun h => ⟨?_, fun q l => ld_row x _ (off11_eq k (by omega)) _ _ _ ?_ rfl⟩) j hj r l
  · show 512 * (4 + k.val) + q.val = 512 * k.val + 2048 + q.val; omega
  · show 512 * (4 + k.val) - 16 + q.val = 512 * k.val + 2032 + q.val; omega
  · rw [mask2f, if_pos (by omega)]
  · rw [mask2f, if_neg (by omega)]
  · show 512 * (4 + k.val) + 512 + q.val = 512 * k.val + 2560 + q.val; omega

/-- The extended backward chunk of the second loop is a part of the padded sequence. -/
theorem e2b_at (k : Fin k0_t2_loop.trips) (j : ℕ) (hj : j < 35) (r : Fin 16) (l : Fin 128) :
    e2b x k (ix2 ⟨16 * j + r.val, by omega⟩ l) = xt x (32 * (3 - k.val) + j) r l := by
  have hk : k.val < 4 := k.isLt
  refine ext_chunk x _ _ _ _ _ (3 - k.val) (by omega) (fun q l => ld_row x _ (k0_off12_eq k) _ _ _ ?_ rfl) (fun h => ?_)
    (fun h => ⟨?_, fun q l => ld_row x _ (off13_eq k (by omega)) _ _ _ ?_ rfl⟩)
    (fun h => by omega) (fun h => ⟨rfl, fun q l => ld_row x _ (k0_off14_eq k) _ _ _ ?_ rfl⟩) j hj r l
  · show 512 * (3 - k.val) + q.val = 1536 - 512 * k.val + q.val; omega
  · rw [mask2b, if_pos (by omega)]
  · rw [mask2b, if_neg (by omega)]
  · show 512 * (3 - k.val) - 16 + q.val = 1520 - 512 * k.val + q.val; omega
  · show 512 * (3 - k.val) + 512 + q.val = 2048 - 512 * k.val + q.val; omega
end trips

end Cert.KernelIdeal.Rg
end
-- ==== Proof.RgLoops.lean ====
module

public import proofs.«01_k».proof.Proof.RgScan

/-!
# What the two loops leave

The states after the loops and the first result's block, as the two recursions over the 256 time steps.
-/

@[expose] public section
set_option maxRecDepth 65536

noncomputable section

namespace Cert.KernelIdeal.Rg
open Idealize.ShloMosaic Idealize.ShloMosaic.TcCoe
open Cert.KernelIdeal Cert.KernelIdeal.Facts Cert.KernelIdeal.Gen

variable (p : Consts Ideal) (x g : Vec Ideal S1x4096x128 .f32) (h : FVec Ideal S16x128 .f32 × FVec Ideal S16x128 .f32)

/-- The forward state after `n` steps. -/
def hfw : Tm := HF (dA p p.hf p.wf p.bf (xt x)) (dB p p.hf p.wf p.bf (xt x)) (fun r l => h.1 (ix2 r l))
/-- The backward state after `n` steps. -/
def hbw : Tm := HB (dA p p.hb p.wb p.bb (xt x)) (dB p p.hb p.wb p.bb (xt x)) (fun r l => h.2 (ix2 r l))

/-- The forward scan of a trip of the first loop continues the forward states. -/
theorem fw1 (k : Fin k0_t1_loop.trips) (s : FVec Ideal S16x128 .f32) (hs : ∀ r l, s (ix2 r l) = hfw p x h (32 * k.val) r l)
    (n : ℕ) (hn : n ≤ 32) (r : Fin 16) (l : Fin 128) :
    scF (chAf p (e1f x k)) (chBf p (e1f x k)) s n (ix2 r l) = hfw p x h (32 * k.val + n) r l :=
  scF_at _ _ _ _ _ k.val (fun t ht r l => decay_chunk p _ _ _ (e1f_at x k) _ _ _ t ht r l)
    (fun t ht r l => drive_chunk p _ _ _ (e1f_at x k) _ _ _ t ht r l) s hs r l n hn

/-- The backward scan of a trip of the first loop continues the backward states. -/
theorem bw1 (k : Fin k0_t1_loop.trips) (s : FVec Ideal S16x128 .f32) (hs : ∀ r l, s (ix2 r l) = hbw p x h (32 * k.val) r l)
    (n : ℕ) (hn : n ≤ 32) (r : Fin 16) (l : Fin 128) :
    scB (chAb p (e1b x k)) (chBb p (e1b x k)) s n (ix2 r l) = hbw p x h (32 * k.val + n) r l :=
  scB_at _ _ _ _ _ (7 - k.val) (fun t ht r l => decay_chunk p _ _ _ (e1b_at x k) _ _ _ t ht r l)
    (fun t ht r l => drive_chunk p _ _ _ (e1b_at x k) _ _ _ t ht r l) s k.val (by have : k.val < 4 := k.isLt; omega) hs r l n hn

/-- The forward scan of a trip of the second loop continues the forward states. -/
theorem fw2 (k : Fin k0_t2_loop.trips) (s : FVec Ideal S16x128 .f32) (hs : ∀ r l, s (ix2 r l) = hfw p x h (32 * (4 + k.val)) r l)
    (n : ℕ) (hn : n ≤ 32) (r : Fin 16) (l : Fin 128) :
    scF (chAf p (e2f x k)) (chBf p (e2f x k)) s n (ix2 r l) = hfw p x h (32 * (4 + k.val) + n) r l :=
  scF_at _ _ _ _ _ (4 + k.val) (fun t ht r l => decay_chunk p _ _ _ (e2f_at x k) _ _ _ t ht r l)
    (fun t ht r l => drive_chunk p _ _ _ (e2f_at x k) _ _ _ t ht r l) s hs r l n hn

/-- The backward scan of a trip of the second loop continues the backward states. -/
theorem bw2 (k : Fin k0_t2_loop.trips) (s : FVec Ideal S16x128 .f32) (hs : ∀ r l, s (ix2 r l) = hbw p x h (32 * (4 + k.val)) r l)
    (n : ℕ) (hn : n ≤ 32) (r : Fin 16) (l : Fin 128) :
    scB (chAb p (e2b x k)) (chBb p (e2b x k)) s n (ix2 r l) = hbw p x h (32 * (4 + k.val) + n) r l :=
  scB_at _ _ _ _ _ (3 - k.val) (fun t ht r l => decay_chunk p _ _ _ (e2b_at x k) _ _ _ t ht r l)
    (fun t ht r l => drive_chunk p _ _ _ (e2b_at x k) _ _ _ t ht r l) s (4 + k.val) (by have : k.val < 4 := k.isLt; omega) hs r l n hn

/-- The states after `n` trips of the first loop. -/
theorem st1_at : ∀ n ≤ 4, (∀ r l, (st1 p x h n).1.1 (ix2 r l) = hfw p x h (32 * n) r l) ∧ (∀ r l, (st1 p x h n).1.2 (ix2 r l) = hbw p x h (32 * n) r l)
  | 0, _ => ⟨fun _ _ => rfl, fun _ _ => rfl⟩
  | n + 1, hn => by
    have hk : (k1 n).val = n := k1_val (by omega)
    have ih := st1_at n (by omega)
    refine ⟨fun r l => ?_, fun r l => ?_⟩
    · refine (fw1 p x h (k1 n) _ (by rw [hk]; exact ih.1) 32 le_rfl r l).trans ?_
      rw [hk]; rfl
    · refine (bw1 p x h (k1 n) _ (by rw [hk]; exact ih.2) 32 le_rfl r l).trans ?_
      rw [hk]; rfl

/-- The states after `n` trips of the second loop, begun with the states after the first. -/
theorem st2_at (y : Vec Ideal S1x4096x128 .f32) : ∀ n ≤ 4,
    (∀ r l, (st2 p x g y (st1 p x h 4).1 n).1.1 (ix2 r l) = hfw p x h (32 * (4 + n)) r l) ∧
    (∀ r l, (st2 p x g y (st1 p x h 4).1 n).1.2 (ix2 r l) = hbw p x h (32 * (4 + n)) r l)
  | 0, _ => st1_at p x h 4 le_rfl
  | n + 1, hn => by
    have hk : (k2 n).val = n := k2_val (by omega)
    have ih := st2_at y n (by omega)
    refine ⟨fun r l => ?_, fun r l => ?_⟩
    · refine (fw2 p x h (k2 n) _ (by rw [hk]; exact ih.1) 32 le_rfl r l).trans ?_
      rw [hk]; rfl
    · refine (bw2 p x h (k2 n) _ (by rw [hk]; exact ih.2) 32 le_rfl r l).trans ?_
      rw [hk]; rfl

/-- Where a stored tile holds a row of a step. -/
theorem tile_at {off : Fin 3 → ℕ} {inb : ∀ a, off a + S1x16x128.size a ≤ S1x4096x128.size a} {T : ℕ} (ho : off = ![0, 16 * T, 0])
    (i : (Rect.unit (s := S1x4096x128) off S1x16x128.size inb).shape.Idx) (t : ℕ) (ht : t < 256) (r : Fin 16) (l : Fin 128)
    (hi : (Rect.unit (s := S1x4096x128) off S1x16x128.size inb).emb i = ix3 0 ⟨16 * t + r.val, by omega⟩ l) :
    T = t ∧ ∀ v : FVec Ideal S16x128 .f32, put v i = v (ix2 r l) := by
  subst ho
  have h1 := congrArg Fin.val (congrFun hi 1)
  have h2 := congrArg Fin.val (congrFun hi 2)
  rw [ValueKit.rect_emb_unit_val] at h1 h2
  change 16 * T + (i 1).val = 16 * t + r.val at h1
  change 0 + (i 2).val = l.val at h2
  have hi1 : (i 1).val < 16 := (i 1).isLt
  refine ⟨by omega, fun v => ?_⟩
  rw [show (i : S1x16x128.Idx) = ix3 0 r l from ?_]
  · exact put_at v r l
  · funext a
    fin_cases a
    · exact Subsingleton.elim (α := Fin 1) _ _
    · refine Fin.ext ?_; show (i 1).val = r.val; omega
    · refine Fin.ext ?_; show (i 2).val = l.val; omega

/-- What the first loop leaves: forward states in the first half, backward states in the second. -/
def midv : Tm := fun t r l => if t < 128 then hfw p x h (t + 1) r l else hbw p x h (256 - t) r l

/-- Between the loops the rows hold the forward states in the first half and the backward states in the second. -/
theorem mid_at (t : ℕ) (ht : t < 256) (r : Fin 16) (l : Fin 128) :
    View.canon (st1 p x h 4).2 (ix3 0 ⟨16 * t + r.val, by omega⟩ l) = midv p x h t r l := by
  refine View.canon_eq_of_allAt _ _ _ (cover1 p x h _) fun q hq i hi => ?_
  obtain ⟨n, hn, hq⟩ := (mem_st1 p x h q 4).1 hq
  have hk : (k1 n).val = n := k1_val hn
  have ih := st1_at p x h n (by omega)
  obtain ⟨s, hs, hq⟩ := (mem_list1 _ _ _ _ _ _ q 32).1 hq
  rcases hq with rfl | rfl
  · obtain ⟨h1, h2⟩ := tile_at (inb := k0_off7_inb (k1 n) (tF s)) (T := 32 * n + s) ((k0_off7_eq (k1 n) (tF s)).trans (by rw [tF_val hs, hk]; exact congrArg (fun z => ![0, z, 0]) (by omega))) i t ht r l hi
    change put (scF (chAf p (e1f x (k1 n))) (chBf p (e1f x (k1 n))) (st1 p x h n).1.1 (s + 1)) i = _
    refine (h2 _).trans ((fw1 p x h (k1 n) _ (by rw [hk]; exact ih.1) (s + 1) (by omega) r l).trans ?_)
    rw [hk]; unfold midv; rw [if_pos (by omega), show 32 * n + (s + 1) = t + 1 by omega]
  · obtain ⟨h1, h2⟩ := tile_at (inb := k0_off8_inb (k1 n) (tB s)) (T := 255 - (32 * n + s)) ((k0_off8_eq (k1 n) (tB s)).trans (by rw [tB_val hs, hk]; exact congrArg (fun z => ![0, z, 0]) (by omega))) i t ht r l hi
    change put (scB (chAb p (e1b x (k1 n))) (chBb p (e1b x (k1 n))) (st1 p x h n).1.2 (s + 1)) i = _
    refine (h2 _).trans ((bw1 p x h (k1 n) _ (by rw [hk]; exact ih.2) (s + 1) (by omega) r l).trans ?_)
    rw [hk]; unfold midv; rw [if_neg (by omega), show 32 * n + (s + 1) = 256 - t by omega]

/-- A loaded chunk without its leading axis. -/
theorem cast_at (w : Vec Ideal S1x512x128 .f32) (q : Fin 512) (l : Fin 128) :
    shapeCast S512x128 w shapeCasts_S1x512x128_S512x128 (ix2 q l) = w (ix3 0 q l) := by
  pointwise []

/-- The stored rows the forward scan of the second loop reads. -/
theorem curF_at (y : Vec Ideal S1x4096x128 .f32) (k : Fin k0_t2_loop.trips) (q : Fin 512) (l : Fin 128) :
    curF y k (ix2 q l) = y (ix3 0 ⟨512 * k.val + 2048 + q.val, by have : k.val < 4 := k.isLt; omega⟩ l) := by
  exact (cast_at (show Vec Ideal S1x512x128 .f32 from ld y (Rect.unit (s := S1x4096x128) (k0_off9 k) S1x512x128.size (k0_off9_inb k)).toLoadRect) q l).trans
    (ld_row y _ (k0_off9_eq k) _ _ l rfl rfl)

/-- The stored rows the backward scan of the second loop reads. -/
theorem curB_at (y : Vec Ideal S1x4096x128 .f32) (k : Fin k0_t2_loop.trips) (q : Fin 512) (l : Fin 128) :
    curB y k (ix2 q l) = y (ix3 0 ⟨1536 - 512 * k.val + q.val, by have : k.val < 4 := k.isLt; omega⟩ l) := by
  exact (cast_at (show Vec Ideal S1x512x128 .f32 from ld y (Rect.unit (s := S1x4096x128) (k0_off12 k) S1x512x128.size (k0_off12_inb k)).toLoadRect) q l).trans
    (ld_row y _ (k0_off12_eq k) _ _ l rfl rfl)

/-- The first result's block: the sum of the two states, times the gate. -/
theorem out_at (t : ℕ) (ht : t < 256) (r : Fin 16) (l : Fin 128) :
    View.canon (st2 p x g (View.canon (st1 p x h 4).2) (st1 p x h 4).1 4).2 (ix3 0 ⟨16 * t + r.val, by omega⟩ l)
      = (hfw p x h (t + 1) r l + hbw p x h (256 - t) r l) * g (ix3 0 ⟨16 * t + r.val, by omega⟩ l) := by
  refine View.canon_eq_of_allAt _ _ _ (cover2 p x g _ _ _) fun q hq i hi => ?_
  obtain ⟨n, hn, hq⟩ := (mem_st2 p x g _ _ q 4).1 hq
  have hk : (k2 n).val = n := k2_val hn
  have ih := st2_at p x g h (View.canon (st1 p x h 4).2) n (by omega)
  obtain ⟨s, hs, hq⟩ := (mem_list2 _ _ _ _ _ _ _ _ _ _ q 32).1 hq
  rcases hq with rfl | rfl
  · obtain ⟨h1, h2⟩ := tile_at (inb := k0_off15_inb (k2 n) (tF s)) (T := 128 + (32 * n + s)) ((k0_off15_eq (k2 n) (tF s)).trans (by rw [tF_val hs, hk]; exact congrArg (fun z => ![0, z, 0]) (by omega))) i t ht r l hi
    change put (mulf (addf (row (tF s) (curF (View.canon (st1 p x h 4).2) (k2 n))) (scF (chAf p (e2f x (k2 n))) (chBf p (e2f x (k2 n))) (st2 p x g (View.canon (st1 p x h 4).2) (st1 p x h 4).1 n).1.1 (s + 1))) (row (tF s) (curF g (k2 n)))) i = _
    refine (h2 _).trans ?_
    refine Eq.trans (congrArg₂ (· * ·) (congrArg₂ (· + ·) ((row_at _ _ r l).trans ((curF_at _ _ _ l).trans
        (Eq.trans (congrArg (View.canon (st1 p x h 4).2) (congrArg (fun z => ix3 0 z l) (Fin.ext (b := (⟨16 * t + r.val, by omega⟩ : Fin 4096)) ?_))) (mid_at p x h t ht r l))))
      (fw2 p x h (k2 n) _ (by rw [hk]; exact ih.1) (s + 1) (by omega) r l))
      ((row_at _ _ r l).trans ((curF_at _ _ _ l).trans (congrArg g (congrArg (fun z => ix3 0 z l) (Fin.ext (b := (⟨16 * t + r.val, by omega⟩ : Fin 4096)) ?_)))))) ?_
    · show 512 * (k2 n).val + 2048 + (16 * (tF s).val + r.val) = 16 * t + r.val; rw [hk, tF_val hs]; omega
    · show 512 * (k2 n).val + 2048 + (16 * (tF s).val + r.val) = 16 * t + r.val; rw [hk, tF_val hs]; omega
    rw [hk]; unfold midv; rw [if_neg (by omega), show 32 * (4 + n) + (s + 1) = t + 1 by omega]
    exact congrArg (· * _) (add_comm _ _)
  · obtain ⟨h1, h2⟩ := tile_at (inb := k0_off16_inb (k2 n) (tB s)) (T := 127 - (32 * n + s)) ((k0_off16_eq (k2 n) (tB s)).trans (by rw [tB_val hs, hk]; exact congrArg (fun z => ![0, z, 0]) (by omega))) i t ht r l hi
    change put (mulf (addf (row (tB s) (curB (View.canon (st1 p x h 4).2) (k2 n))) (scB (chAb p (e2b x (k2 n))) (chBb p (e2b x (k2 n))) (st2 p x g (View.canon (st1 p x h 4).2) (st1 p x h 4).1 n).1.2 (s + 1))) (row (tB s) (curB g (k2 n)))) i = _
    refine (h2 _).trans ?_
    refine Eq.trans (congrArg₂ (· * ·) (congrArg₂ (· + ·) ((row_at _ _ r l).trans ((curB_at _ _ _ l).trans
        (Eq.trans (congrArg (View.canon (st1 p x h 4).2) (congrArg (fun z => ix3 0 z l) (Fin.ext (b := (⟨16 * t + r.val, by omega⟩ : Fin 4096)) ?_))) (mid_at p x h t ht r l))))
      (bw2 p x h (k2 n) _ (by rw [hk]; exact ih.2) (s + 1) (by omega) r l))
      ((row_at _ _ r l).trans ((curB_at _ _ _ l).trans (congrArg g (congrArg (fun z => ix3 0 z l) (Fin.ext (b := (⟨16 * t + r.val, by omega⟩ : Fin 4096)) ?_)))))) ?_
    · show 1536 - 512 * (k2 n).val + (16 * (tB s).val + r.val) = 16 * t + r.val; rw [hk, tB_val hs]; omega
    · show 1536 - 512 * (k2 n).val + (16 * (tB s).val + r.val) = 16 * t + r.val; rw [hk, tB_val hs]; omega
    rw [hk]; unfold midv; rw [if_pos (by omega), show 32 * (4 + n) + (s + 1) = 256 - t by omega]

end Cert.KernelIdeal.Rg
end
-- ==== Proof.RgBlocks.lean ====
module

public import proofs.«01_k».proof.Proof.RgLoops

/-!
# The two result blocks of a grid point

Both blocks at an index, and the constants a grid point reads, at an index of the blocks it reads them from.
-/

@[expose] public section
set_option maxRecDepth 65536

noncomputable section

namespace Cert.KernelIdeal.Rg
open Idealize.ShloMosaic Idealize.ShloMosaic.TcCoe
open Cert.KernelIdeal Cert.KernelIdeal.Facts Cert.KernelIdeal.Gen

/-- The rate of the decay per unit of the activated decay parameter. -/
def rate : EReal := (Named.named κ "rate" 0xC0B8AA3B#32 : Ideal .f32)

variable (x0 x1 : Vec Ideal S1x4096x128 .f32) (x2 : Vec Ideal S4x128 .f32) (x3 : Vec Ideal S1x128 .f32) (x4 : Vec Ideal S1x2x128x256 .bf16)
  (x5 : Vec Ideal S1x2x1x256 .f32) (x6 : Vec Ideal S2x128 .f32) (x7 : Vec Ideal S2x16x128 .f32)

/-- A load of one row of the taps. -/
theorem ld_tap (x : Vec Ideal S4x128 .f32) (o : ℕ) (ho : o < 4) (inb : ∀ a, ![o, 0] a + S1x128.size a ≤ S4x128.size a) (l : Fin 128) :
    ld x (Rect.unit (s := S4x128) ![o, 0] S1x128.size inb).toLoadRect (ix2 (n0 := 1) (n1 := 128) 0 l) = x (ix2 ⟨o, ho⟩ l) := by
  refine congrArg x (funext fun a => ?_)
  fin_cases a
  · exact Fin.ext ((Rect.idx_unit_val _ _ _ _ _).trans (Nat.add_zero o))
  · exact Fin.ext ((Rect.idx_unit_val _ _ _ _ _).trans (Nat.zero_add _))

/-- A load of the bias row. -/
theorem ld_bias (x : Vec Ideal S1x128 .f32) (inb : ∀ a, ![0, 0] a + S1x128.size a ≤ S1x128.size a) (l : Fin 128) :
    ld x (Rect.unit (s := S1x128) ![0, 0] S1x128.size inb).toLoadRect (ix2 (n0 := 1) (n1 := 128) 0 l) = x (ix2 0 l) := by
  refine congrArg x (funext fun a => ?_)
  fin_cases a
  · exact Subsingleton.elim (α := Fin 1) _ _
  · exact Fin.ext ((Rect.idx_unit_val _ _ _ _ _).trans (Nat.zero_add _))

/-- A load of one direction's decay parameters. -/
theorem ld_dir (x : Vec Ideal S2x128 .f32) (o : ℕ) (ho : o < 2) (inb : ∀ a, ![o, 0] a + S1x128.size a ≤ S2x128.size a) (l : Fin 128) :
    ld x (Rect.unit (s := S2x128) ![o, 0] S1x128.size inb).toLoadRect (ix2 (n0 := 1) (n1 := 128) 0 l) = x (ix2 ⟨o, ho⟩ l) := by
  refine congrArg x (funext fun a => ?_)
  fin_cases a
  · exact Fin.ext ((Rect.idx_unit_val _ _ _ _ _).trans (Nat.add_zero o))
  · exact Fin.ext ((Rect.idx_unit_val _ _ _ _ _).trans (Nat.zero_add _))

/-- A load of one direction's gate weights. -/
theorem ld_w (x : Vec Ideal S1x2x128x256 .bf16) (o : ℕ) (ho : o < 2) (inb : ∀ a, ![0, o, 0, 0] a + S1x1x128x256.size a ≤ S1x2x128x256.size a)
    (k : Fin 128) (j : Fin 256) :
    ld x (Rect.unit (s := S1x2x128x256) ![0, o, 0, 0] S1x1x128x256.size inb).toLoadRect (ix4 (n0 := 1) (n1 := 1) (n2 := 128) (n3 := 256) 0 0 k j) = x (ix4 0 ⟨o, ho⟩ k j) := by
  refine congrArg x (funext fun a => ?_)
  fin_cases a
  · exact Subsingleton.elim (α := Fin 1) _ _
  · exact Fin.ext ((Rect.idx_unit_val _ _ _ _ _).trans (Nat.add_zero o))
  · exact Fin.ext ((Rect.idx_unit_val _ _ _ _ _).trans (Nat.zero_add _))
  · exact Fin.ext ((Rect.idx_unit_val _ _ _ _ _).trans (Nat.zero_add _))

/-- A load of one direction's gate biases. -/
theorem ld_b (x : Vec Ideal S1x2x1x256 .f32) (o : ℕ) (ho : o < 2) (inb : ∀ a, ![0, o, 0, 0] a + S1x1x1x256.size a ≤ S1x2x1x256.size a)
    (j : Fin 256) :
    ld x (Rect.unit (s := S1x2x1x256) ![0, o, 0, 0] S1x1x1x256.size inb).toLoadRect (ix4 (n0 := 1) (n1 := 1) (n2 := 1) (n3 := 256) 0 0 0 j) = x (ix4 0 ⟨o, ho⟩ 0 j) := by
  refine congrArg x (funext fun a => ?_)
  fin_cases a
  · exact Subsingleton.elim (α := Fin 1) _ _
  · exact Fin.ext ((Rect.idx_unit_val _ _ _ _ _).trans (Nat.add_zero o))
  · exact Subsingleton.elim (α := Fin 1) _ _
  · exact Fin.ext ((Rect.idx_unit_val _ _ _ _ _).trans (Nat.zero_add _))

/-- A load of one direction's starting states. -/
theorem ld_h (x : Vec Ideal S2x16x128 .f32) (o : ℕ) (ho : o < 2) (inb : ∀ a, ![o, 0, 0] a + S1x16x128.size a ≤ S2x16x128.size a)
    (r : Fin 16) (l : Fin 128) :
    ld x (Rect.unit (s := S2x16x128) ![o, 0, 0] S1x16x128.size inb).toLoadRect (ix3 (n0 := 1) (n1 := 16) (n2 := 128) 0 r l) = x (ix3 ⟨o, ho⟩ r l) := by
  refine congrArg x (funext fun a => ?_)
  fin_cases a
  · exact Fin.ext ((Rect.idx_unit_val _ _ _ _ _).trans (Nat.add_zero o))
  · exact Fin.ext ((Rect.idx_unit_val _ _ _ _ _).trans (Nat.zero_add _))
  · exact Fin.ext ((Rect.idx_unit_val _ _ _ _ _).trans (Nat.zero_add _))

/-- Tap 0 at a lane, as the body passes it to the loops. -/
theorem pay319_at (x : Vec Ideal S1x128 .f32) (l : Fin 128) : k0_pay319 x (ix2 0 l) = x (ix2 0 l) := by pointwise [k0_pay319]
/-- Tap 1 at a lane, as the body passes it to the loops. -/
theorem pay320_at (x : Vec Ideal S1x128 .f32) (l : Fin 128) : k0_pay320 x (ix2 0 l) = x (ix2 0 l) := by pointwise [k0_pay320]
/-- Tap 2 at a lane, as the body passes it to the loops. -/
theorem pay321_at (x : Vec Ideal S1x128 .f32) (l : Fin 128) : k0_pay321 x (ix2 0 l) = x (ix2 0 l) := by pointwise [k0_pay321]
/-- Tap 3 at a lane, as the body passes it to the loops. -/
theorem pay322_at (x : Vec Ideal S1x128 .f32) (l : Fin 128) : k0_pay322 x (ix2 0 l) = x (ix2 0 l) := by pointwise [k0_pay322]
/-- The convolution's bias at a lane, as the body passes it to the loops. -/
theorem pay323_at (x : Vec Ideal S1x128 .f32) (l : Fin 128) : k0_pay323 x (ix2 0 l) = x (ix2 0 l) := by pointwise [k0_pay323]
/-- The forward initial state, without its leading axis. -/
theorem pay2_at (x : Vec Ideal S1x16x128 .f32) (r : Fin 16) (l : Fin 128) : k0_pay2 x (ix2 r l) = x (ix3 0 r l) := by pointwise [k0_pay2]
/-- The backward initial state, without its leading axis. -/
theorem pay3_at (x : Vec Ideal S1x16x128 .f32) (r : Fin 16) (l : Fin 128) : k0_pay3 x (ix2 r l) = x (ix3 0 r l) := by pointwise [k0_pay3]
/-- Half the exponent of the decay: the rate times the softplus of minus the parameter. -/
theorem pay324_at (x : Vec Ideal S1x128 .f32) (l : Fin 128) :
    k0_pay324 x (ix2 0 l) = rate * Cert.RgScalar.sp (x (ix2 0 l)) := by
  pointwise [k0_pay324]
  unfold rate Cert.RgScalar.sp
  simp only [ne_eq, not_true_eq_false, if_false, zero_sub, sub_zero]
  rfl

/-- The constants of a grid point. -/
abbrev P := consts x2 x3 x4 x5 x6

/-- Tap 0 at a lane is that of the block of taps. -/
theorem c0_at (l : Fin 128) : (P x2 x3 x4 x5 x6).c0 (ix2 0 l) = x2 (ix2 0 l) := (pay319_at _ l).trans (ld_tap x2 0 (by decide) _ l)
/-- Tap 1 at a lane is that of the block of taps. -/
theorem c1_at (l : Fin 128) : (P x2 x3 x4 x5 x6).c1 (ix2 0 l) = x2 (ix2 1 l) := (pay320_at _ l).trans (ld_tap x2 1 (by decide) _ l)
/-- Tap 2 at a lane is that of the block of taps. -/
theorem c2_at (l : Fin 128) : (P x2 x3 x4 x5 x6).c2 (ix2 0 l) = x2 (ix2 2 l) := (pay321_at _ l).trans (ld_tap x2 2 (by decide) _ l)
/-- Tap 3 at a lane is that of the block of taps. -/
theorem c3_at (l : Fin 128) : (P x2 x3 x4 x5 x6).c3 (ix2 0 l) = x2 (ix2 3 l) := (pay322_at _ l).trans (ld_tap x2 3 (by decide) _ l)
/-- The convolution's bias at a lane is that of its block. -/
theorem cb_at (l : Fin 128) : (P x2 x3 x4 x5 x6).cb (ix2 0 l) = x3 (ix2 0 l) := (pay323_at _ l).trans (ld_bias x3 _ l)
/-- The forward gate weights are the first direction of their block. -/
theorem wf_at (k : Fin 128) (j : Fin 256) : (P x2 x3 x4 x5 x6).wf (ix4 0 0 k j) = x4 (ix4 0 0 k j) := ld_w x4 0 (by decide) _ k j
/-- The backward gate weights are the second direction of their block. -/
theorem wb_at (k : Fin 128) (j : Fin 256) : (P x2 x3 x4 x5 x6).wb (ix4 0 0 k j) = x4 (ix4 0 1 k j) := ld_w x4 1 (by decide) _ k j
/-- The forward gate biases are the first direction of their block. -/
theorem bf_at (j : Fin 256) : (P x2 x3 x4 x5 x6).bf (ix4 0 0 0 j) = x5 (ix4 0 0 0 j) := ld_b x5 0 (by decide) _ j
/-- The backward gate biases are the second direction of their block. -/
theorem bb_at (j : Fin 256) : (P x2 x3 x4 x5 x6).bb (ix4 0 0 0 j) = x5 (ix4 0 1 0 j) := ld_b x5 1 (by decide) _ j
/-- The forward decay's factor: the rate times softplus of minus the decay parameter. -/
theorem hf_at (l : Fin 128) : (P x2 x3 x4 x5 x6).hf (ix2 0 l) = rate * Cert.RgScalar.sp (x6 (ix2 0 l)) := by
  refine (pay324_at _ l).trans ?_
  rw [ld_dir x6 0 (by decide) _ l]; rfl
/-- The backward decay's factor: the rate times softplus of minus the decay parameter. -/
theorem hb_at (l : Fin 128) : (P x2 x3 x4 x5 x6).hb (ix2 0 l) = rate * Cert.RgScalar.sp (x6 (ix2 1 l)) := by
  refine (pay324_at _ l).trans ?_
  rw [ld_dir x6 1 (by decide) _ l]; rfl
/-- The forward state before the loops is the first initial state. -/
theorem init1_at (r : Fin 16) (l : Fin 128) : (init x7).1 (ix2 r l) = x7 (ix3 0 r l) := (pay2_at _ r l).trans (ld_h x7 0 (by decide) _ r l)
/-- The backward state before the loops is the second initial state. -/
theorem init2_at (r : Fin 16) (l : Fin 128) : (init x7).2 (ix2 r l) = x7 (ix3 1 r l) := (pay3_at _ r l).trans (ld_h x7 1 (by decide) _ r l)

/-- The first result's block: the sum of the two directions' states times the gate. -/
theorem out8_at (t : ℕ) (ht : t < 256) (r : Fin 16) (l : Fin 128) :
    out8 x0 x1 x2 x3 x4 x5 x6 x7 (ix3 0 ⟨16 * t + r.val, by omega⟩ l)
      = (hfw (P x2 x3 x4 x5 x6) x0 (init x7) (t + 1) r l + hbw (P x2 x3 x4 x5 x6) x0 (init x7) (256 - t) r l) * x1 (ix3 0 ⟨16 * t + r.val, by omega⟩ l) :=
  out_at _ x0 x1 (init x7) t ht r l

/-- The second result's block, forward: the last forward state. -/
theorem out9_f (r : Fin 16) (l : Fin 128) :
    out9 x0 x1 x2 x3 x4 x5 x6 x7 (ix3 0 r l) = hfw (P x2 x3 x4 x5 x6) x0 (init x7) 256 r l := by
  unfold out9
  refine (View.canon_cons_of_not_mem _ _ ?_).trans ?_
  · show ix3 0 r l ∉ (Rect.unit (s := S2x16x128) ![1, 0, 0] S1x16x128.size inb_S2x16x128_S1x16x128_1_0_0).set
    rw [Rect.mem_set_unit]
    intro h
    have : (1 : ℕ) ≤ 0 := (h 0).1
    omega
  · have hi : (Rect.unit (s := S2x16x128) ![0, 0, 0] S1x16x128.size inb_S2x16x128_S1x16x128_0_0_0).emb (ix3 (n0 := 1) (n1 := 16) (n2 := 128) 0 r l) = ix3 0 r l := by
      funext a
      fin_cases a
      · exact Fin.ext ((ValueKit.rect_emb_unit_val _ _ _ _ _).trans (Nat.add_zero 0))
      · exact Fin.ext ((ValueKit.rect_emb_unit_val _ _ _ _ _).trans (Nat.zero_add _))
      · exact Fin.ext ((ValueKit.rect_emb_unit_val _ _ _ _ _).trans (Nat.zero_add _))
    rw [← hi, View.canon_cons_emb]
    exact (put_at _ r l).trans ((st2_at _ x0 x1 (init x7) _ 4 le_rfl).1 r l)

/-- The second result's block, backward: the last backward state. -/
theorem out9_b (r : Fin 16) (l : Fin 128) :
    out9 x0 x1 x2 x3 x4 x5 x6 x7 (ix3 1 r l) = hbw (P x2 x3 x4 x5 x6) x0 (init x7) 256 r l := by
  unfold out9
  have hi : (Rect.unit (s := S2x16x128) ![1, 0, 0] S1x16x128.size inb_S2x16x128_S1x16x128_1_0_0).emb (ix3 (n0 := 1) (n1 := 16) (n2 := 128) 0 r l) = ix3 1 r l := by
    funext a
    fin_cases a
    · exact Fin.ext ((ValueKit.rect_emb_unit_val _ _ _ _ _).trans (Nat.add_zero 1))
    · exact Fin.ext ((ValueKit.rect_emb_unit_val _ _ _ _ _).trans (Nat.zero_add _))
    · exact Fin.ext ((ValueKit.rect_emb_unit_val _ _ _ _ _).trans (Nat.zero_add _))
  rw [← hi, View.canon_cons_emb]
  exact (put_at _ r l).trans ((st2_at _ x0 x1 (init x7) _ 4 le_rfl).2 r l)

end Cert.KernelIdeal.Rg
end
-- ==== Proof.RgFn.lean ====
module

public import proofs.«01_k».proof.Proof.RgScalar
public import Idealize.ShloMosaic.Lib.Pointwise

/-!
# The recurrence as a function of the arguments

Time steps are counted from 0 to 255, rows are the 16 sequences, lanes the 1536 channels; direction 0
runs forward and direction 1 backward.
-/

@[expose] public section
set_option maxRecDepth 65536

noncomputable section

namespace Cert.RgFn
open Idealize.ShloMosaic Cert.RgScalar

section fns
variable (a0 : FVec Ideal ⟨3, ![28, 4096, 128]⟩ .f32) (a1 : FVec Ideal ⟨3, ![1, 4, 1536]⟩ .f32) (a2 : FVec Ideal ⟨2, ![1, 1536]⟩ .f32)
  (w : FVec Ideal ⟨5, ![1, 2, 24, 64, 64]⟩ .f32) (b : FVec Ideal ⟨3, ![1, 2, 1536]⟩ .f32)
  (w' : FVec Ideal ⟨5, ![1, 2, 24, 64, 64]⟩ .f32) (b' : FVec Ideal ⟨3, ![1, 2, 1536]⟩ .f32)
  (a7 : FVec Ideal ⟨3, ![1, 2, 1536]⟩ .f32) (a8 : FVec Ideal ⟨3, ![2, 16, 1536]⟩ .f32)

/-- The channels with one zero step before them and zeros after them. -/
def X (t : ℕ) (r : Fin 16) (e : Fin 1536) : EReal :=
  if h : 1 ≤ t ∧ t ≤ 256 then a0 (ix3 ⟨e.val / 128, by omega⟩ ⟨16 * (t - 1) + r.val, by omega⟩ ⟨e.val % 128, by omega⟩) else 0

/-- The convolution of four taps along time. -/
def conv (t : ℕ) (r : Fin 16) (e : Fin 1536) : EReal :=
  a1 (ix3 0 0 e) * X a0 t r e + a1 (ix3 0 1 e) * X a0 (t + 1) r e + a1 (ix3 0 2 e) * X a0 (t + 2) r e + a1 (ix3 0 3 e) * X a0 (t + 3) r e + a2 (ix2 0 e)

/-- A gate's argument. -/
def z (d : Fin 2) (t : ℕ) (r : Fin 16) (e : Fin 1536) : EReal :=
  (∑ x : Fin 64, w (ix5 0 d ⟨e.val / 64, by omega⟩ x ⟨e.val % 64, by omega⟩) * conv a0 a1 a2 t r ⟨e.val / 64 * 64 + x.val, by omega⟩) + b (ix3 0 d e)

/-- The logarithm of the decay. -/
def la (d : Fin 2) (t : ℕ) (r : Fin 16) (e : Fin 1536) : EReal :=
  ((-8 : ℝ) : EReal) * sig (z a0 a1 a2 w b d t r e) * sp (a7 (ix3 0 d e))

/-- The decay. -/
def A (d : Fin 2) (t : ℕ) (r : Fin 16) (e : Fin 1536) : EReal := Ideal.exp (la a0 a1 a2 w b a7 d t r e)

/-- The term a step adds. -/
def B (d : Fin 2) (t : ℕ) (r : Fin 16) (e : Fin 1536) : EReal :=
  Ideal.sqrt (-(Ideal.expm1 (((2 : ℝ) : EReal) * la a0 a1 a2 w b a7 d t r e))) * (sig (z a0 a1 a2 w' b' d t r e) * conv a0 a1 a2 t r e)

/-- A linear recurrence after `n` steps. -/
def sc (a b : ℕ → EReal) (h : EReal) : ℕ → EReal
  | 0 => h
  | n + 1 => a n * sc a b h n + b n

/-- The forward state after `n` steps. -/
def Fw (n : ℕ) (r : Fin 16) (e : Fin 1536) : EReal :=
  sc (fun t => A a0 a1 a2 w b a7 0 t r e) (fun t => B a0 a1 a2 w b w' b' a7 0 t r e) (a8 (ix3 0 r e)) n
/-- The backward state after `n` steps: the last time step first. -/
def Bw (n : ℕ) (r : Fin 16) (e : Fin 1536) : EReal :=
  sc (fun t => A a0 a1 a2 w b a7 1 (255 - t) r e) (fun t => B a0 a1 a2 w b w' b' a7 1 (255 - t) r e) (a8 (ix3 1 r e)) n
end fns

/-- Recurrences with the same coefficients have the same states. -/
theorem sc_congr (a b a' b' : ℕ → EReal) (h h' : EReal) (hh : h = h') : ∀ n, (∀ t < n, a t = a' t ∧ b t = b' t) → sc a b h n = sc a' b' h' n
  | 0, _ => hh
  | n + 1, H => by
    unfold sc
    rw [(H n (by omega)).1, (H n (by omega)).2, sc_congr a b a' b' h h' hh n fun t ht => H t (by omega)]

/-- One half distributes over a sum. -/
theorem half_add (x y : EReal) : ((1/2 : ℝ) : EReal) * (x + y) = ((1/2 : ℝ) : EReal) * x + ((1/2 : ℝ) : EReal) * y :=
  EReal.left_distrib_of_nonneg_of_ne_top (EReal.coe_nonneg.mpr (by norm_num)) (EReal.coe_ne_top _) x y

/-- One half distributes over a finite sum. -/
theorem half_sum {ι : Type} (s : Finset ι) (f : ι → EReal) : ∑ i ∈ s, ((1/2 : ℝ) : EReal) * f i = ((1/2 : ℝ) : EReal) * ∑ i ∈ s, f i := by
  classical
  induction s using Finset.induction_on with
  | empty => simp
  | insert i s hi ih => rw [Finset.sum_insert hi, Finset.sum_insert hi, ih, half_add]

/-- The entries of a matrix of two equal blocks of ones. -/
def diag (k l : Fin 128) : EReal := if k.val / 64 = l.val / 64 then 1 else 0

/-- A sum over 128 lanes against a matrix of two blocks is the sum over the lane's own block. -/
theorem block_sum (f g : Fin 128 → EReal) (l : Fin 128) :
    ∑ k : Fin 128, f k * (((1/2 : ℝ) : EReal) * (g k * diag k l))
      = ((1/2 : ℝ) : EReal) * ∑ x : Fin 64, g ⟨l.val / 64 * 64 + x.val, by omega⟩ * f ⟨l.val / 64 * 64 + x.val, by omega⟩ := by
  rw [← half_sum]
  refine (Fin.sum_univ_add (M := EReal) (a := 64) (b := 64) fun k : Fin (64 + 64) => f k * (((1/2 : ℝ) : EReal) * (g k * diag k l))).trans ?_
  have hl : l.val / 64 = 0 ∨ l.val / 64 = 1 := by omega
  rcases hl with h | h
  · have h2 : ∑ i : Fin 64, f (Fin.natAdd 64 i) * (((1/2 : ℝ) : EReal) * (g (Fin.natAdd 64 i) * diag (Fin.natAdd 64 i) l)) = 0 :=
      Finset.sum_eq_zero fun i _ => by
        have : diag (Fin.natAdd 64 i) l = 0 := if_neg (by show ¬((64 + i.val) / 64 = l.val / 64); omega)
        rw [this, mul_zero, mul_zero, mul_zero]
    rw [h2, add_zero]
    refine Finset.sum_congr rfl fun i _ => ?_
    have h1 : diag (Fin.castAdd 64 i) l = 1 := if_pos (by show i.val / 64 = l.val / 64; omega)
    have h3 : (⟨l.val / 64 * 64 + i.val, by omega⟩ : Fin 128) = Fin.castAdd 64 i := Fin.ext (by show l.val / 64 * 64 + i.val = i.val; omega)
    rw [h1, h3, mul_one, mul_left_comm, mul_comm (f _)]
  · have h2 : ∑ i : Fin 64, f (Fin.castAdd 64 i) * (((1/2 : ℝ) : EReal) * (g (Fin.castAdd 64 i) * diag (Fin.castAdd 64 i) l)) = 0 :=
      Finset.sum_eq_zero fun i _ => by
        have : diag (Fin.castAdd 64 i) l = 0 := if_neg (by show ¬(i.val / 64 = l.val / 64); omega)
        rw [this, mul_zero, mul_zero, mul_zero]
    rw [h2, zero_add]
    refine Finset.sum_congr rfl fun i _ => ?_
    have h1 : diag (Fin.natAdd 64 i) l = 1 := if_pos (by show (64 + i.val) / 64 = l.val / 64; omega)
    have h3 : (⟨l.val / 64 * 64 + i.val, by omega⟩ : Fin 128) = Fin.natAdd 64 i := Fin.ext (by show l.val / 64 * 64 + i.val = 64 + i.val; omega)
    rw [h1, h3, mul_one, mul_left_comm, mul_comm (f _)]

/-- The gate written with a hyperbolic tangent of half the argument. -/
theorem gate_eq (u : EReal) : ((1/2 : ℝ) : EReal) + ((1/2 : ℝ) : EReal) * Ideal.tanh (((1/2 : ℝ) : EReal) * u) = sig u := by
  obtain ⟨t, _, _, h, h'⟩ := tanh_half u
  rw [h, h', ← EReal.coe_mul, ← EReal.coe_add]

/-- The decay written as a power of two. -/
theorem power_eq (u lam rate : EReal) (hl : ⊥ < lam) (hr : rate = ((-4 * (Real.log 2)⁻¹ : ℝ) : EReal)) :
    Ideal.exp2 (rate * sp lam + rate * sp lam * Ideal.tanh (((1/2 : ℝ) : EReal) * u)) = Ideal.exp (((-8 : ℝ) : EReal) * sig u * sp lam)
      ∧ (∃ x : ℝ, x ≤ 0 ∧ ((-8 : ℝ) : EReal) * sig u * sp lam = x) := by
  obtain ⟨t, h1, _, h, h'⟩ := tanh_half u
  obtain ⟨s, hs, hs'⟩ := sp_real lam hl
  rw [hr, hs', h, h', decay_eq s t hs h1, ← EReal.coe_mul, ← EReal.coe_mul, Ideal.exp_coe]
  exact ⟨rfl, _, by nlinarith, rfl⟩

/-- The factor of the added term, written with a reciprocal square root. -/
theorem factor_eq (y : EReal) (hy : ∃ x : ℝ, x ≤ 0 ∧ y = x) :
    (if 0 < 1 - Ideal.exp y * Ideal.exp y then (1 - Ideal.exp y * Ideal.exp y) * Ideal.rsqrt (1 - Ideal.exp y * Ideal.exp y) else 0)
      = Ideal.sqrt (-(Ideal.expm1 (((2 : ℝ) : EReal) * y))) := by
  obtain ⟨x, hx, rfl⟩ := hy
  rw [Ideal.exp_coe]
  exact root_eq x hx

end Cert.RgFn
end
-- ==== Proof.RgHost.lean ====
module

public import proofs.«01_k».proof.Proof.RgArrays
public import proofs.«01_k».proof.Proof.RgBlocks
public import proofs.«01_k».proof.Proof.RgFn
public import Idealize.ShloMosaic.Lib.StableHlo.RunRead

/-!
# What the call is handed

The weights, biases and parameters as the host prepares them, at an index of the arguments.
-/

@[expose] public section
set_option maxRecDepth 65536

noncomputable section

namespace Cert.KernelIdeal.Rg
open Idealize.ShloMosaic Idealize.ShloMosaic.TcCoe Idealize.ShloMosaic.StableHlo Idealize.ShloMosaic.Tactic
open Cert.KernelIdeal Cert.KernelIdeal.Facts Cert.KernelIdeal.Gen

variable (V0 : Valuation τ sig (Elt Ideal))

/-- The taps as the call gets them. -/
theorem h43_at (a : FVec Ideal S1x4x1536 .f32) (h : V0 (Proc.devRef .tc main_arg1) = a) (k : Fin 4) (e : Fin 1536) :
    (after hostOps0 V0 (Proc.devRef .tc main_v43) : FVec Ideal S4x1536 .f32) (ix2 k e) = a (ix3 0 k e) := by
  after_reads_simp
  rw [h]
  pointwise
/-- The convolution's bias as the call gets it. -/
theorem h45_at (a : FVec Ideal S1x1536 .f32) (h : V0 (Proc.devRef .tc main_arg2) = a) (e : Fin 1536) :
    (after hostOps0 V0 (Proc.devRef .tc main_v45) : FVec Ideal S1x1536 .f32) (ix2 0 e) = a (ix2 0 e) := by
  after_reads_simp
  rw [h]
  pointwise
/-- The decay parameters as the call gets them. -/
theorem h46_at (a : FVec Ideal S1x2x1536 .f32) (h : V0 (Proc.devRef .tc main_arg7) = a) (d : Fin 2) (e : Fin 1536) :
    (after hostOps0 V0 (Proc.devRef .tc main_v46) : FVec Ideal S2x1536 .f32) (ix2 d e) = a (ix3 0 d e) := by
  after_reads_simp
  rw [h]
  pointwise

/-- The recurrence gate's bias, lanes parted into slabs. -/
theorem h35_at (a4 : FVec Ideal S1x2x1536 .f32) (h4 : V0 (Proc.devRef .tc main_arg4) = a4)
    (s : Fin 12) (d : Fin 2) (l : Fin 128) :
    (upto hostOps0 V0 41 (Proc.devRef .tc main_v35) : FVec Ideal S2x12x128 .f32) (ix3 d s l) = a4 (ix3 0 d ⟨s.val * 128 + l.val, by omega⟩) := by
  after_reads_simp
  rw [h4]
  pointwise

/-- The input gate's bias, lanes parted into slabs. -/
theorem h37_at (a4 : FVec Ideal S1x2x1536 .f32) (h4 : V0 (Proc.devRef .tc main_arg6) = a4)
    (s : Fin 12) (d : Fin 2) (l : Fin 128) :
    (upto hostOps0 V0 41 (Proc.devRef .tc main_v37) : FVec Ideal S2x12x128 .f32) (ix3 d s l) = a4 (ix3 0 d ⟨s.val * 128 + l.val, by omega⟩) := by
  after_reads_simp
  rw [h4]
  pointwise

/-- The left half of the joined and halved biases is half the first one. -/
theorem bias_join0 (x y : FVec Ideal S2x12x128 .f32) (s : Fin 12) (d : Fin 2) (l : Fin 128) :
    (mulf (broadcastInDim S12x2x1x256 ![] bcast_S_S12x2x1x256 (constant S_ FTy.f32 0x3F000000#32))
      (fun i => shapeCast main_v40.ty.shape
          (transpose S12x2x256 [1, 0, 2]
            (concatenate S2x12x256 2 [⟨S2x12x128, x⟩, ⟨S2x12x128, y⟩] concatenates_S2x12x128_S2x12x128_S2x12x256_d2)
            transposes_S2x12x256_S12x2x256_1_0_2)
          shapeCasts_S12x2x256_S12x2x1x256 i) : FVec Ideal S12x2x1x256 .f32)
      (ix4 s d 0 ⟨l.val, by omega⟩) = (((1/2 : ℝ) : EReal) * x (ix3 d s l) : EReal) := by
  rw [← half_f32]
  pointwise

/-- The right half of the joined and halved biases is half the second one. -/
theorem bias_join1 (x y : FVec Ideal S2x12x128 .f32) (s : Fin 12) (d : Fin 2) (l : Fin 128) :
    (mulf (broadcastInDim S12x2x1x256 ![] bcast_S_S12x2x1x256 (constant S_ FTy.f32 0x3F000000#32))
      (fun i => shapeCast main_v40.ty.shape
          (transpose S12x2x256 [1, 0, 2]
            (concatenate S2x12x256 2 [⟨S2x12x128, x⟩, ⟨S2x12x128, y⟩] concatenates_S2x12x128_S2x12x128_S2x12x256_d2)
            transposes_S2x12x256_S12x2x256_1_0_2)
          shapeCasts_S12x2x256_S12x2x1x256 i) : FVec Ideal S12x2x1x256 .f32)
      (ix4 s d 0 ⟨128 + l.val, by omega⟩) = (((1/2 : ℝ) : EReal) * y (ix3 d s l) : EReal) := by
  rw [← half_f32]
  pointwise

/-- The left half of the gate biases the call gets: half the recurrence gate's. -/
theorem h42_at0 (a4 : FVec Ideal S1x2x1536 .f32) (h4 : V0 (Proc.devRef .tc main_arg4) = a4)
    (s : Fin 12) (d : Fin 2) (l : Fin 128) :
    (after hostOps0 V0 (Proc.devRef .tc main_v42) : FVec Ideal S12x2x1x256 .f32) (ix4 s d 0 ⟨l.val, by omega⟩) = (((1/2 : ℝ) : EReal) * a4 (ix3 0 d ⟨s.val * 128 + l.val, by omega⟩) : EReal) := by
  after_reads_simp
  exact (bias_join0 _ _ s d l).trans (congrArg (fun z : EReal => ((1/2 : ℝ) : EReal) * z) (h35_at V0 a4 h4 s d l))

/-- The right half of the gate biases the call gets: half the input gate's. -/
theorem h42_at1 (a4 : FVec Ideal S1x2x1536 .f32) (h4 : V0 (Proc.devRef .tc main_arg6) = a4)
    (s : Fin 12) (d : Fin 2) (l : Fin 128) :
    (after hostOps0 V0 (Proc.devRef .tc main_v42) : FVec Ideal S12x2x1x256 .f32) (ix4 s d 0 ⟨128 + l.val, by omega⟩) = (((1/2 : ℝ) : EReal) * a4 (ix3 0 d ⟨s.val * 128 + l.val, by omega⟩) : EReal) := by
  after_reads_simp
  exact (bias_join1 _ _ s d l).trans (congrArg (fun z : EReal => ((1/2 : ℝ) : EReal) * z) (h37_at V0 a4 h4 s d l))

open Cert.RgFn (diag)

/-- The test for a lane's own block, at an index. -/
theorem diag_eq (k l : Fin 128) : (FloatOps.uitofp FTy.f32
        (IntOp.cmpi CmpIPredicate.eq (IntOp.addi (BitVec.ofNat 32 (k.val / 64)) 0#32) (BitVec.ofNat 32 (l.val / 64))) : Ideal .f32) = diag k l := by
  have hk : k.val / 64 < 2 := by omega
  have hl : l.val / 64 < 2 := by omega
  unfold diag
  generalize k.val / 64 = a at *
  generalize l.val / 64 = b at *
  interval_cases a <;> interval_cases b <;> simp [IntOp.cmpi, IntOp.addi, FloatOps.uitofp]

/-- The recurrence gate's weights as block-diagonal matrices: a head's weight inside its block, zero times one outside. -/
theorem h14_at (a3 : FVec Ideal S1x2x24x64x64 .f32) (h4 : V0 (Proc.devRef .tc main_arg3) = a3)
    (s : Fin 12) (d : Fin 2) (k l : Fin 128) :
    (upto hostOps0 V0 32 (Proc.devRef .tc main_v14) : FVec Ideal S12x2x128x128 .f32) (ix4 s d k l) = (a3 (ix5 0 d ⟨s.val * 2 + k.val / 64, by omega⟩ ⟨k.val % 64, by omega⟩ ⟨l.val % 64, by omega⟩) * diag k l : EReal) := by
  rw [← diag_eq]
  after_reads_simp
  rw [h4]
  pointwise

/-- The input gate's weights as block-diagonal matrices: a head's weight inside its block, zero times one outside. -/
theorem h29_at (a3 : FVec Ideal S1x2x24x64x64 .f32) (h4 : V0 (Proc.devRef .tc main_arg5) = a3)
    (s : Fin 12) (d : Fin 2) (k l : Fin 128) :
    (upto hostOps0 V0 32 (Proc.devRef .tc main_v29) : FVec Ideal S12x2x128x128 .f32) (ix4 s d k l) = (a3 (ix5 0 d ⟨s.val * 2 + k.val / 64, by omega⟩ ⟨k.val % 64, by omega⟩ ⟨l.val % 64, by omega⟩) * diag k l : EReal) := by
  rw [← diag_eq]
  after_reads_simp
  rw [h4]
  pointwise

/-- The left half of the joined and halved weights is half the first one. -/
theorem weight_join0 (x y : FVec Ideal S12x2x128x128 .f32) (s : Fin 12) (d : Fin 2) (k l : Fin 128) :
    (truncf FTy.bf16 (mulf (broadcastInDim S12x2x128x256 ![] bcast_S_S12x2x128x256 (constant S_ FTy.f32 0x3F000000#32))
        (concatenate S12x2x128x256 3 [⟨S12x2x128x128, x⟩, ⟨S12x2x128x128, y⟩] concatenates_S12x2x128x128_S12x2x128x128_S12x2x128x256_d3))
      bitsLt_bf16_f32 : FVec Ideal S12x2x128x256 .bf16) (ix4 s d k ⟨l.val, by omega⟩) = (((1/2 : ℝ) : EReal) * x (ix4 s d k l) : EReal) := by
  rw [← half_f32]
  pointwise

/-- The right half of the joined and halved weights is half the second one. -/
theorem weight_join1 (x y : FVec Ideal S12x2x128x128 .f32) (s : Fin 12) (d : Fin 2) (k l : Fin 128) :
    (truncf FTy.bf16 (mulf (broadcastInDim S12x2x128x256 ![] bcast_S_S12x2x128x256 (constant S_ FTy.f32 0x3F000000#32))
        (concatenate S12x2x128x256 3 [⟨S12x2x128x128, x⟩, ⟨S12x2x128x128, y⟩] concatenates_S12x2x128x128_S12x2x128x128_S12x2x128x256_d3))
      bitsLt_bf16_f32 : FVec Ideal S12x2x128x256 .bf16) (ix4 s d k ⟨128 + l.val, by omega⟩) = (((1/2 : ℝ) : EReal) * y (ix4 s d k l) : EReal) := by
  rw [← half_f32]
  pointwise

/-- The left half of the gate weights the call gets: half the recurrence gate's block-diagonal matrix. -/
theorem h33_at0 (a3 : FVec Ideal S1x2x24x64x64 .f32) (h4 : V0 (Proc.devRef .tc main_arg3) = a3)
    (s : Fin 12) (d : Fin 2) (k l : Fin 128) :
    (after hostOps0 V0 (Proc.devRef .tc main_v33) : FVec Ideal S12x2x128x256 .bf16) (ix4 s d k ⟨l.val, by omega⟩) = (((1/2 : ℝ) : EReal) * (a3 (ix5 0 d ⟨s.val * 2 + k.val / 64, by omega⟩ ⟨k.val % 64, by omega⟩ ⟨l.val % 64, by omega⟩) * diag k l) : EReal) := by
  after_reads_simp
  exact (weight_join0 _ _ s d k l).trans (congrArg (fun z : EReal => ((1/2 : ℝ) : EReal) * z) (h14_at V0 a3 h4 s d k l))

/-- The right half of the gate weights the call gets: half the input gate's block-diagonal matrix. -/
theorem h33_at1 (a3 : FVec Ideal S1x2x24x64x64 .f32) (h4 : V0 (Proc.devRef .tc main_arg5) = a3)
    (s : Fin 12) (d : Fin 2) (k l : Fin 128) :
    (after hostOps0 V0 (Proc.devRef .tc main_v33) : FVec Ideal S12x2x128x256 .bf16) (ix4 s d k ⟨128 + l.val, by omega⟩) = (((1/2 : ℝ) : EReal) * (a3 (ix5 0 d ⟨s.val * 2 + k.val / 64, by omega⟩ ⟨k.val % 64, by omega⟩ ⟨l.val % 64, by omega⟩) * diag k l) : EReal) := by
  after_reads_simp
  exact (weight_join1 _ _ s d k l).trans (congrArg (fun z : EReal => ((1/2 : ℝ) : EReal) * z) (h29_at V0 a3 h4 s d k l))

end Cert.KernelIdeal.Rg
end
-- ==== Proof.RgKer.lean ====
module

public import proofs.«01_k».proof.Proof.RgHost
public import proofs.«01_k».proof.Proof.RgFn

/-!
# The kernel's states are the recurrence's

For one slab of 128 lanes, from the blocks at an index of the arguments.
-/

@[expose] public section
set_option maxRecDepth 65536

noncomputable section

namespace Cert.KernelIdeal.Rg
open Idealize.ShloMosaic Idealize.ShloMosaic.TcCoe
open Cert.KernelIdeal Cert.KernelIdeal.Facts Cert.KernelIdeal.Gen
open Cert.RgFn (diag sc)

/-- The named constant is minus four over the logarithm of two. -/
theorem rate_eq : rate = ((-4 * (Real.log 2)⁻¹ : ℝ) : EReal) := by
  unfold rate
  show (κ "rate").getD _ = _
  rfl

/-- The places of a slab, of a lane's block and of a lane's gates. -/
abbrev i0 (s : Fin 12) : Fin 28 := ⟨s.val, by omega⟩
abbrev i1 (s : Fin 12) (k : Fin 128) : Fin 24 := ⟨s.val * 2 + k.val / 64, by omega⟩
abbrev i2 (k : Fin 128) : Fin 64 := ⟨k.val % 64, by omega⟩
abbrev j0 (l : Fin 128) : Fin 256 := ⟨l.val, by omega⟩
abbrev j1 (l : Fin 128) : Fin 256 := ⟨128 + l.val, by omega⟩

section slab
variable (s : Fin 12) (x0 : Vec Ideal S1x4096x128 .f32)
  (a0 : FVec Ideal S28x4096x128 .f32) (a1 : FVec Ideal S1x4x1536 .f32) (a2 : FVec Ideal S1x1536 .f32)
  (aw aw' : FVec Ideal S1x2x24x64x64 .f32) (ab ab' a7 : FVec Ideal S1x2x1536 .f32)
  (h0 : ∀ t l, x0 (ix3 0 t l) = a0 (ix3 (i0 s) t l))

include h0 in
/-- A row of a slab is the row of its lanes. -/
theorem xt_eq (t : ℕ) (r : Fin 16) (l : Fin 128) : xt x0 t r l = Cert.RgFn.X a0 t r (lane s l) := by
  unfold xt Cert.RgFn.X
  have hd : (lane s l).val / 128 = s.val := by rw [lane_val]; omega
  have hm : (lane s l).val % 128 = l.val := by rw [lane_val]; omega
  simp only [hd, hm, h0, i0]

variable (p : Consts Ideal)
  (hc0 : ∀ l, p.c0 (ix2 0 l) = a1 (ix3 0 0 (lane s l))) (hc1 : ∀ l, p.c1 (ix2 0 l) = a1 (ix3 0 1 (lane s l)))
  (hc2 : ∀ l, p.c2 (ix2 0 l) = a1 (ix3 0 2 (lane s l))) (hc3 : ∀ l, p.c3 (ix2 0 l) = a1 (ix3 0 3 (lane s l)))
  (hcb : ∀ l, p.cb (ix2 0 l) = a2 (ix2 0 (lane s l)))

include h0 hc0 hc1 hc2 hc3 hcb in
/-- The convolution of a slab is the convolution of its lanes. -/
theorem xc_eq (t : ℕ) (r : Fin 16) (l : Fin 128) : xc p (xt x0) t r l = Cert.RgFn.conv a0 a1 a2 t r (lane s l) := by
  unfold xc Cert.RgFn.conv
  rw [hc0, hc1, hc2, hc3, hcb, xt_eq s x0 a0 h0, xt_eq s x0 a0 h0, xt_eq s x0 a0 h0, xt_eq s x0 a0 h0]

variable (hxc : ∀ t r l, xc p (xt x0) t r l = Cert.RgFn.conv a0 a1 a2 t r (lane s l))

include hxc in
/-- A gate's argument is half of the plain one. -/
theorem gt_eq (w : Vec Ideal S1x1x128x256 .bf16) (b : Vec Ideal S1x1x1x256 .f32) (d : Fin 2) (t : ℕ) (r : Fin 16) (l : Fin 128) (j : Fin 256)
    (hw : ∀ k : Fin 128, w (ix4 0 0 k j) = ((1/2 : ℝ) : EReal) * (aw (ix5 0 d (i1 s k) (i2 k) (i2 l)) * diag k l))
    (hb : b (ix4 0 0 0 j) = ((1/2 : ℝ) : EReal) * ab (ix3 0 d (lane s l))) :
    gt p w b (xt x0) t r j = Ideal.tanh (((1/2 : ℝ) : EReal) * Cert.RgFn.z a0 a1 a2 aw ab d t r (lane s l)) := by
  unfold gt Cert.RgFn.z
  rw [Cert.RgFn.half_add, hb]
  refine congrArg (fun q : EReal => Ideal.tanh (q + _)) ?_
  refine (Finset.sum_congr rfl fun k _ => congrArg₂ (fun x y : EReal => x * y) (hxc t r k) (hw k)).trans ?_
  refine (Cert.RgFn.block_sum (fun k => Cert.RgFn.conv a0 a1 a2 t r (lane s k))
    (fun k => aw (ix5 0 d (i1 s k) (i2 k) (i2 l))) l).trans ?_
  refine congrArg (fun q : EReal => ((1/2 : ℝ) : EReal) * q) (Finset.sum_congr rfl fun x _ => ?_)
  have e1 : s.val * 2 + (l.val / 64 * 64 + x.val) / 64 = (lane s l).val / 64 := by rw [lane_val]; omega
  have e2 : (l.val / 64 * 64 + x.val) % 64 = x.val := by omega
  have e3 : l.val % 64 = (lane s l).val % 64 := by rw [lane_val]; omega
  have e4 : lane s ⟨l.val / 64 * 64 + x.val, by omega⟩ = ⟨(lane s l).val / 64 * 64 + x.val, by have := (lane s l).isLt; omega⟩ :=
    Fin.ext (by rw [lane_val]; show s.val * 128 + (l.val / 64 * 64 + x.val) = (lane s l).val / 64 * 64 + x.val; rw [lane_val]; omega)
  simp only [i1, i2, e1, e2, e3, e4]

variable (hl : FVec Ideal S1x128 .f32) (w : Vec Ideal S1x1x128x256 .bf16) (b : Vec Ideal S1x1x1x256 .f32) (d : Fin 2)
  (hw : ∀ k l : Fin 128, w (ix4 0 0 k (j0 l)) = ((1/2 : ℝ) : EReal) * (aw (ix5 0 d (i1 s k) (i2 k) (i2 l)) * diag k l))
  (hb : ∀ l : Fin 128, b (ix4 0 0 0 (j0 l)) = ((1/2 : ℝ) : EReal) * ab (ix3 0 d (lane s l)))
  (hw' : ∀ k l : Fin 128, w (ix4 0 0 k (j1 l)) = ((1/2 : ℝ) : EReal) * (aw' (ix5 0 d (i1 s k) (i2 k) (i2 l)) * diag k l))
  (hb' : ∀ l : Fin 128, b (ix4 0 0 0 (j1 l)) = ((1/2 : ℝ) : EReal) * ab' (ix3 0 d (lane s l)))
  (hhl : ∀ l, hl (ix2 0 l) = rate * Cert.RgScalar.sp (a7 (ix3 0 d (lane s l))))
  (hlam : ∀ e, ⊥ < a7 (ix3 0 d e))

include hxc hw hb hhl hlam in
/-- The decay of a slab is the decay of its lanes. -/
theorem dA_eq (t : ℕ) (r : Fin 16) (l : Fin 128) : dA p hl w b (xt x0) t r l = Cert.RgFn.A a0 a1 a2 aw ab a7 d t r (lane s l) := by
  unfold dA Cert.RgFn.A Cert.RgFn.la
  rw [hhl, gt_eq s x0 a0 a1 a2 aw ab p hxc w b d t r l (j0 l) (fun k => hw k l) (hb l)]
  exact (Cert.RgFn.power_eq _ _ _ (hlam _) rate_eq).1

include hxc hw hb hw' hb' hhl hlam in
/-- The added term of a slab is the added term of its lanes. -/
theorem dB_eq (t : ℕ) (r : Fin 16) (l : Fin 128) : dB p hl w b (xt x0) t r l = Cert.RgFn.B a0 a1 a2 aw ab aw' ab' a7 d t r (lane s l) := by
  unfold dB
  rw [dA_eq s x0 a0 a1 a2 aw ab a7 p hxc hl w b d hw hb hhl hlam t r l,
    gt_eq s x0 a0 a1 a2 aw' ab' p hxc w b d t r l (j1 l) (fun k => hw' k l) (hb' l), Cert.RgFn.gate_eq, hxc]
  unfold Cert.RgFn.B Cert.RgFn.A Cert.RgFn.la
  rw [Cert.RgFn.factor_eq _ (Cert.RgFn.power_eq _ _ _ (hlam _) rate_eq).2]
end slab

/-- The forward states as a recurrence at a row and a lane. -/
theorem HF_sc (A B : Tm) (h : Fin 16 → Fin 128 → EReal) (r : Fin 16) (l : Fin 128) :
    ∀ n, HF A B h n r l = sc (fun t => A t r l) (fun t => B t r l) (h r l) n
  | 0 => rfl
  | n + 1 => by unfold HF sc; rw [HF_sc A B h r l n]
/-- The backward states as a recurrence at a row and a lane. -/
theorem HB_sc (A B : Tm) (h : Fin 16 → Fin 128 → EReal) (r : Fin 16) (l : Fin 128) :
    ∀ n, HB A B h n r l = sc (fun t => A (255 - t) r l) (fun t => B (255 - t) r l) (h r l) n
  | 0 => rfl
  | n + 1 => by unfold HB sc; rw [HB_sc A B h r l n]

end Cert.KernelIdeal.Rg
end
-- ==== Proof.RgKerEnd.lean ====
module

public import proofs.«01_k».proof.Proof.RgKer
public import proofs.«01_k».proof.Proof.RgArrays

/-!
# The kernel's two results as the recurrence

At an index of the results, as a function of the arguments.
-/

@[expose] public section
set_option maxRecDepth 65536

noncomputable section

namespace Cert.KernelIdeal.Rg
open Idealize.ShloMosaic Idealize.ShloMosaic.TcCoe
open Cert.KernelIdeal Cert.KernelIdeal.Facts Cert.KernelIdeal.Gen
open Cert.RgFn (sc Fw Bw)

variable (m : (ℓ : Loc nD τ sig) → Buf (Elt Ideal) ℓ) (c : Dev nD)

/-- The arguments on a device. -/
abbrev ka0 : FVec Ideal S28x4096x128 .f32 := m ((c : Thread nD τ).loc main_arg0)
abbrev ka1 : FVec Ideal S1x4x1536 .f32 := m ((c : Thread nD τ).loc main_arg1)
abbrev ka2 : FVec Ideal S1x1536 .f32 := m ((c : Thread nD τ).loc main_arg2)
abbrev ka3 : FVec Ideal S1x2x24x64x64 .f32 := m ((c : Thread nD τ).loc main_arg3)
abbrev ka4 : FVec Ideal S1x2x1536 .f32 := m ((c : Thread nD τ).loc main_arg4)
abbrev ka5 : FVec Ideal S1x2x24x64x64 .f32 := m ((c : Thread nD τ).loc main_arg5)
abbrev ka6 : FVec Ideal S1x2x1536 .f32 := m ((c : Thread nD τ).loc main_arg6)
abbrev ka7 : FVec Ideal S1x2x1536 .f32 := m ((c : Thread nD τ).loc main_arg7)
abbrev ka8 : FVec Ideal S2x16x1536 .f32 := m ((c : Thread nD τ).loc main_arg8)

/-- The loop-invariant values of a slab. -/
abbrev PP (s : Fin 12) : Consts Ideal := P (iblk m c 2 (pt s)) (iblk m c 3 (pt s)) (iblk m c 4 (pt s)) (iblk m c 5 (pt s)) (iblk m c 6 (pt s))

/-- Tap 0 of a slab is the argument's at the slab's lanes. -/
theorem pc0 (s : Fin 12) (l : Fin 128) : (PP m c s).c0 (ix2 0 l) = ka1 m c (ix3 0 0 (lane s l)) :=
  (c0_at _ _ _ _ _ l).trans ((blk2 m c s 0 l).trans (h43_at (fun b => m (c, b)) (ka1 m c) rfl 0 (lane s l)))
/-- Tap 1 of a slab is the argument's at the slab's lanes. -/
theorem pc1 (s : Fin 12) (l : Fin 128) : (PP m c s).c1 (ix2 0 l) = ka1 m c (ix3 0 1 (lane s l)) :=
  (c1_at _ _ _ _ _ l).trans ((blk2 m c s 1 l).trans (h43_at (fun b => m (c, b)) (ka1 m c) rfl 1 (lane s l)))
/-- Tap 2 of a slab is the argument's at the slab's lanes. -/
theorem pc2 (s : Fin 12) (l : Fin 128) : (PP m c s).c2 (ix2 0 l) = ka1 m c (ix3 0 2 (lane s l)) :=
  (c2_at _ _ _ _ _ l).trans ((blk2 m c s 2 l).trans (h43_at (fun b => m (c, b)) (ka1 m c) rfl 2 (lane s l)))
/-- Tap 3 of a slab is the argument's at the slab's lanes. -/
theorem pc3 (s : Fin 12) (l : Fin 128) : (PP m c s).c3 (ix2 0 l) = ka1 m c (ix3 0 3 (lane s l)) :=
  (c3_at _ _ _ _ _ l).trans ((blk2 m c s 3 l).trans (h43_at (fun b => m (c, b)) (ka1 m c) rfl 3 (lane s l)))
/-- The convolution's bias of a slab is the argument's at the slab's lanes. -/
theorem pcb (s : Fin 12) (l : Fin 128) : (PP m c s).cb (ix2 0 l) = ka2 m c (ix2 0 (lane s l)) :=
  (cb_at _ _ _ _ _ l).trans ((blk3 m c s l).trans (h45_at (fun b => m (c, b)) (ka2 m c) rfl (lane s l)))

/-- The convolution of a slab. -/
theorem pxc (s : Fin 12) (t : ℕ) (r : Fin 16) (l : Fin 128) :
    xc (PP m c s) (xt (iblk m c 0 (pt s))) t r l = Cert.RgFn.conv (ka0 m c) (ka1 m c) (ka2 m c) t r (lane s l) :=
  xc_eq s (iblk m c 0 (pt s)) (ka0 m c) (ka1 m c) (ka2 m c) (blk0 m c s) (PP m c s) (pc0 m c s) (pc1 m c s) (pc2 m c s) (pc3 m c s) (pcb m c s) t r l

variable (hlam : ∀ d e, ⊥ < ka7 m c (ix3 0 d e))

include hlam in
/-- The forward states of a slab are the recurrence's. -/
theorem hfw_eq (s : Fin 12) (n : ℕ) (r : Fin 16) (l : Fin 128) :
    hfw (PP m c s) (iblk m c 0 (pt s)) (init (iblk m c 7 (pt s))) n r l
      = Fw (ka0 m c) (ka1 m c) (ka2 m c) (ka3 m c) (ka4 m c) (ka5 m c) (ka6 m c) (ka7 m c) (ka8 m c) n r (lane s l) := by
  unfold hfw Fw
  refine (HF_sc _ _ _ r l n).trans (Cert.RgFn.sc_congr _ _ _ _ _ _ ((init1_at _ r l).trans (blk7 m c s 0 r l)) n fun t _ => ⟨?_, ?_⟩)
  · exact dA_eq s (iblk m c 0 (pt s)) (ka0 m c) (ka1 m c) (ka2 m c) (ka3 m c) (ka4 m c) (ka7 m c) (PP m c s) (pxc m c s) _ _ _ 0
      (fun k l => (wf_at _ _ _ _ _ k _).trans ((blk4 m c s 0 k _).trans (h33_at0 (fun b => m (c, b)) (ka3 m c) rfl s 0 k l)))
      (fun l => (bf_at _ _ _ _ _ _).trans ((blk5 m c s 0 _).trans (h42_at0 (fun b => m (c, b)) (ka4 m c) rfl s 0 l)))
      (fun l => (hf_at _ _ _ _ _ l).trans (congrArg (fun q => rate * Cert.RgScalar.sp q) ((blk6 m c s 0 l).trans (h46_at (fun b => m (c, b)) (ka7 m c) rfl 0 (lane s l)))))
      (hlam 0) t r l
  · exact dB_eq s (iblk m c 0 (pt s)) (ka0 m c) (ka1 m c) (ka2 m c) (ka3 m c) (ka5 m c) (ka4 m c) (ka6 m c) (ka7 m c) (PP m c s) (pxc m c s) _ _ _ 0
      (fun k l => (wf_at _ _ _ _ _ k _).trans ((blk4 m c s 0 k _).trans (h33_at0 (fun b => m (c, b)) (ka3 m c) rfl s 0 k l)))
      (fun l => (bf_at _ _ _ _ _ _).trans ((blk5 m c s 0 _).trans (h42_at0 (fun b => m (c, b)) (ka4 m c) rfl s 0 l)))
      (fun k l => (wf_at _ _ _ _ _ k _).trans ((blk4 m c s 0 k _).trans (h33_at1 (fun b => m (c, b)) (ka5 m c) rfl s 0 k l)))
      (fun l => (bf_at _ _ _ _ _ _).trans ((blk5 m c s 0 _).trans (h42_at1 (fun b => m (c, b)) (ka6 m c) rfl s 0 l)))
      (fun l => (hf_at _ _ _ _ _ l).trans (congrArg (fun q => rate * Cert.RgScalar.sp q) ((blk6 m c s 0 l).trans (h46_at (fun b => m (c, b)) (ka7 m c) rfl 0 (lane s l)))))
      (hlam 0) t r l

include hlam in
/-- The backward states of a slab are the recurrence's. -/
theorem hbw_eq (s : Fin 12) (n : ℕ) (r : Fin 16) (l : Fin 128) :
    hbw (PP m c s) (iblk m c 0 (pt s)) (init (iblk m c 7 (pt s))) n r l
      = Bw (ka0 m c) (ka1 m c) (ka2 m c) (ka3 m c) (ka4 m c) (ka5 m c) (ka6 m c) (ka7 m c) (ka8 m c) n r (lane s l) := by
  unfold hbw Bw
  refine (HB_sc _ _ _ r l n).trans (Cert.RgFn.sc_congr _ _ _ _ _ _ ((init2_at _ r l).trans (blk7 m c s 1 r l)) n fun t _ => ⟨?_, ?_⟩)
  · exact dA_eq s (iblk m c 0 (pt s)) (ka0 m c) (ka1 m c) (ka2 m c) (ka3 m c) (ka4 m c) (ka7 m c) (PP m c s) (pxc m c s) _ _ _ 1
      (fun k l => (wb_at _ _ _ _ _ k _).trans ((blk4 m c s 1 k _).trans (h33_at0 (fun b => m (c, b)) (ka3 m c) rfl s 1 k l)))
      (fun l => (bb_at _ _ _ _ _ _).trans ((blk5 m c s 1 _).trans (h42_at0 (fun b => m (c, b)) (ka4 m c) rfl s 1 l)))
      (fun l => (hb_at _ _ _ _ _ l).trans (congrArg (fun q => rate * Cert.RgScalar.sp q) ((blk6 m c s 1 l).trans (h46_at (fun b => m (c, b)) (ka7 m c) rfl 1 (lane s l)))))
      (hlam 1) (255 - t) r l
  · exact dB_eq s (iblk m c 0 (pt s)) (ka0 m c) (ka1 m c) (ka2 m c) (ka3 m c) (ka5 m c) (ka4 m c) (ka6 m c) (ka7 m c) (PP m c s) (pxc m c s) _ _ _ 1
      (fun k l => (wb_at _ _ _ _ _ k _).trans ((blk4 m c s 1 k _).trans (h33_at0 (fun b => m (c, b)) (ka3 m c) rfl s 1 k l)))
      (fun l => (bb_at _ _ _ _ _ _).trans ((blk5 m c s 1 _).trans (h42_at0 (fun b => m (c, b)) (ka4 m c) rfl s 1 l)))
      (fun k l => (wb_at _ _ _ _ _ k _).trans ((blk4 m c s 1 k _).trans (h33_at1 (fun b => m (c, b)) (ka5 m c) rfl s 1 k l)))
      (fun l => (bb_at _ _ _ _ _ _).trans ((blk5 m c s 1 _).trans (h42_at1 (fun b => m (c, b)) (ka6 m c) rfl s 1 l)))
      (fun l => (hb_at _ _ _ _ _ l).trans (congrArg (fun q => rate * Cert.RgScalar.sp q) ((blk6 m c s 1 l).trans (h46_at (fun b => m (c, b)) (ka7 m c) rfl 1 (lane s l)))))
      (hlam 1) (255 - t) r l

include hlam in
/-- The first result: the two directions' states of the step, added, times the gate. -/
theorem G8_at (s : Fin 12) (q : Fin 4096) (l : Fin 128) :
    (G8 m c : FVec Ideal S12x4096x128 .f32) (ix3 s q l)
      = ((Fw (ka0 m c) (ka1 m c) (ka2 m c) (ka3 m c) (ka4 m c) (ka5 m c) (ka6 m c) (ka7 m c) (ka8 m c) (q.val / 16 + 1) ⟨q.val % 16, by omega⟩ (lane s l)
          + Bw (ka0 m c) (ka1 m c) (ka2 m c) (ka3 m c) (ka4 m c) (ka5 m c) (ka6 m c) (ka7 m c) (ka8 m c) (256 - q.val / 16) ⟨q.val % 16, by omega⟩ (lane s l))
        * ka0 m c (ix3 ⟨s.val + 12, by omega⟩ q l) : EReal) := by
  have h := out8_at (iblk m c 0 (pt s)) (iblk m c 1 (pt s)) (iblk m c 2 (pt s)) (iblk m c 3 (pt s)) (iblk m c 4 (pt s)) (iblk m c 5 (pt s)) (iblk m c 6 (pt s)) (iblk m c 7 (pt s))
    (q.val / 16) (by omega) ⟨q.val % 16, by omega⟩ l
  have hq : (⟨16 * (q.val / 16) + q.val % 16, by omega⟩ : Fin 4096) = q := Fin.ext (by show 16 * (q.val / 16) + q.val % 16 = q.val; omega)
  simp only [hq] at h
  refine Eq.trans h ?_
  exact congrArg₂ (fun x y : EReal => x * y) (congrArg₂ (fun x y : EReal => x + y) (hfw_eq m c hlam s _ _ l) (hbw_eq m c hlam s _ _ l)) (blk1 m c s q l)

/-- A lane's slab and its place there give the lane. -/
theorem lane_split (e : Fin 1536) : lane ⟨e.val / 128, by omega⟩ ⟨e.val % 128, by omega⟩ = e :=
  Fin.ext (by rw [lane_val]; show e.val / 128 * 128 + e.val % 128 = e.val; omega)

include hlam in
/-- The second result, forward: the state after all steps. -/
theorem G9_at0 (r : Fin 16) (e : Fin 1536) :
    (G9 m c : FVec Ideal S2x16x1536 .f32) (ix3 0 r e)
      = Fw (ka0 m c) (ka1 m c) (ka2 m c) (ka3 m c) (ka4 m c) (ka5 m c) (ka6 m c) (ka7 m c) (ka8 m c) 256 r e := by
  have h := (out9_f (iblk m c 0 (pt ⟨e.val / 128, by omega⟩)) (iblk m c 1 (pt ⟨e.val / 128, by omega⟩)) _ _ _ _ _ _ r ⟨e.val % 128, by omega⟩).trans
    (hfw_eq m c hlam ⟨e.val / 128, by omega⟩ 256 r ⟨e.val % 128, by omega⟩)
  rw [lane_split] at h
  exact h

include hlam in
/-- The second result, backward: the state after all steps. -/
theorem G9_at1 (r : Fin 16) (e : Fin 1536) :
    (G9 m c : FVec Ideal S2x16x1536 .f32) (ix3 1 r e)
      = Bw (ka0 m c) (ka1 m c) (ka2 m c) (ka3 m c) (ka4 m c) (ka5 m c) (ka6 m c) (ka7 m c) (ka8 m c) 256 r e := by
  have h := (out9_b (iblk m c 0 (pt ⟨e.val / 128, by omega⟩)) (iblk m c 1 (pt ⟨e.val / 128, by omega⟩)) _ _ _ _ _ _ r ⟨e.val % 128, by omega⟩).trans
    (hbw_eq m c hlam ⟨e.val / 128, by omega⟩ 256 r ⟨e.val % 128, by omega⟩)
  rw [lane_split] at h
  exact h

end Cert.KernelIdeal.Rg
end
-- ==== Proof.RgRefLoop.lean ====
module

public import proofs.«01_k».proof.Proof.Gen.ReferenceIdeal.Run
public import Idealize.ShloMosaic.Lib.Pointwise

/-!
# The reference's loop over time

After `n` trips the carried state is the recursion's state after `n` steps, and the collected states are those of the steps done.
-/

@[expose] public section
set_option maxRecDepth 65536

noncomputable section

namespace Cert.ReferenceIdeal.Rg
open Idealize.ShloMosaic Idealize.ShloMosaic.TcCoe Idealize.ShloMosaic.Tactic Idealize.ShloMosaic.StableHlo
open Cert.ReferenceIdeal Cert.ReferenceIdeal.Facts Cert.ReferenceIdeal.Gen Cert.ReferenceIdeal.Value

/-- A value without its leading axis of one. -/
theorem drop_at (y : FVec Ideal S1x2x16x1536 .f32) (d : Fin 2) (r : Fin 16) (e : Fin 1536) :
    shapeCast S2x16x1536 y shapeCasts_S1x2x16x1536_S2x16x1536 (ix3 d r e) = y (ix4 0 d r e) := by
  pointwise

/-- A value with a leading axis of one. -/
theorem lead_at (y : FVec Ideal S2x16x1536 .f32) (d : Fin 2) (r : Fin 16) (e : Fin 1536) (z : Fin 1) :
    broadcastInDim S1x2x16x1536 ![1, 2, 3] bcast_S2x16x1536_S1x2x16x1536_1_2_3 y (ix4 z d r e) = y (ix3 d r e) := by
  pointwise

variable (st : Fin 4 → Int) (n : ℕ) (hn : n < 256) (h0 : st 0 = n) (h1 : st 1 = 0) (h2 : st 2 = 0) (h3 : st 3 = 0)

include hn h0 h1 h2 h3 in
/-- One time step of a stack. -/
theorem slice_at (x : FVec Ideal S256x2x16x1536 .f32) (d : Fin 2) (r : Fin 16) (e : Fin 1536) :
    shapeCast S2x16x1536 (Host.dynamicSlice S1x2x16x1536 x st sliceFits_S256x2x16x1536_S1x2x16x1536) shapeCasts_S1x2x16x1536_S2x16x1536 (ix3 d r e)
      = x (ix4 ⟨n, hn⟩ d r e) := by
  refine (drop_at _ d r e).trans ?_
  rw [Host.dynamicSlice_apply]
  refine congrArg x (funext fun a => ?_)
  fin_cases a
  · refine Fin.ext ?_
    show Host.clampedStart S256x2x16x1536 S1x2x16x1536 rfl st 0 + 0 = n
    rw [Host.clampedStart_of_le (s := S256x2x16x1536) (t := S1x2x16x1536) rfl st 0 n h0 (by show n + 1 ≤ 256; omega)]; rfl
  · refine Fin.ext ?_
    show Host.clampedStart S256x2x16x1536 S1x2x16x1536 rfl st 1 + d.val = d.val
    rw [Host.clampedStart_of_le (s := S256x2x16x1536) (t := S1x2x16x1536) rfl st 1 0 h1 (by show 0 + 2 ≤ 2; omega)]; omega
  · refine Fin.ext ?_
    show Host.clampedStart S256x2x16x1536 S1x2x16x1536 rfl st 2 + r.val = r.val
    rw [Host.clampedStart_of_le (s := S256x2x16x1536) (t := S1x2x16x1536) rfl st 2 0 h2 (by show 0 + 16 ≤ 16; omega)]; omega
  · refine Fin.ext ?_
    show Host.clampedStart S256x2x16x1536 S1x2x16x1536 rfl st 3 + e.val = e.val
    rw [Host.clampedStart_of_le (s := S256x2x16x1536) (t := S1x2x16x1536) rfl st 3 0 h3 (by show 0 + 1536 ≤ 1536; omega)]; omega

include hn h0 h1 h2 h3 in
/-- A stack with one time step replaced, at that step. -/
theorem update_at (y : FVec Ideal S256x2x16x1536 .f32) (u : FVec Ideal S2x16x1536 .f32) (d : Fin 2) (r : Fin 16) (e : Fin 1536) :
    Host.dynamicUpdateSlice y (broadcastInDim S1x2x16x1536 ![1, 2, 3] bcast_S2x16x1536_S1x2x16x1536_1_2_3 u) st updateFits_S256x2x16x1536_S1x2x16x1536 (ix4 ⟨n, hn⟩ d r e)
      = u (ix3 d r e) := by
  rw [Host.dynamicUpdateSlice_apply]
  have c0 := Host.clampedStart_of_le (s := S256x2x16x1536) (t := S1x2x16x1536) rfl st 0 n h0 (by show n + 1 ≤ 256; omega)
  have c1 := Host.clampedStart_of_le (s := S256x2x16x1536) (t := S1x2x16x1536) rfl st 1 0 h1 (by show 0 + 2 ≤ 2; omega)
  have c2 := Host.clampedStart_of_le (s := S256x2x16x1536) (t := S1x2x16x1536) rfl st 2 0 h2 (by show 0 + 16 ≤ 16; omega)
  have c3 := Host.clampedStart_of_le (s := S256x2x16x1536) (t := S1x2x16x1536) rfl st 3 0 h3 (by show 0 + 1536 ≤ 1536; omega)
  rw [dif_pos (fun a => by
    fin_cases a
    · show Host.clampedStart S256x2x16x1536 S1x2x16x1536 rfl st 0 ≤ n ∧ n < Host.clampedStart S256x2x16x1536 S1x2x16x1536 rfl st 0 + 1
      rw [c0]; omega
    · show Host.clampedStart S256x2x16x1536 S1x2x16x1536 rfl st 1 ≤ d.val ∧ d.val < Host.clampedStart S256x2x16x1536 S1x2x16x1536 rfl st 1 + 2
      rw [c1]; omega
    · show Host.clampedStart S256x2x16x1536 S1x2x16x1536 rfl st 2 ≤ r.val ∧ r.val < Host.clampedStart S256x2x16x1536 S1x2x16x1536 rfl st 2 + 16
      rw [c2]; omega
    · show Host.clampedStart S256x2x16x1536 S1x2x16x1536 rfl st 3 ≤ e.val ∧ e.val < Host.clampedStart S256x2x16x1536 S1x2x16x1536 rfl st 3 + 1536
      rw [c3]; omega)]
  refine Eq.trans (congrArg _ (?_ : _ = ix4 (0 : Fin 1) d r e)) (lead_at u d r e 0)
  funext a
  fin_cases a
  · exact Subsingleton.elim (α := Fin 1) _ _
  · refine Fin.ext ?_
    show d.val - Host.clampedStart S256x2x16x1536 S1x2x16x1536 rfl st 1 = d.val
    rw [c1]; rfl
  · refine Fin.ext ?_
    show r.val - Host.clampedStart S256x2x16x1536 S1x2x16x1536 rfl st 2 = r.val
    rw [c2]; rfl
  · refine Fin.ext ?_
    show e.val - Host.clampedStart S256x2x16x1536 S1x2x16x1536 rfl st 3 = e.val
    rw [c3]; rfl

include hn h0 in
/-- A stack with one time step replaced, at another step. -/
theorem update_ne (y : FVec Ideal S256x2x16x1536 .f32) (u : FVec Ideal S2x16x1536 .f32) (t : Fin 256) (d : Fin 2) (r : Fin 16) (e : Fin 1536) (ht : t.val ≠ n) :
    Host.dynamicUpdateSlice y (broadcastInDim S1x2x16x1536 ![1, 2, 3] bcast_S2x16x1536_S1x2x16x1536_1_2_3 u) st updateFits_S256x2x16x1536_S1x2x16x1536 (ix4 t d r e)
      = y (ix4 t d r e) := by
  rw [Host.dynamicUpdateSlice_apply]
  have c0 := Host.clampedStart_of_le (s := S256x2x16x1536) (t := S1x2x16x1536) rfl st 0 n h0 (by show n + 1 ≤ 256; omega)
  rw [dif_neg]
  intro hin
  have hh : Host.clampedStart S256x2x16x1536 S1x2x16x1536 rfl st 0 ≤ t.val ∧ t.val < Host.clampedStart S256x2x16x1536 S1x2x16x1536 rfl st 0 + 1 := hin 0
  rw [c0] at hh
  omega

/-- The counter after `n` trips, as an integer. -/
theorem iv_int : ∀ n : Fin 256, (Scf.iv 0#32 1#32 n.val).toInt = n.val := by decide +kernel

/-- The recursion: each step scales the state and adds to it. -/
def S (a b : FVec Ideal S256x2x16x1536 .f32) (h : FVec Ideal S2x16x1536 .f32) : ℕ → Fin 2 → Fin 16 → Fin 1536 → EReal
  | 0, d, r, e => h (ix3 d r e)
  | n + 1, d, r, e => if hn : n < 256 then a (ix4 ⟨n, hn⟩ d r e) * S a b h n d r e + b (ix4 ⟨n, hn⟩ d r e) else 0

variable (V : Valuation τ sig (Elt Ideal))

/-- The stack of decays the loop reads. -/
abbrev stA : FVec Ideal S256x2x16x1536 .f32 := V (Proc.devRef .tc main_v101_0)
/-- The stack of terms the loop adds. -/
abbrev stB : FVec Ideal S256x2x16x1536 .f32 := V (Proc.devRef .tc main_v101_1)
/-- The carried state. -/
abbrev stH : FVec Ideal S2x16x1536 .f32 := V (Proc.devRef .tc main_v101_3)

/-- A trip takes the states one step on. -/
theorem trip_state (hn : n < 256) (hc : V (Proc.devRef .tc main_v101_2) = fun _ => Scf.iv 0#32 1#32 n) (d : Fin 2) (r : Fin 16) (e : Fin 1536) :
    res_main_while0b_v118 V (ix3 d r e)
      = stA V (ix4 ⟨n, hn⟩ d r e) * stH V (ix3 d r e) + stB V (ix4 ⟨n, hn⟩ d r e) := by
  unfold res_main_while0b_v118
  rw [hc]
  refine congrArg₂ (· + ·) (congrArg₂ (· * ·) (slice_at _ n hn ?_ rfl rfl rfl _ d r e) rfl) (slice_at _ n hn ?_ rfl rfl rfl _ d r e)
  · exact iv_int ⟨n, hn⟩
  · exact iv_int ⟨n, hn⟩

/-- A trip stores the new states in the row of its step. -/
theorem trip_stack (hn : n < 256) (hc : V (Proc.devRef .tc main_v101_2) = fun _ => Scf.iv 0#32 1#32 n) (d : Fin 2) (r : Fin 16) (e : Fin 1536) :
    (step_main_v101_4 V : FVec Ideal S256x2x16x1536 .f32) (ix4 ⟨n, hn⟩ d r e) = res_main_while0b_v118 V (ix3 d r e) := by
  unfold step_main_v101_4
  rw [hc]
  exact update_at _ n hn (iv_int ⟨n, hn⟩) rfl rfl rfl _ _ d r e

/-- A trip leaves the other rows of the stored states. -/
theorem trip_stack_ne (hn : n < 256) (hc : V (Proc.devRef .tc main_v101_2) = fun _ => Scf.iv 0#32 1#32 n) (t : Fin 256) (d : Fin 2) (r : Fin 16) (e : Fin 1536) (ht : t.val ≠ n) :
    (step_main_v101_4 V : FVec Ideal S256x2x16x1536 .f32) (ix4 t d r e) = (V (Proc.devRef .tc main_v101_4) : FVec Ideal S256x2x16x1536 .f32) (ix4 t d r e) := by
  unfold step_main_v101_4
  rw [hc]
  exact update_ne _ n hn (iv_int ⟨n, hn⟩) _ _ t d r e ht

/-- The loop after `n` trips from a counter at zero. -/
theorem loop_at (hc : V (Proc.devRef .tc main_v101_2) = fun _ => (0#32 : BitVec 32)) : ∀ n ≤ 256,
    (STEP^[n] V) (Proc.devRef .tc main_v101_2) = (fun _ => Scf.iv 0#32 1#32 n)
    ∧ (STEP^[n] V) (Proc.devRef .tc main_v101_0) = V (Proc.devRef .tc main_v101_0)
    ∧ (STEP^[n] V) (Proc.devRef .tc main_v101_1) = V (Proc.devRef .tc main_v101_1)
    ∧ (∀ d r e, stH (STEP^[n] V) (ix3 d r e)
        = S (stA V) (stB V) (stH V) n d r e)
    ∧ (∀ (t : Fin 256) d r e, t.val < n → ((STEP^[n] V) (Proc.devRef .tc main_v101_4) : FVec Ideal S256x2x16x1536 .f32) (ix4 t d r e)
        = S (stA V) (stB V) (stH V) (t.val + 1) d r e)
  | 0, _ => ⟨by rw [Scf.iv_zero]; exact hc, rfl, rfl, fun _ _ _ => rfl, fun _ _ _ _ h => absurd h (Nat.not_lt_zero _)⟩
  | n + 1, hn => by
    obtain ⟨i2, i0, i1, i3, i4⟩ := loop_at hc n (by omega)
    have hn' : n < 256 := by omega
    have hs : ∀ d r e, res_main_while0b_v118 (STEP^[n] V) (ix3 d r e)
        = S (stA V) (stB V) (stH V) (n + 1) d r e := by
      intro d r e
      refine (trip_state n _ hn' i2 d r e).trans ?_
      rw [i3 d r e, show stA (STEP^[n] V) = stA V from i0, show stB (STEP^[n] V) = stB V from i1]
      rw [S, dif_pos hn']
    rw [Function.iterate_succ_apply']
    refine ⟨?_, ?_, ?_, ?_, ?_⟩
    · rw [STEP_main_v101_2]; unfold step_main_v101_2; rw [i2, Scf.iv_succ]; rfl
    · rw [STEP_main_v101_0, i0]
    · rw [STEP_main_v101_1, i1]
    · intro d r e
      exact (congrFun (STEP_main_v101_3 (STEP^[n] V)) (ix3 d r e)).trans (hs d r e)
    · intro t d r e ht
      rw [STEP_main_v101_4]
      by_cases h : t.val = n
      · obtain rfl : t = ⟨n, hn'⟩ := Fin.ext h
        exact (trip_stack n _ hn' i2 d r e).trans (hs d r e)
      · exact (trip_stack_ne n _ hn' i2 t d r e h).trans (i4 t d r e (by omega))

end Cert.ReferenceIdeal.Rg
end
-- ==== Proof.RgRefPre.lean ====
module

public import proofs.«01_k».proof.Proof.RgRefLoop
public import proofs.«01_k».proof.Proof.RgScalar
public import Idealize.ShloMosaic.Lib.Pointwise
public import Idealize.ShloMosaic.Lib.KernelVsHost

/-!
# What the reference computes before its loop

Each stretch of operations before the loop, at an index, from whatever the buffers held before it.
-/

@[expose] public section
set_option maxRecDepth 65536

noncomputable section

namespace Cert.ReferenceIdeal.Rg
open Idealize.ShloMosaic Idealize.ShloMosaic.TcCoe Idealize.ShloMosaic.StableHlo Idealize.ShloMosaic.Tactic
open Cert.ReferenceIdeal Cert.ReferenceIdeal.Facts Cert.ReferenceIdeal.Gen Cert.ReferenceIdeal.Value
variable (V : Valuation τ sig (Elt Ideal))

/-- The constant two. -/
theorem two_f32 : Ideal.ofBits .f32 0x40000000#32 = ((2 : ℝ) : EReal) := by
  simp [Ideal.ofBits, Ideal.ieee, -EReal.coe_mul]; norm_num
/-- The constant minus eight. -/
theorem neg8_f32 : Ideal.ofBits .f32 0xC1000000#32 = ((-8 : ℝ) : EReal) := by
  simp [Ideal.ofBits, Ideal.ieee, -EReal.coe_mul]; norm_num

/-- The convolved channels by time, row and lane. -/
theorem v3_at (a0 : FVec Ideal S28x4096x128 .f32) (h : V (Proc.devRef .tc main_arg0) = a0) (t : Fin 256) (r : Fin 16) (e : Fin 1536) :
   (after hostOps0 V (Proc.devRef .tc main_v3) : FVec Ideal S256x16x1536 .f32) (ix3 t r e)
    = a0 (ix3 ⟨e.val / 128, by omega⟩ ⟨16 * t.val + r.val, by omega⟩ ⟨e.val % 128, by omega⟩) := by
  after_reads_simp
  rw [h]
  pointwise
  have hn : t.val * 16 + r.val = 16 * t.val + r.val := by omega
  simp only [hn]

/-- The taps. -/
theorem v4_at (a : FVec Ideal S1x4x1536 .f32) (h : V (Proc.devRef .tc main_arg1) = a) (k : Fin 4) (e : Fin 1536) :
   (after hostOps0 V (Proc.devRef .tc main_v4) : FVec Ideal S4x1536 .f32) (ix2 k e) = a (ix3 0 k e) := by
  after_reads_simp
  rw [h]
  pointwise

/-- The convolution's bias. -/
theorem v5_at (a : FVec Ideal S1x1536 .f32) (h : V (Proc.devRef .tc main_arg2) = a) (e : Fin 1536) :
   (after hostOps0 V (Proc.devRef .tc main_v5) : FVec Ideal S1536 .f32) (ix1 e) = a (ix2 0 e) := by
  after_reads_simp
  rw [h]
  pointwise

/-- The padding value as an integer. -/
theorem c_at  :
   (after hostOps0 V (Proc.devRef .tc main_c)) = (fun _ => (0#32 : BitVec 32)) := by
  after_reads_simp
  rfl

/-- One step of the padding value before an array and two after it. -/
theorem pad_at (x : FVec Ideal S256x16x1536 .f32) (v : FVec Ideal S_ .f32) (hv : ∀ i, v i = (0 : EReal)) (t : Fin 259) (r : Fin 16) (e : Fin 1536) :
   (pad S259x16x1536 ![1, 0, 0] ![2, 0, 0] ![0, 0, 0] x v pads_S256x16x1536_S259x16x1536_120_000_000 h_S_ : FVec Ideal S259x16x1536 .f32) (ix3 t r e)
    = if h : 1 ≤ t.val ∧ t.val ≤ 256 then x (ix3 ⟨t.val - 1, by omega⟩ r e) else 0 := by
  split
  · rename_i h
    refine pad_apply_of_inside _ _ _ _ _ _ _ _ _ fun a => ?_
    match a with
    | 0 => show t.val = 1 + (t.val - 1) * (0 + 1); omega
    | 1 => show r.val = 0 + r.val * (0 + 1); omega
    | 2 => show e.val = 0 + e.val * (0 + 1); omega
  · rename_i h
    refine (pad_apply_of_not_inside _ _ _ _ _ _ _ _ 0 ?_).trans (hv _)
    show ¬(1 ≤ t.val ∧ (t.val - 1) % (0 + 1) = 0 ∧ (t.val - 1) / (0 + 1) < 256)
    omega

/-- The channels with one zero step before them and two after. -/
theorem v6_at (x : FVec Ideal S256x16x1536 .f32) (h : V (Proc.devRef .tc main_v3) = x)
   (hc : V (Proc.devRef .tc main_c) = (fun _ => (0#32 : BitVec 32))) (t : Fin 259) (r : Fin 16) (e : Fin 1536) :
   (after hostOps0_1 V (Proc.devRef .tc main_v6) : FVec Ideal S259x16x1536 .f32) (ix3 t r e)
    = if h : 1 ≤ t.val ∧ t.val ≤ 256 then x (ix3 ⟨t.val - 1, by omega⟩ r e) else 0 := by
  after_reads_simp
  rw [h, hc]
  simp only [TRef.ofBuf_toBuf]
  exact pad_at x _ (fun _ => by show ((((0#32 : BitVec 32).toInt : ℤ) : ℝ) : EReal) = 0; simp) t r e

/-- The convolution along time. -/
theorem v36_at (x6 : FVec Ideal S259x16x1536 .f32) (x4 : FVec Ideal S4x1536 .f32) (x5 : FVec Ideal S1536 .f32)
   (h6 : V (Proc.devRef .tc main_v6) = x6) (h4 : V (Proc.devRef .tc main_v4) = x4) (h5 : V (Proc.devRef .tc main_v5) = x5)
   (t : Fin 256) (r : Fin 16) (e : Fin 1536) :
   (after hostOps0_2 V (Proc.devRef .tc main_v36) : FVec Ideal S256x16x1536 .f32) (ix3 t r e)
    = x4 (ix2 0 e) * x6 (ix3 ⟨t.val, by omega⟩ r e) + x4 (ix2 1 e) * x6 (ix3 ⟨1 + t.val, by omega⟩ r e)
      + x4 (ix2 2 e) * x6 (ix3 ⟨2 + t.val, by omega⟩ r e) + x4 (ix2 3 e) * x6 (ix3 ⟨3 + t.val, by omega⟩ r e) + x5 (ix1 e) := by
  after_reads_simp
  rw [h6, h4, h5]
  pointwise

/-- A maximum with zero, and the logarithm beside it, at an index: the printed form of the activation. -/
theorem softplus_at (x : FVec Ideal S2x1536 .f32) (d : Fin 2) (e : Fin 1536) :
   (select (cmpf .une (subf x (broadcastInDim S2x1536 ![] bcast_S_S2x1536 (constant S_ .f32 0#32))) (subf x (broadcastInDim S2x1536 ![] bcast_S_S2x1536 (constant S_ .f32 0#32))))
      (addf x (broadcastInDim S2x1536 ![] bcast_S_S2x1536 (constant S_ .f32 0#32)))
      (addf (maximumf x (broadcastInDim S2x1536 ![] bcast_S_S2x1536 (constant S_ .f32 0#32)))
        (Host.log1p (Host.exp (Host.negf (Host.absf (subf x (broadcastInDim S2x1536 ![] bcast_S_S2x1536 (constant S_ .f32 0#32)))))))) : FVec Ideal S2x1536 .f32) (ix2 d e)
    = Cert.RgScalar.sp (-(x (ix2 d e))) := by
  unfold Cert.RgScalar.sp
  have habs : ∀ y : Ideal .f32, FloatOps.absf y = (max (y : EReal) (-y) : EReal) := fun _ => rfl
  pointwise
  rw [habs]
  simp only [ne_eq, not_true, if_false, neg_neg]

/-- The activated decay parameter. -/
theorem v70_at (x : FVec Ideal S2x1536 .f32) (h : V (Proc.devRef .tc main_v69) = x) (d : Fin 2) (e : Fin 1536) :
   (after hostOps0_3 V (Proc.devRef .tc main_v70) : FVec Ideal S2x1536 .f32) (ix2 d e) = Cert.RgScalar.sp (-(x (ix2 d e))) := by
  after_reads_simp
  rw [h]
  simp only [TRef.ofBuf_toBuf]
  exact softplus_at x d e

/-- The convolution's sum at a time, a row and a lane. -/
def cv (x6 : FVec Ideal S259x16x1536 .f32) (x4 : FVec Ideal S4x1536 .f32) (x5 : FVec Ideal S1536 .f32) (t : Fin 256) (r : Fin 16) (e : Fin 1536) : EReal :=
  x4 (ix2 0 e) * x6 (ix3 ⟨t.val, by omega⟩ r e) + x4 (ix2 1 e) * x6 (ix3 ⟨1 + t.val, by omega⟩ r e)
    + x4 (ix2 2 e) * x6 (ix3 ⟨2 + t.val, by omega⟩ r e) + x4 (ix2 3 e) * x6 (ix3 ⟨3 + t.val, by omega⟩ r e) + x5 (ix1 e)

/-- A gate's argument: the lane's block of 64 lanes against the gate's weights, plus the bias. -/
def zv (x6 : FVec Ideal S259x16x1536 .f32) (x4 : FVec Ideal S4x1536 .f32) (x5 : FVec Ideal S1536 .f32) (w : FVec Ideal S1x2x24x64x64 .f32) (b : FVec Ideal S1x2x1536 .f32)
    (d : Fin 2) (t : Fin 256) (r : Fin 16) (e : Fin 1536) : EReal :=
  (∑ x : Fin 64, w (ix5 0 d ⟨e.val / 64, by omega⟩ x ⟨e.val % 64, by omega⟩) * cv x6 x4 x5 t r ⟨e.val / 64 * 64 + x.val, by omega⟩) + b (ix3 0 d e)

/-- The input gate. -/
theorem v65_at (x6 : FVec Ideal S259x16x1536 .f32) (x4 : FVec Ideal S4x1536 .f32) (x5 : FVec Ideal S1536 .f32)
   (h6 : V (Proc.devRef .tc main_v6) = x6) (h4 : V (Proc.devRef .tc main_v4) = x4) (h5 : V (Proc.devRef .tc main_v5) = x5)
   (w : FVec Ideal S1x2x24x64x64 .f32) (b : FVec Ideal S1x2x1536 .f32)
   (hw : V (Proc.devRef .tc main_arg5) = w) (hb : V (Proc.devRef .tc main_arg6) = b)
   (d : Fin 2) (t : Fin 256) (r : Fin 16) (e : Fin 1536) :
   (after hostOps0_2 V (Proc.devRef .tc main_v65) : FVec Ideal S2x256x16x1536 .f32) (ix4 d t r e)
    = (Cert.RgScalar.sig (zv x6 x4 x5 w b d t r e) : EReal) := by
  after_reads_simp
  rw [h6, h4, h5, hw, hb]
  unfold Cert.RgScalar.sig zv cv
  pointwise

/-- The decay's rate times the recurrence gate. -/
theorem v67_at (x6 : FVec Ideal S259x16x1536 .f32) (x4 : FVec Ideal S4x1536 .f32) (x5 : FVec Ideal S1536 .f32)
   (h6 : V (Proc.devRef .tc main_v6) = x6) (h4 : V (Proc.devRef .tc main_v4) = x4) (h5 : V (Proc.devRef .tc main_v5) = x5)
   (w : FVec Ideal S1x2x24x64x64 .f32) (b : FVec Ideal S1x2x1536 .f32)
   (hw : V (Proc.devRef .tc main_arg3) = w) (hb : V (Proc.devRef .tc main_arg4) = b)
   (d : Fin 2) (t : Fin 256) (r : Fin 16) (e : Fin 1536) :
   (after hostOps0_2 V (Proc.devRef .tc main_v67) : FVec Ideal S2x256x16x1536 .f32) (ix4 d t r e)
    = (((-8 : ℝ) : EReal) * Cert.RgScalar.sig (zv x6 x4 x5 w b d t r e) : EReal) := by
  after_reads_simp
  rw [h6, h4, h5, hw, hb]
  unfold Cert.RgScalar.sig zv cv
  rw [← neg8_f32]
  pointwise

/-- Minus the decay parameter. -/
theorem v69_at (a : FVec Ideal S1x2x1536 .f32) (h : V (Proc.devRef .tc main_arg7) = a) (d : Fin 2) (e : Fin 1536) :
   (after hostOps0_2 V (Proc.devRef .tc main_v69) : FVec Ideal S2x1536 .f32) (ix2 d e) = -(a (ix3 0 d e)) := by
  after_reads_simp
  rw [h]
  pointwise

/-- Two stacks side by side, at the first. -/
theorem side0_at (p q : FVec Ideal S256x1x16x1536 .f32) (t : Fin 256) (r : Fin 16) (e : Fin 1536) :
    concatenate S256x2x16x1536 1 [⟨S256x1x16x1536, p⟩, ⟨S256x1x16x1536, q⟩] concatenates_S256x1x16x1536_S256x1x16x1536_S256x2x16x1536_d1 (ix4 t 0 r e) = p (ix4 t 0 r e) := by
  pointwise
/-- Two stacks side by side, at the second. -/
theorem side1_at (p q : FVec Ideal S256x1x16x1536 .f32) (t : Fin 256) (r : Fin 16) (e : Fin 1536) :
    concatenate S256x2x16x1536 1 [⟨S256x1x16x1536, p⟩, ⟨S256x1x16x1536, q⟩] concatenates_S256x1x16x1536_S256x1x16x1536_S256x2x16x1536_d1 (ix4 t 1 r e) = q (ix4 t 0 r e) := by
  pointwise

end Cert.ReferenceIdeal.Rg
end
-- ==== Proof.RgRefLast.lean ====
module

public import proofs.«01_k».proof.Proof.RgRefPre

/-!
# The decays and the added terms as the reference's loop finds them

Forward and backward side by side, the backward ones with the last step first.
-/

@[expose] public section
set_option maxRecDepth 65536

noncomputable section

namespace Cert.ReferenceIdeal.Rg
open Idealize.ShloMosaic Idealize.ShloMosaic.TcCoe Idealize.ShloMosaic.StableHlo Idealize.ShloMosaic.Tactic
open Cert.ReferenceIdeal Cert.ReferenceIdeal.Facts Cert.ReferenceIdeal.Gen Cert.ReferenceIdeal.Value
variable (V : Valuation τ sig (Elt Ideal))

section last
variable (x67 : FVec Ideal S2x256x16x1536 .f32) (x70 : FVec Ideal S2x1536 .f32) (x65 : FVec Ideal S2x256x16x1536 .f32) (x36 : FVec Ideal S256x16x1536 .f32)
  (h : V (Proc.devRef .tc main_v67) = x67) (h' : V (Proc.devRef .tc main_v70) = x70)
  (h65 : V (Proc.devRef .tc main_v65) = x65) (h36 : V (Proc.devRef .tc main_v36) = x36)
  (t : Fin 256) (r : Fin 16) (e : Fin 1536)

include h h' in
/-- The decays, forward, before they are put side by side. -/
theorem pre89_at : (upto hostOps0_4 V 21 (Proc.devRef .tc main_v89) : FVec Ideal S256x1x16x1536 .f32) (ix4 t 0 r e) = (Ideal.exp (x67 (ix4 0 t r e) * x70 (ix2 0 e)) : EReal) := by
  after_reads_simp
  rw [h, h']
  pointwise
include h h' in
/-- The decays, forward. -/
theorem v101_0_at0 : (after hostOps0_4 V (Proc.devRef .tc main_v101_0) : FVec Ideal S256x2x16x1536 .f32) (ix4 t 0 r e) = (Ideal.exp (x67 (ix4 0 t r e) * x70 (ix2 0 e)) : EReal) := by
  after_reads_simp
  exact (side0_at _ _ t r e).trans (pre89_at V x67 x70 h h' t r e)

include h h' in
/-- The decays, backward, the last step first, before they are put side by side. -/
theorem pre90_at : (upto hostOps0_4 V 21 (Proc.devRef .tc main_v90) : FVec Ideal S256x1x16x1536 .f32) (ix4 t 0 r e) = (Ideal.exp (x67 (ix4 1 t.rev r e) * x70 (ix2 1 e)) : EReal) := by
  after_reads_simp
  rw [h, h']
  pointwise
  simp only [List.mem_singleton, Fin.isValue, Fin.reduceEq, if_true, if_false, reduceIte]
include h h' in
/-- The decays, backward, the last step first. -/
theorem v101_0_at1 : (after hostOps0_4 V (Proc.devRef .tc main_v101_0) : FVec Ideal S256x2x16x1536 .f32) (ix4 t 1 r e) = (Ideal.exp (x67 (ix4 1 t.rev r e) * x70 (ix2 1 e)) : EReal) := by
  after_reads_simp
  exact (side1_at _ _ t r e).trans (pre90_at V x67 x70 h h' t r e)

include h h' h65 h36 in
/-- The terms added, forward, before they are put side by side. -/
theorem pre97_at : (upto hostOps0_4 V 29 (Proc.devRef .tc main_v97) : FVec Ideal S256x1x16x1536 .f32) (ix4 t 0 r e) = (Ideal.sqrt (-(Ideal.expm1 (((2 : ℝ) : EReal) * (x67 (ix4 0 t r e) * x70 (ix2 0 e))))) * (x65 (ix4 0 t r e) * x36 (ix3 t r e)) : EReal) := by
  after_reads_simp
  rw [h, h', h65, h36, ← two_f32]
  unfold Ideal.expm1
  pointwise
include h h' h65 h36 in
/-- The terms added, forward. -/
theorem v101_1_at0 : (after hostOps0_4 V (Proc.devRef .tc main_v101_1) : FVec Ideal S256x2x16x1536 .f32) (ix4 t 0 r e) = (Ideal.sqrt (-(Ideal.expm1 (((2 : ℝ) : EReal) * (x67 (ix4 0 t r e) * x70 (ix2 0 e))))) * (x65 (ix4 0 t r e) * x36 (ix3 t r e)) : EReal) := by
  after_reads_simp
  exact (side0_at _ _ t r e).trans (pre97_at V x67 x70 x65 x36 h h' h65 h36 t r e)

include h h' h65 h36 in
/-- The terms added, backward, the last step first, before they are put side by side. -/
theorem pre98_at : (upto hostOps0_4 V 29 (Proc.devRef .tc main_v98) : FVec Ideal S256x1x16x1536 .f32) (ix4 t 0 r e) = (Ideal.sqrt (-(Ideal.expm1 (((2 : ℝ) : EReal) * (x67 (ix4 1 t.rev r e) * x70 (ix2 1 e))))) * (x65 (ix4 1 t.rev r e) * x36 (ix3 t.rev r e)) : EReal) := by
  after_reads_simp
  rw [h, h', h65, h36, ← two_f32]
  unfold Ideal.expm1
  pointwise
  simp only [List.mem_singleton, Fin.isValue, Fin.reduceEq, if_true, if_false, reduceIte]
include h h' h65 h36 in
/-- The terms added, backward, the last step first. -/
theorem v101_1_at1 : (after hostOps0_4 V (Proc.devRef .tc main_v101_1) : FVec Ideal S256x2x16x1536 .f32) (ix4 t 1 r e) = (Ideal.sqrt (-(Ideal.expm1 (((2 : ℝ) : EReal) * (x67 (ix4 1 t.rev r e) * x70 (ix2 1 e))))) * (x65 (ix4 1 t.rev r e) * x36 (ix3 t.rev r e)) : EReal) := by
  after_reads_simp
  exact (side1_at _ _ t r e).trans (pre98_at V x67 x70 x65 x36 h h' h65 h36 t r e)

end last

end Cert.ReferenceIdeal.Rg
end
-- ==== Proof.RgRef.lean ====
module

public import proofs.«01_k».proof.Proof.RgRefLast
public import proofs.«01_k».proof.Proof.RgFn

/-!
# The reference's decays and added terms are the recurrence's

The stretches before the loop put one after the other, from the arguments.
-/

@[expose] public section
set_option maxRecDepth 65536

noncomputable section

namespace Cert.ReferenceIdeal.Rg
open Idealize.ShloMosaic Idealize.ShloMosaic.TcCoe Idealize.ShloMosaic.StableHlo
open Cert.ReferenceIdeal Cert.ReferenceIdeal.Facts Cert.ReferenceIdeal.Gen Cert.ReferenceIdeal.Value

variable (V : Valuation τ sig (Elt Ideal))

/-- What the buffers hold after the first one to five stretches. -/
abbrev E1 : Valuation τ sig (Elt Ideal) := after hostOps0 V
abbrev E2 : Valuation τ sig (Elt Ideal) := after hostOps0_1 (E1 V)
abbrev E3 : Valuation τ sig (Elt Ideal) := after hostOps0_2 (E2 V)
abbrev E4 : Valuation τ sig (Elt Ideal) := after hostOps0_3 (E3 V)
abbrev E5 : Valuation τ sig (Elt Ideal) := after hostOps0_4 (E4 V)

/-- A buffer that stretch 1 does not write keeps its value over it. -/
theorem keep1 (b : Ref sig .tc) (h : b ∉ hostOps0_W) : E1 V (Proc.devRef .tc b) = V (Proc.devRef .tc b) := after_of_writes_sub hostOps0 V hostOps0_writes h
/-- A buffer that stretch 2 does not write keeps its value over it. -/
theorem keep2 (b : Ref sig .tc) (h : b ∉ hostOps0_1_W) : E2 V (Proc.devRef .tc b) = E1 V (Proc.devRef .tc b) := after_of_writes_sub hostOps0_1 _ hostOps0_1_writes h
/-- A buffer that stretch 3 does not write keeps its value over it. -/
theorem keep3 (b : Ref sig .tc) (h : b ∉ hostOps0_2_W) : E3 V (Proc.devRef .tc b) = E2 V (Proc.devRef .tc b) := after_of_writes_sub hostOps0_2 _ hostOps0_2_writes h
/-- A buffer that stretch 4 does not write keeps its value over it. -/
theorem keep4 (b : Ref sig .tc) (h : b ∉ hostOps0_3_W) : E4 V (Proc.devRef .tc b) = E3 V (Proc.devRef .tc b) := after_of_writes_sub hostOps0_3 _ hostOps0_3_writes h
/-- A buffer that stretch 5 does not write keeps its value over it. -/
theorem keep5 (b : Ref sig .tc) (h : b ∉ hostOps0_4_W) : E5 V (Proc.devRef .tc b) = E4 V (Proc.devRef .tc b) := after_of_writes_sub hostOps0_4 _ hostOps0_4_writes h

/-- A buffer that neither of the first two stretches writes keeps its value over both. -/
theorem keep12 (b : Ref sig .tc) (h : b ∉ hostOps0_W) (h' : b ∉ hostOps0_1_W) : E2 V (Proc.devRef .tc b) = V (Proc.devRef .tc b) := (keep2 V b h').trans (keep1 V b h)

variable (a0 : FVec Ideal S28x4096x128 .f32) (a1 : FVec Ideal S1x4x1536 .f32) (a2 : FVec Ideal S1x1536 .f32)
  (a3 a5 : FVec Ideal S1x2x24x64x64 .f32) (a4 a6 a7 : FVec Ideal S1x2x1536 .f32)
  (g0 : V (Proc.devRef .tc main_arg0) = a0) (g1 : V (Proc.devRef .tc main_arg1) = a1) (g2 : V (Proc.devRef .tc main_arg2) = a2)
  (g3 : V (Proc.devRef .tc main_arg3) = a3) (g4 : V (Proc.devRef .tc main_arg4) = a4) (g5 : V (Proc.devRef .tc main_arg5) = a5)
  (g6 : V (Proc.devRef .tc main_arg6) = a6) (g7 : V (Proc.devRef .tc main_arg7) = a7)

/-- The padded channels, the taps and the bias as the third stretch finds them. -/
abbrev y6 : FVec Ideal S259x16x1536 .f32 := E2 V (Proc.devRef .tc main_v6)
abbrev y4 : FVec Ideal S4x1536 .f32 := E2 V (Proc.devRef .tc main_v4)
abbrev y5 : FVec Ideal S1536 .f32 := E2 V (Proc.devRef .tc main_v5)

include g0 in
/-- The padded channels are the recurrence's. -/
theorem y6_at (t : Fin 259) (r : Fin 16) (e : Fin 1536) : y6 V (ix3 t r e) = Cert.RgFn.X a0 t.val r e := by
  refine (v6_at (E1 V) _ rfl (c_at V) t r e).trans ?_
  unfold Cert.RgFn.X
  by_cases h : 1 ≤ t.val ∧ t.val ≤ 256
  · rw [dif_pos h, dif_pos h]; exact v3_at V a0 g0 ⟨t.val - 1, by omega⟩ r e
  · rw [dif_neg h, dif_neg h]
include g1 in
/-- The taps are the argument's. -/
theorem y4_at (k : Fin 4) (e : Fin 1536) : y4 V (ix2 k e) = a1 (ix3 0 k e) :=
  (congrFun (keep2 V main_v4 (by decide +kernel)) _).trans (v4_at V a1 g1 k e)
include g2 in
/-- The convolution's bias is the argument's. -/
theorem y5_at (e : Fin 1536) : y5 V (ix1 e) = a2 (ix2 0 e) :=
  (congrFun (keep2 V main_v5 (by decide +kernel)) _).trans (v5_at V a2 g2 e)

include g0 g1 g2 in
/-- The convolution. -/
theorem cv_eq (t : Fin 256) (r : Fin 16) (e : Fin 1536) : cv (y6 V) (y4 V) (y5 V) t r e = Cert.RgFn.conv a0 a1 a2 t.val r e := by
  unfold cv Cert.RgFn.conv
  rw [y4_at V a1 g1, y4_at V a1 g1, y4_at V a1 g1, y4_at V a1 g1, y5_at V a2 g2, y6_at V a0 g0, y6_at V a0 g0, y6_at V a0 g0, y6_at V a0 g0,
    Nat.add_comm t.val 1, Nat.add_comm t.val 2, Nat.add_comm t.val 3]

include g0 g1 g2 in
/-- A gate's argument. -/
theorem zv_eq (w : FVec Ideal S1x2x24x64x64 .f32) (b : FVec Ideal S1x2x1536 .f32) (d : Fin 2) (t : Fin 256) (r : Fin 16) (e : Fin 1536) :
    zv (y6 V) (y4 V) (y5 V) w b d t r e = Cert.RgFn.z a0 a1 a2 w b d t.val r e := by
  unfold zv Cert.RgFn.z
  refine congrArg (fun q : EReal => q + _) (Finset.sum_congr rfl fun x _ => ?_)
  rw [cv_eq V a0 a1 a2 g0 g1 g2]

/-- What the last stretch finds: the exponents, the activated parameters, the input gates and the convolution. -/
abbrev y67 : FVec Ideal S2x256x16x1536 .f32 := E4 V (Proc.devRef .tc main_v67)
abbrev y70 : FVec Ideal S2x1536 .f32 := E4 V (Proc.devRef .tc main_v70)
abbrev y65 : FVec Ideal S2x256x16x1536 .f32 := E4 V (Proc.devRef .tc main_v65)
abbrev y36 : FVec Ideal S256x16x1536 .f32 := E4 V (Proc.devRef .tc main_v36)

include g0 g1 g2 g3 g4 in
/-- The exponents before softplus: minus eight times the recurrence gate. -/
theorem y67_at (d : Fin 2) (t : Fin 256) (r : Fin 16) (e : Fin 1536) :
    y67 V (ix4 d t r e) = ((-8 : ℝ) : EReal) * Cert.RgScalar.sig (Cert.RgFn.z a0 a1 a2 a3 a4 d t.val r e) := by
  refine (congrFun (keep4 V main_v67 (by decide +kernel)) _).trans ?_
  refine (v67_at (E2 V) _ _ _ rfl rfl rfl a3 a4 ((keep12 V main_arg3 (by decide +kernel) (by decide +kernel)).trans g3) ((keep12 V main_arg4 (by decide +kernel) (by decide +kernel)).trans g4) d t r e).trans ?_
  rw [zv_eq V a0 a1 a2 g0 g1 g2]
include g0 g1 g2 g5 g6 in
/-- The input gate. -/
theorem y65_at (d : Fin 2) (t : Fin 256) (r : Fin 16) (e : Fin 1536) :
    y65 V (ix4 d t r e) = Cert.RgScalar.sig (Cert.RgFn.z a0 a1 a2 a5 a6 d t.val r e) := by
  refine (congrFun (keep4 V main_v65 (by decide +kernel)) _).trans ?_
  refine (v65_at (E2 V) _ _ _ rfl rfl rfl a5 a6 ((keep12 V main_arg5 (by decide +kernel) (by decide +kernel)).trans g5) ((keep12 V main_arg6 (by decide +kernel) (by decide +kernel)).trans g6) d t r e).trans ?_
  rw [zv_eq V a0 a1 a2 g0 g1 g2]
include g0 g1 g2 in
/-- The convolution. -/
theorem y36_at (t : Fin 256) (r : Fin 16) (e : Fin 1536) : y36 V (ix3 t r e) = Cert.RgFn.conv a0 a1 a2 t.val r e := by
  refine (congrFun (keep4 V main_v36 (by decide +kernel)) _).trans ?_
  exact (v36_at (E2 V) _ _ _ rfl rfl rfl t r e).trans (cv_eq V a0 a1 a2 g0 g1 g2 t r e)
include g7 in
/-- Softplus of minus the decay parameters. -/
theorem y70_at (d : Fin 2) (e : Fin 1536) : y70 V (ix2 d e) = Cert.RgScalar.sp (a7 (ix3 0 d e)) := by
  refine (v70_at (E3 V) _ rfl d e).trans ?_
  refine congrArg Cert.RgScalar.sp ?_
  refine (congrArg (fun q : EReal => -q) (v69_at (E2 V) a7 ((keep12 V main_arg7 (by decide +kernel) (by decide +kernel)).trans g7) d e)).trans ?_
  exact neg_neg _

/-- What the loop starts from. -/
abbrev sA : FVec Ideal S256x2x16x1536 .f32 := E5 V (Proc.devRef .tc main_v101_0)
abbrev sB : FVec Ideal S256x2x16x1536 .f32 := E5 V (Proc.devRef .tc main_v101_1)

include g0 g1 g2 g3 g4 g7 in
/-- The first direction's decays, in the order of time. -/
theorem sA0 (t : Fin 256) (r : Fin 16) (e : Fin 1536) : sA V (ix4 t 0 r e) = Cert.RgFn.A a0 a1 a2 a3 a4 a7 0 t.val r e := by
  refine (v101_0_at0 (E4 V) (y67 V) (y70 V) rfl rfl t r e).trans ?_
  rw [y67_at V a0 a1 a2 a3 a4 g0 g1 g2 g3 g4, y70_at V a7 g7]
  rfl
include g0 g1 g2 g3 g4 g7 in
/-- The second direction's decays, in the reversed order of time. -/
theorem sA1 (t : Fin 256) (r : Fin 16) (e : Fin 1536) : sA V (ix4 t 1 r e) = Cert.RgFn.A a0 a1 a2 a3 a4 a7 1 (255 - t.val) r e := by
  refine (v101_0_at1 (E4 V) (y67 V) (y70 V) rfl rfl t r e).trans ?_
  rw [y67_at V a0 a1 a2 a3 a4 g0 g1 g2 g3 g4, y70_at V a7 g7]
  have h : t.rev.val = 255 - t.val := by rw [Fin.val_rev]; omega
  rw [h]
  rfl
include g0 g1 g2 g3 g4 g5 g6 g7 in
/-- The first direction's added terms, in the order of time. -/
theorem sB0 (t : Fin 256) (r : Fin 16) (e : Fin 1536) : sB V (ix4 t 0 r e) = Cert.RgFn.B a0 a1 a2 a3 a4 a5 a6 a7 0 t.val r e := by
  refine (v101_1_at0 (E4 V) (y67 V) (y70 V) (y65 V) (y36 V) rfl rfl rfl rfl t r e).trans ?_
  rw [y67_at V a0 a1 a2 a3 a4 g0 g1 g2 g3 g4, y70_at V a7 g7, y65_at V a0 a1 a2 a5 a6 g0 g1 g2 g5 g6, y36_at V a0 a1 a2 g0 g1 g2]
  rfl
include g0 g1 g2 g3 g4 g5 g6 g7 in
/-- The second direction's added terms, in the reversed order of time. -/
theorem sB1 (t : Fin 256) (r : Fin 16) (e : Fin 1536) : sB V (ix4 t 1 r e) = Cert.RgFn.B a0 a1 a2 a3 a4 a5 a6 a7 1 (255 - t.val) r e := by
  refine (v101_1_at1 (E4 V) (y67 V) (y70 V) (y65 V) (y36 V) rfl rfl rfl rfl t r e).trans ?_
  rw [y67_at V a0 a1 a2 a3 a4 g0 g1 g2 g3 g4, y70_at V a7 g7, y65_at V a0 a1 a2 a5 a6 g0 g1 g2 g5 g6, y36_at V a0 a1 a2 g0 g1 g2]
  have h : t.rev.val = 255 - t.val := by rw [Fin.val_rev]; omega
  rw [h]
  rfl

end Cert.ReferenceIdeal.Rg
end
-- ==== Proof.RgRefEnd.lean ====
module

public import proofs.«01_k».proof.Proof.RgRef

/-!
# The reference's two results as the recurrence

At an index of the results, as a function of the arguments.
-/

@[expose] public section
set_option maxRecDepth 65536

noncomputable section

namespace Cert.ReferenceIdeal.Rg
open Idealize.ShloMosaic Idealize.ShloMosaic.TcCoe Idealize.ShloMosaic.StableHlo Idealize.ShloMosaic.Tactic
open Cert.ReferenceIdeal Cert.ReferenceIdeal.Facts Cert.ReferenceIdeal.Gen Cert.ReferenceIdeal.Value
open Cert.RgFn (sc Fw Bw)

/-- The loop's states in terms of the coefficients at a direction, a row and a lane. -/
theorem S_sc (a b : FVec Ideal S256x2x16x1536 .f32) (h : FVec Ideal S2x16x1536 .f32) (A B : ℕ → EReal) (d : Fin 2) (r : Fin 16) (e : Fin 1536)
    (hA : ∀ t : Fin 256, a (ix4 t d r e) = A t.val) (hB : ∀ t : Fin 256, b (ix4 t d r e) = B t.val) :
    ∀ n ≤ 256, S a b h n d r e = sc A B (h (ix3 d r e)) n
  | 0, _ => rfl
  | n + 1, hn => by
    unfold S sc
    rw [dif_pos (show n < 256 by omega), hA ⟨n, by omega⟩, hB ⟨n, by omega⟩, S_sc a b h A B d r e hA hB n (by omega)]

section out
variable (y : FVec Ideal S256x2x16x1536 .f32) (x : FVec Ideal S28x4096x128 .f32) (V0 : Valuation τ sig (Elt Ideal))
  (h : V0 (Proc.devRef .tc main_v101_4) = y) (h' : V0 (Proc.devRef .tc main_arg0) = x)
include h h' in
/-- The operations after the loop, at an index. -/
theorem out_at (s : Fin 12) (q : Fin 4096) (l : Fin 128) :
    (out_main_v114 V0 : FVec Ideal S12x4096x128 .f32) (ix3 s q l)
      = ((y (ix4 ⟨q.val / 16, by omega⟩ 0 ⟨q.val % 16, by omega⟩ ⟨s.val * 128 + l.val, by omega⟩)
          + y (ix4 (⟨q.val / 16, by omega⟩ : Fin 256).rev 1 ⟨q.val % 16, by omega⟩ ⟨s.val * 128 + l.val, by omega⟩))
        * x (ix3 ⟨12 + s.val, by omega⟩ q l) : EReal) := by
  unfold out_main_v114
  rw [h, h']
  pointwise
  simp only [List.mem_singleton, Fin.isValue, Fin.reduceEq, if_true, if_false, reduceIte]
end out

variable (m : (ℓ : Loc nD τ sig) → Buf (Elt Ideal) ℓ) (c : Dev nD)

/-- The loop is entered after the five stretches. -/
theorem entry_eq : entryContents preI m c = E5 (fun b => m (c, b)) := by
  simp only [entryContents, afterL_cons, afterL_nil]

/-- The state the loop starts from is the last argument. -/
theorem v101_3_at (V : Valuation τ sig (Elt Ideal)) : after hostOps0_4 V (Proc.devRef .tc main_v101_3) = V (Proc.devRef .tc main_arg8) := by
  after_reads_simp
  rw [id_eq]

/-- The arguments on a device. -/
abbrev ra0 : FVec Ideal S28x4096x128 .f32 := m ((c : Thread nD τ).loc main_arg0)
abbrev ra1 : FVec Ideal S1x4x1536 .f32 := m ((c : Thread nD τ).loc main_arg1)
abbrev ra2 : FVec Ideal S1x1536 .f32 := m ((c : Thread nD τ).loc main_arg2)
abbrev ra3 : FVec Ideal S1x2x24x64x64 .f32 := m ((c : Thread nD τ).loc main_arg3)
abbrev ra4 : FVec Ideal S1x2x1536 .f32 := m ((c : Thread nD τ).loc main_arg4)
abbrev ra5 : FVec Ideal S1x2x24x64x64 .f32 := m ((c : Thread nD τ).loc main_arg5)
abbrev ra6 : FVec Ideal S1x2x1536 .f32 := m ((c : Thread nD τ).loc main_arg6)
abbrev ra7 : FVec Ideal S1x2x1536 .f32 := m ((c : Thread nD τ).loc main_arg7)
abbrev ra8 : FVec Ideal S2x16x1536 .f32 := m ((c : Thread nD τ).loc main_arg8)

/-- What the loop starts from. -/
abbrev EV : Valuation τ sig (Elt Ideal) := E5 (fun b => m (c, b))

/-- The states the loop starts from are the argument's. -/
theorem h0_at (d : Fin 2) (r : Fin 16) (e : Fin 1536) : stH (EV m c) (ix3 d r e) = ra8 m c (ix3 d r e) := by
  refine (congrFun (v101_3_at (E4 fun b => m (c, b))) _).trans ?_
  refine (congrFun (keep4 (fun b => m (c, b)) main_arg8 (by decide +kernel)) _).trans ?_
  refine (congrFun (keep3 (fun b => m (c, b)) main_arg8 (by decide +kernel)) _).trans ?_
  exact congrFun (keep12 (fun b => m (c, b)) main_arg8 (by decide +kernel) (by decide +kernel)) _

/-- The loop's forward states are the recurrence's. -/
theorem S_fw (n : ℕ) (hn : n ≤ 256) (r : Fin 16) (e : Fin 1536) :
    S (stA (EV m c)) (stB (EV m c)) (stH (EV m c)) n 0 r e
      = Fw (ra0 m c) (ra1 m c) (ra2 m c) (ra3 m c) (ra4 m c) (ra5 m c) (ra6 m c) (ra7 m c) (ra8 m c) n r e := by
  unfold Fw
  rw [← h0_at m c 0 r e]
  exact S_sc _ _ _ _ _ 0 r e
    (fun t => sA0 (fun b => m (c, b)) (ra0 m c) (ra1 m c) (ra2 m c) (ra3 m c) (ra4 m c) (ra7 m c) rfl rfl rfl rfl rfl rfl t r e)
    (fun t => sB0 (fun b => m (c, b)) (ra0 m c) (ra1 m c) (ra2 m c) (ra3 m c) (ra5 m c) (ra4 m c) (ra6 m c) (ra7 m c) rfl rfl rfl rfl rfl rfl rfl rfl t r e) n hn

/-- The loop's backward states are the recurrence's. -/
theorem S_bw (n : ℕ) (hn : n ≤ 256) (r : Fin 16) (e : Fin 1536) :
    S (stA (EV m c)) (stB (EV m c)) (stH (EV m c)) n 1 r e
      = Bw (ra0 m c) (ra1 m c) (ra2 m c) (ra3 m c) (ra4 m c) (ra5 m c) (ra6 m c) (ra7 m c) (ra8 m c) n r e := by
  unfold Bw
  rw [← h0_at m c 1 r e]
  exact S_sc _ _ _ (fun t => Cert.RgFn.A (ra0 m c) (ra1 m c) (ra2 m c) (ra3 m c) (ra4 m c) (ra7 m c) 1 (255 - t) r e)
    (fun t => Cert.RgFn.B (ra0 m c) (ra1 m c) (ra2 m c) (ra3 m c) (ra4 m c) (ra5 m c) (ra6 m c) (ra7 m c) 1 (255 - t) r e) 1 r e
    (fun t => sA1 (fun b => m (c, b)) (ra0 m c) (ra1 m c) (ra2 m c) (ra3 m c) (ra4 m c) (ra7 m c) rfl rfl rfl rfl rfl rfl t r e)
    (fun t => sB1 (fun b => m (c, b)) (ra0 m c) (ra1 m c) (ra2 m c) (ra3 m c) (ra5 m c) (ra4 m c) (ra6 m c) (ra7 m c) rfl rfl rfl rfl rfl rfl rfl rfl t r e) n hn

/-- The loop's counter starts at zero. -/
theorem hc0 : EV m c (Proc.devRef .tc main_v101_2) = fun _ => (0#32 : BitVec 32) :=
  (congrFun (entry_eq m c) _).symm.trans (ctr_entry m c)

/-- The first result: the two directions' states of the step, added, times the gate. -/
theorem first_at (s : Fin 12) (q : Fin 4096) (l : Fin 128) :
    (out_main_v114 (STEP^[256] (entryContents preI m c)) : FVec Ideal S12x4096x128 .f32) (ix3 s q l)
      = ((Fw (ra0 m c) (ra1 m c) (ra2 m c) (ra3 m c) (ra4 m c) (ra5 m c) (ra6 m c) (ra7 m c) (ra8 m c) (q.val / 16 + 1) ⟨q.val % 16, by omega⟩ ⟨s.val * 128 + l.val, by omega⟩
          + Bw (ra0 m c) (ra1 m c) (ra2 m c) (ra3 m c) (ra4 m c) (ra5 m c) (ra6 m c) (ra7 m c) (ra8 m c) (256 - q.val / 16) ⟨q.val % 16, by omega⟩ ⟨s.val * 128 + l.val, by omega⟩)
        * ra0 m c (ix3 ⟨s.val + 12, by omega⟩ q l) : EReal) := by
  refine (out_at _ (ra0 m c) _ rfl (iter_main_arg0 m c 256) s q l).trans ?_
  rw [entry_eq m c]
  obtain ⟨_, _, _, _, h4⟩ := loop_at (EV m c) (hc0 m c) 256 (le_refl _)
  have e1 := (h4 ⟨q.val / 16, by omega⟩ 0 ⟨q.val % 16, by omega⟩ ⟨s.val * 128 + l.val, by omega⟩ (by show q.val / 16 < 256; omega)).trans
    (S_fw m c (q.val / 16 + 1) (by omega) ⟨q.val % 16, by omega⟩ ⟨s.val * 128 + l.val, by omega⟩)
  have e2 := h4 (⟨q.val / 16, by omega⟩ : Fin 256).rev 1 ⟨q.val % 16, by omega⟩ ⟨s.val * 128 + l.val, by omega⟩ (Fin.isLt _)
  have hr : (⟨q.val / 16, by omega⟩ : Fin 256).rev.val + 1 = 256 - q.val / 16 := by rw [Fin.val_rev]; show 256 - (q.val / 16 + 1) + 1 = _; omega
  rw [hr, S_bw m c (256 - q.val / 16) (by omega)] at e2
  have e3 : (⟨12 + s.val, by omega⟩ : Fin 28) = ⟨s.val + 12, by omega⟩ := Fin.ext (Nat.add_comm _ _)
  rw [e3]
  exact congrArg₂ (fun x y : EReal => x * y) (congrArg₂ (fun x y : EReal => x + y) e1 e2) rfl

/-- The second result, forward. -/
theorem second_at0 (r : Fin 16) (e : Fin 1536) :
    ((STEP^[256] (entryContents preI m c)) (Proc.devRef .tc main_v101_3) : FVec Ideal S2x16x1536 .f32) (ix3 0 r e)
      = Fw (ra0 m c) (ra1 m c) (ra2 m c) (ra3 m c) (ra4 m c) (ra5 m c) (ra6 m c) (ra7 m c) (ra8 m c) 256 r e := by
  rw [entry_eq m c]
  exact ((loop_at (EV m c) (hc0 m c) 256 (le_refl _)).2.2.2.1 0 r e).trans (S_fw m c 256 (le_refl _) r e)

/-- The second result, backward. -/
theorem second_at1 (r : Fin 16) (e : Fin 1536) :
    ((STEP^[256] (entryContents preI m c)) (Proc.devRef .tc main_v101_3) : FVec Ideal S2x16x1536 .f32) (ix3 1 r e)
      = Bw (ra0 m c) (ra1 m c) (ra2 m c) (ra3 m c) (ra4 m c) (ra5 m c) (ra6 m c) (ra7 m c) (ra8 m c) 256 r e := by
  rw [entry_eq m c]
  exact ((loop_at (EV m c) (hc0 m c) 256 (le_refl _)).2.2.2.1 1 r e).trans (S_bw m c 256 (le_refl _) r e)

end Cert.ReferenceIdeal.Rg
end
-- ==== Proof.RgClaims.lean ====
/- The claims about the recurrence call: the frames of the three programs, the named constant, and the equality of results. -/
module

public import proofs.«01_k».proof.Defs
public import proofs.«01_k».proof.Proof.RgPFrame
public import proofs.«01_k».proof.Proof.RgKerEnd
public import proofs.«01_k».proof.Proof.RgRefEnd
public import Idealize.ShloMosaic.Adequacy
public import Idealize.ShloMosaic.Init

@[expose] public section

set_option maxRecDepth 65536

noncomputable section

namespace Cert.Proof.RgClaims

open Idealize.ShloMosaic Idealize.ShloMosaic.TcCoe Idealize.ShloMosaic.StableHlo Idealize.SL.Sem

/-- The side condition of the precondition's one broadcast. -/
theorem preFacts : Cert.Pre_decay_above.Facts := ⟨by decide⟩

/-- The kernel as printed runs, leaves its arguments as they were and every semaphore at zero. -/
theorem frame_p : Cert.quiescent_Kernel := fun m ρ _ => Cert.Kernel.Rg.frame m ρ

/-- The same of the kernel read over the extended reals. -/
theorem frame_pi : Cert.quiescent_KernelIdeal := fun m ρ _ => Cert.KernelIdeal.Rg.frame m ρ

/-- The same under the precondition. -/
theorem frame_pi_pre : Cert.quiescent_KernelIdeal_pre_decay_above (hPre_decay_above := preFacts) := fun m ρ _ => Cert.KernelIdeal.Rg.frame m ρ

/-- The reference runs, leaves its arguments as they were, and has no semaphore. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The same under the precondition. -/
theorem frame_ri_pre : Cert.quiescent_ReferenceIdeal_pre_decay_above (hPre_decay_above := preFacts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The one rewritten operation is a constant that is given its name. -/
theorem preserves : Cert.preserves_Kernel_KernelIdeal := IdealRules.named_const.statement _ _ _ _ _ rfl

/-- The bits of minus infinity. -/
theorem bot_f32 : Ideal.ofBits .f32 0xFF800000#32 = ⊥ := by simp [Ideal.ofBits, Ideal.ieee]

/-- Where the comparison with minus infinity holds the value is above it. -/
theorem above_of_cmp (a : EReal) (h : (FloatOps.cmpf (F := Ideal) (φ := .f32) .ogt a (Ideal.ofBits .f32 0xFF800000#32 : EReal) : BitVec 1) = 1#1) : ⊥ < a := by
  rw [bot_f32] at h
  by_contra hn
  have h0 : (FloatOps.cmpf (F := Ideal) (φ := .f32) .ogt a (⊥ : EReal) : BitVec 1) = 0#1 := by
    show BitVec.ofBool (decide (a > ⊥)) = 0#1
    rw [decide_eq_false hn]; rfl
  rw [h0] at h
  exact absurd h (by decide)

/-- The precondition at an index: no decay parameter is minus infinity. -/
theorem lam_above (m : (ℓ : Loc Cert.KernelIdeal.nD Cert.KernelIdeal.τ Cert.KernelIdeal.sig) → Buf (Elt Ideal) ℓ)
    (hpre : Cert.Pre_KernelIdeal_decay_above (hPre_decay_above := preFacts) m) (c : Dev Cert.KernelIdeal.nD) (d : Fin 2) (e : Fin 1536) :
    ⊥ < Cert.KernelIdeal.Rg.ka7 m c (ix3 0 d e) :=
  above_of_cmp _ (congrFun (hpre c) (ix3 0 d e))

/-- The reference's first result is the kernel's, of the same arguments. -/
theorem first_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hlam : ∀ d e, ⊥ < Cert.KernelIdeal.Rg.ka7 m c (ix3 0 d e))
    (h0 : Cert.ReferenceIdeal.Rg.ra0 m' c = Cert.KernelIdeal.Rg.ka0 m c) (h1 : Cert.ReferenceIdeal.Rg.ra1 m' c = Cert.KernelIdeal.Rg.ka1 m c)
    (h2 : Cert.ReferenceIdeal.Rg.ra2 m' c = Cert.KernelIdeal.Rg.ka2 m c) (h3 : Cert.ReferenceIdeal.Rg.ra3 m' c = Cert.KernelIdeal.Rg.ka3 m c)
    (h4 : Cert.ReferenceIdeal.Rg.ra4 m' c = Cert.KernelIdeal.Rg.ka4 m c) (h5 : Cert.ReferenceIdeal.Rg.ra5 m' c = Cert.KernelIdeal.Rg.ka5 m c)
    (h6 : Cert.ReferenceIdeal.Rg.ra6 m' c = Cert.KernelIdeal.Rg.ka6 m c) (h7 : Cert.ReferenceIdeal.Rg.ra7 m' c = Cert.KernelIdeal.Rg.ka7 m c)
    (h8 : Cert.ReferenceIdeal.Rg.ra8 m' c = Cert.KernelIdeal.Rg.ka8 m c) :
    (Cert.ReferenceIdeal.Value.out_main_v114 (Cert.ReferenceIdeal.Value.STEP^[256] (entryContents Cert.ReferenceIdeal.Value.preI m' c))
      : FVec Ideal ⟨3, ![12, 4096, 128]⟩ .f32) = Cert.KernelIdeal.Rg.G8 m c := by
  funext i
  rw [eq_ix3 i]
  refine (Cert.ReferenceIdeal.Rg.first_at m' c (i 0) (i 1) (i 2)).trans (Eq.trans ?_ (Cert.KernelIdeal.Rg.G8_at m c hlam (i 0) (i 1) (i 2)).symm)
  rw [h0, h1, h2, h3, h4, h5, h6, h7, h8]
  simp only [Cert.KernelIdeal.Rg.lane]

/-- The reference's second result is the kernel's, of the same arguments. -/
theorem second_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hlam : ∀ d e, ⊥ < Cert.KernelIdeal.Rg.ka7 m c (ix3 0 d e))
    (h0 : Cert.ReferenceIdeal.Rg.ra0 m' c = Cert.KernelIdeal.Rg.ka0 m c) (h1 : Cert.ReferenceIdeal.Rg.ra1 m' c = Cert.KernelIdeal.Rg.ka1 m c)
    (h2 : Cert.ReferenceIdeal.Rg.ra2 m' c = Cert.KernelIdeal.Rg.ka2 m c) (h3 : Cert.ReferenceIdeal.Rg.ra3 m' c = Cert.KernelIdeal.Rg.ka3 m c)
    (h4 : Cert.ReferenceIdeal.Rg.ra4 m' c = Cert.KernelIdeal.Rg.ka4 m c) (h5 : Cert.ReferenceIdeal.Rg.ra5 m' c = Cert.KernelIdeal.Rg.ka5 m c)
    (h6 : Cert.ReferenceIdeal.Rg.ra6 m' c = Cert.KernelIdeal.Rg.ka6 m c) (h7 : Cert.ReferenceIdeal.Rg.ra7 m' c = Cert.KernelIdeal.Rg.ka7 m c)
    (h8 : Cert.ReferenceIdeal.Rg.ra8 m' c = Cert.KernelIdeal.Rg.ka8 m c) :
    ((Cert.ReferenceIdeal.Value.STEP^[256] (entryContents Cert.ReferenceIdeal.Value.preI m' c)) (Proc.devRef .tc Cert.ReferenceIdeal.main_v101_3)
      : FVec Ideal ⟨3, ![2, 16, 1536]⟩ .f32) = Cert.KernelIdeal.Rg.G9 m c := by
  funext i
  rw [eq_ix3 i]
  have hd : ∀ d : Fin 2, d = 0 ∨ d = 1 := by decide
  rcases hd (i 0) with hi | hi
  · rw [hi]
    refine (Cert.ReferenceIdeal.Rg.second_at0 m' c (i 1) (i 2)).trans (Eq.trans ?_ (Cert.KernelIdeal.Rg.G9_at0 m c hlam (i 1) (i 2)).symm)
    rw [h0, h1, h2, h3, h4, h5, h6, h7, h8]
  · rw [hi]
    refine (Cert.ReferenceIdeal.Rg.second_at1 m' c (i 1) (i 2)).trans (Eq.trans ?_ (Cert.KernelIdeal.Rg.G9_at1 m c hlam (i 1) (i 2)).symm)
    rw [h0, h1, h2, h3, h4, h5, h6, h7, h8]

/-- Both programs end with the same two arrays: of every time step the two directions' states added, times the
gate, and the two directions' last states. -/
theorem algebraic : Cert.algebraic_KernelIdeal_ReferenceIdeal_pre_decay_above (hPre_decay_above := preFacts) := by
  intro m ρ m' ρ' hpre hagree
  have hlam := lam_above m hpre
  refine ⟨fun c => Cert.KernelIdeal.Rg.G8 m c, fun c => Cert.KernelIdeal.Rg.G9 m c, ?_, ?_⟩
  · exact (θ_run Cert.KernelIdeal.defs _ _).mono
      (fun _ h c => ⟨((h.1 c).1 8).trans (Cert.KernelIdeal.Rg.final8 m c), ((h.1 c).1 9).trans (Cert.KernelIdeal.Rg.final9 m c), h.2.1 c⟩)
      (θ_run_and (Cert.KernelIdeal.Rg.run_main m ρ) (Cert.KernelIdeal.Rg.frame m ρ))
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7, h8⟩ := hagree c
      exact first_eq m m' c (hlam c) h0 h1 h2 h3 h4 h5 h6 h7 h8
    · obtain ⟨h0, h1, h2, h3, h4, h5, h6, h7, h8⟩ := hagree c
      exact second_eq m m' c (hlam c) h0 h1 h2 h3 h4 h5 h6 h7 h8

end Cert.Proof.RgClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Loops
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.FfnClaims
public import proofs.«01_k».proof.Proof.RgClaims
public import Idealize.ShloMosaic.Adequacy
public import Idealize.ShloMosaic.Init

@[expose] public section

noncomputable section

namespace Cert.Proof

open Idealize.ShloMosaic Idealize.SL.Sem

/-- Every claim of the test file. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, RgClaims.preFacts,
    RgClaims.frame_p, RgClaims.frame_pi, RgClaims.frame_pi_pre, RgClaims.frame_ri, RgClaims.frame_ri_pre,
    FfnClaims.frame_p, FfnClaims.frame_pi, FfnClaims.frame_ri,
    RgClaims.preserves, RgClaims.algebraic, FfnClaims.preserves, FfnClaims.algebraic⟩

end Cert.Proof

end
